-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2_0) = v0 c
          ∧ r.2.mem ((c.tc : Thread Cert.Reference2Ideal.nD Cert.Reference2Ideal.τ).loc Cert.Reference2Ideal.main_v4) = v1 c
          ∧ r.2.mem ((c.tc : Thread Cert.Reference2Ideal.nD Cert.Reference2Ideal.τ).loc Cert.Reference2Ideal.main_v2_2) = v2 c
          ∧ r.2.mem ((c.tc : Thread Cert.Reference2Ideal.nD Cert.Reference2Ideal.τ).loc Cert.Reference2Ideal.main_v6) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3_0) = v0 c
          ∧ r.2.mem ((c.tc : Thread Cert.Reference3Ideal.nD Cert.Reference3Ideal.τ).loc Cert.Reference3Ideal.main_v3_1) = v1 c
          ∧ r.2.mem ((c.tc : Thread Cert.Reference3Ideal.nD Cert.Reference3Ideal.τ).loc Cert.Reference3Ideal.main_v4) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S992x8192 : Shape := ⟨2, ![992, 8192]⟩
abbrev S992x1 : Shape := ⟨2, ![992, 1]⟩
abbrev S8192x3072 : Shape := ⟨2, ![8192, 3072]⟩
abbrev S3072 : Shape := ⟨1, ![3072]⟩
abbrev S1x3072 : Shape := ⟨2, ![1, 3072]⟩
abbrev S12x224x256 : Shape := ⟨3, ![12, 224, 256]⟩
abbrev S12x768x256 : Shape := ⟨3, ![12, 768, 256]⟩
abbrev S12x8192x256 : Shape := ⟨3, ![12, 8192, 256]⟩
abbrev S224x8192 : Shape := ⟨2, ![224, 8192]⟩
abbrev S768x8192 : Shape := ⟨2, ![768, 8192]⟩
abbrev S992x128 : Shape := ⟨2, ![992, 128]⟩
abbrev S12 : Shape := ⟨1, ![12]⟩
abbrev S1 : Shape := ⟨1, ![1]⟩
abbrev S_ : Shape := ⟨0, ![]⟩
abbrev S1x8192x256 : Shape := ⟨3, ![1, 8192, 256]⟩
abbrev S8192x256 : Shape := ⟨2, ![8192, 256]⟩
abbrev S224x256 : Shape := ⟨2, ![224, 256]⟩
abbrev S224x128 : Shape := ⟨2, ![224, 128]⟩
abbrev S1x256 : Shape := ⟨2, ![1, 256]⟩
abbrev S32x256 : Shape := ⟨2, ![32, 256]⟩
abbrev S1x32x256 : Shape := ⟨3, ![1, 32, 256]⟩
abbrev S768x256 : Shape := ⟨2, ![768, 256]⟩
abbrev S768x128 : Shape := ⟨2, ![768, 128]⟩
abbrev S1x768x256 : Shape := ⟨3, ![1, 768, 256]⟩

abbrev nBuf : Space → Nat
  | .hbm => 9
  | .vmem => 10
  | .smem => 0
  | _ => 0

abbrev bufTy : (tb : Table) → Fin (tcTables nBuf tb) → BufTy
  | .hbm, ⟨0, _⟩ => ⟨S992x8192, .fp8e4m3⟩
  | .hbm, ⟨1, _⟩ => ⟨S992x1, .f32⟩
  | .hbm, ⟨2, _⟩ => ⟨S8192x3072, .fp8e4m3⟩
  | .hbm, ⟨3, _⟩ => ⟨S3072, .f32⟩
  | .hbm, ⟨4, _⟩ => ⟨S3072, .f32⟩
  | .hbm, ⟨5, _⟩ => ⟨S1x3072, .f32⟩
  | .hbm, ⟨6, _⟩ => ⟨S1x3072, .f32⟩
  | .hbm, ⟨7, _⟩ => ⟨S12x224x256, .f32⟩
  | .hbm, ⟨8, _⟩ => ⟨S12x768x256, .f32⟩
  | .local _ .vmem, ⟨0, _⟩ => ⟨S992x8192, .fp8e4m3⟩
  | .local _ .vmem, ⟨1, _⟩ => ⟨S992x1, .f32⟩
  | .local _ .vmem, ⟨2, _⟩ => ⟨S1x3072, .f32⟩
  | .local _ .vmem, ⟨3, _⟩ => ⟨S1x3072, .f32⟩
  | .local _ .vmem, ⟨4, _⟩ => ⟨S12x224x256, .f32⟩
  | .local _ .vmem, ⟨5, _⟩ => ⟨S12x768x256, .f32⟩
  | .local _ .vmem, ⟨6, _⟩ => ⟨S12x8192x256, .fp8e4m3⟩
  | .local _ .vmem, ⟨7, _⟩ => ⟨S224x8192, .fp8e4m3⟩
  | .local _ .vmem, ⟨8, _⟩ => ⟨S768x8192, .fp8e4m3⟩
  | .local _ .vmem, ⟨9, _⟩ => ⟨S992x128, .f32⟩
  | _, _ => ⟨S992x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c256_i32 : BitVec 32 := 256#32
  c256_i32
def k0_mult3 : BitVec 32 :=
  let c512_i32 : BitVec 32 := 512#32
  c512_i32
def k0_mult4 : BitVec 32 :=
  let c768_i32 : BitVec 32 := 768#32
  c768_i32
def k0_mult5 : BitVec 32 :=
  let c1024_i32 : BitVec 32 := 1024#32
  c1024_i32
def k0_mult6 : BitVec 32 :=
  let c1280_i32 : BitVec 32 := 1280#32
  c1280_i32
def k0_mult7 : BitVec 32 :=
  let c1536_i32 : BitVec 32 := 1536#32
  c1536_i32
def k0_mult8 : BitVec 32 :=
  let c1792_i32 : BitVec 32 := 1792#32
  c1792_i32
def k0_mult9 : BitVec 32 :=
  let c2048_i32 : BitVec 32 := 2048#32
  c2048_i32
def k0_mult10 : BitVec 32 :=
  let c2304_i32 : BitVec 32 := 2304#32
  c2304_i32
def k0_mult11 : BitVec 32 :=
  let c2560_i32 : BitVec 32 := 2560#32
  c2560_i32
def k0_mult12 : BitVec 32 :=
  let c2816_i32 : BitVec 32 := 2816#32
  c2816_i32
@[reducible] def k0_t1_loop : Scf.Loop 32 :=
  let c0_i32_59 : BitVec 32 := 0#32
  let c12_i32 : BitVec 32 := 12#32
  let v86 : BitVec 32 := Scalar.addi c0_i32_59 c12_i32
  let c1_i32_60 : BitVec 32 := 1#32
  ⟨c0_i32_59, v86, c1_i32_60⟩
def k0_mult13 (k0_t1 : Fin k0_t1_loop.trips) : BitVec 32 :=
  let c0_i32_59 : BitVec 32 := 0#32
  let c1_i32_60 : BitVec 32 := 1#32
  let arg12 : BitVec 32 := Scf.iv c0_i32_59 c1_i32_60 k0_t1
  let c256_i32_219 : BitVec 32 := 256#32
  let v327 : BitVec 32 := Scalar.muli arg12 c256_i32_219
  v327
def k0_off1 (k0_t1 : Fin k0_t1_loop.trips) : Fin 1 → Nat :=
  let c0_i32_59 : BitVec 32 := 0#32
  let c1_i32_60 : BitVec 32 := 1#32
  let arg12 : BitVec 32 := Scf.iv c0_i32_59 c1_i32_60 k0_t1
  ![arg12.toNat]
def k0_off2 (k0_t1 : Fin k0_t1_loop.trips) : Fin 3 → Nat :=
  let c0_i32_59 : BitVec 32 := 0#32
  let c1_i32_60 : BitVec 32 := 1#32
  let arg12 : BitVec 32 := Scf.iv c0_i32_59 c1_i32_60 k0_t1
  let c0_i32_220 : BitVec 32 := 0#32
  let c0_i32_221 : BitVec 32 := 0#32
  ![arg12.toNat, 0, 0]
def k0_off3 (k0_t1 : Fin k0_t1_loop.trips) : Fin 2 → Nat :=
  let c0_i32_222 : BitVec 32 := 0#32
  let c0_i32_59 : BitVec 32 := 0#32
  let c1_i32_60 : BitVec 32 := 1#32
  let arg12 : BitVec 32 := Scf.iv c0_i32_59 c1_i32_60 k0_t1
  let c256_i32_219 : BitVec 32 := 256#32
  let v327 : BitVec 32 := Scalar.muli arg12 c256_i32_219
  let v328 : BitVec 32 := v327
  ![0, v328.toNat]
def k0_off4 (k0_t1 : Fin k0_t1_loop.trips) : Fin 3 → Nat :=
  let c0_i32_59 : BitVec 32 := 0#32
  let c1_i32_60 : BitVec 32 := 1#32
  let arg12 : BitVec 32 := Scf.iv c0_i32_59 c1_i32_60 k0_t1
  let v335 : Index := Scalar.indexCast arg12
  let c0_225 : Index := 0#32
  let c0_226 : Index := 0#32
  ![v335.toNat, 0, 0]
def k0_mult14 (k0_t1 : Fin k0_t1_loop.trips) : BitVec 32 :=
  let c0_i32_59 : BitVec 32 := 0#32
  let c1_i32_60 : BitVec 32 := 1#32
  let arg12 : BitVec 32 := Scf.iv c0_i32_59 c1_i32_60 k0_t1
  let c256_i32_228 : BitVec 32 := 256#32
  let v339 : BitVec 32 := Scalar.muli arg12 c256_i32_228
  v339
def k0_off5 (k0_t1 : Fin k0_t1_loop.trips) : Fin 2 → Nat :=
  let c0_231 : Index := 0#32
  let c0_i32_59 : BitVec 32 := 0#32
  let c1_i32_60 : BitVec 32 := 1#32
  let arg12 : BitVec 32 := Scf.iv c0_i32_59 c1_i32_60 k0_t1
  let c256_i32_228 : BitVec 32 := 256#32
  let v339 : BitVec 32 := Scalar.muli arg12 c256_i32_228
  let v340 : BitVec 32 := v339
  let v344 : Index := Scalar.indexCast v340
  ![0, v344.toNat]
def k0_off6 (k0_t1 : Fin k0_t1_loop.trips) : Fin 3 → Nat :=
  let c0_i32_59 : BitVec 32 := 0#32
  let c1_i32_60 : BitVec 32 := 1#32
  let arg12 : BitVec 32 := Scf.iv c0_i32_59 c1_i32_60 k0_t1
  let v357 : Index := Scalar.indexCast arg12
  let c0_233 : Index := 0#32
  let c0_234 : Index := 0#32
  ![v357.toNat, 0, 0]
def k0_off7 (k0_t1 : Fin k0_t1_loop.trips) : Fin 3 → Nat :=
  let c0_i32_59 : BitVec 32 := 0#32
  let c1_i32_60 : BitVec 32 := 1#32
  let arg12 : BitVec 32 := Scf.iv c0_i32_59 c1_i32_60 k0_t1
  let v362 : Index := Scalar.indexCast arg12
  let c32 : Index := 32#32
  let c0_235 : Index := 0#32
  ![v362.toNat, 32, 0]
def k0_off8 (k0_t1 : Fin k0_t1_loop.trips) : Fin 3 → Nat :=
  let c0_i32_59 : BitVec 32 := 0#32
  let c1_i32_60 : BitVec 32 := 1#32
  let arg12 : BitVec 32 := Scf.iv c0_i32_59 c1_i32_60 k0_t1
  let v367 : Index := Scalar.indexCast arg12
  let c64 : Index := 64#32
  let c0_236 : Index := 0#32
  ![v367.toNat, 64, 0]
def k0_off9 (k0_t1 : Fin k0_t1_loop.trips) : Fin 3 → Nat :=
  let c0_i32_59 : BitVec 32 := 0#32
  let c1_i32_60 : BitVec 32 := 1#32
  let arg12 : BitVec 32 := Scf.iv c0_i32_59 c1_i32_60 k0_t1
  let v372 : Index := Scalar.indexCast arg12
  let c96 : Index := 96#32
  let c0_237 : Index := 0#32
  ![v372.toNat, 96, 0]
def k0_off10 (k0_t1 : Fin k0_t1_loop.trips) : Fin 3 → Nat :=
  let c0_i32_59 : BitVec 32 := 0#32
  let c1_i32_60 : BitVec 32 := 1#32
  let arg12 : BitVec 32 := Scf.iv c0_i32_59 c1_i32_60 k0_t1
  let v377 : Index := Scalar.indexCast arg12
  let c128 : Index := 128#32
  let c0_238 : Index := 0#32
  ![v377.toNat, 128, 0]
def k0_off11 (k0_t1 : Fin k0_t1_loop.trips) : Fin 3 → Nat :=
  let c0_i32_59 : BitVec 32 := 0#32
  let c1_i32_60 : BitVec 32 := 1#32
  let arg12 : BitVec 32 := Scf.iv c0_i32_59 c1_i32_60 k0_t1
  let v382 : Index := Scalar.indexCast arg12
  let c160 : Index := 160#32
  let c0_239 : Index := 0#32
  ![v382.toNat, 160, 0]
def k0_off12 (k0_t1 : Fin k0_t1_loop.trips) : Fin 3 → Nat :=
  let c0_i32_59 : BitVec 32 := 0#32
  let c1_i32_60 : BitVec 32 := 1#32
  let arg12 : BitVec 32 := Scf.iv c0_i32_59 c1_i32_60 k0_t1
  let v387 : Index := Scalar.indexCast arg12
  let c192 : Index := 192#32
  let c0_240 : Index := 0#32
  ![v387.toNat, 192, 0]
abbrev stage0_0 : Fin 1 → Memref sig .tc .vmem S992x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S992x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x224x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x768x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S992x8192 : Shape := ⟨2, ![992, 8192]⟩
abbrev S992x1 : Shape := ⟨2, ![992, 1]⟩
abbrev S8192x3072 : Shape := ⟨2, ![8192, 3072]⟩
abbrev S3072 : Shape := ⟨1, ![3072]⟩
abbrev S1x3072 : Shape := ⟨2, ![1, 3072]⟩
abbrev S992x3072 : Shape := ⟨2, ![992, 3072]⟩
abbrev S992x12x256 : Shape := ⟨3, ![992, 12, 256]⟩
abbrev S12x992x256 : Shape := ⟨3, ![12, 992, 256]⟩
abbrev S12x224x256 : Shape := ⟨3, ![12, 224, 256]⟩
abbrev S12x768x256 : Shape := ⟨3, ![12, 768, 256]⟩

abbrev nBuf : Space → Nat
  | .hbm => 12
  | .vmem => 6
  | .smem => 0
  | _ => 0

abbrev bufTy : (tb : Table) → Fin (tcTables nBuf tb) → BufTy
  | .hbm, ⟨0, _⟩ => ⟨S992x8192, .fp8e4m3⟩
  | .hbm, ⟨1, _⟩ => ⟨S992x1, .f32⟩
  | .hbm, ⟨2, _⟩ => ⟨S8192x3072, .fp8e4m3⟩
  | .hbm, ⟨3, _⟩ => ⟨S3072, .f32⟩
  | .hbm, ⟨4, _⟩ => ⟨S3072, .f32⟩
  | .hbm, ⟨5, _⟩ => ⟨S1x3072, .f32⟩
  | .hbm, ⟨6, _⟩ => ⟨S1x3072, .f32⟩
  | .hbm, ⟨7, _⟩ => ⟨S992x3072, .f32⟩
  | .hbm, ⟨8, _⟩ => ⟨S992x12x256, .f32⟩
  | .hbm, ⟨9, _⟩ => ⟨S12x992x256, .f32⟩
  | .hbm, ⟨10, _⟩ => ⟨S12x224x256, .f32⟩
  | .hbm, ⟨11, _⟩ => ⟨S12x768x256, .f32⟩
  | .local _ .vmem, ⟨0, _⟩ => ⟨S992x8192, .fp8e4m3⟩
  | .local _ .vmem, ⟨1, _⟩ => ⟨S992x1, .f32⟩
  | .local _ .vmem, ⟨2, _⟩ => ⟨S8192x3072, .fp8e4m3⟩
  | .local _ .vmem, ⟨3, _⟩ => ⟨S1x3072, .f32⟩
  | .local _ .vmem, ⟨4, _⟩ => ⟨S1x3072, .f32⟩
  | .local _ .vmem, ⟨5, _⟩ => ⟨S992x3072, .f32⟩
  | _, _ => ⟨S992x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S992x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S992x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S992x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Kernel2.lean ====
abbrev S992x3072 : Shape := ⟨2, ![992, 3072]⟩
abbrev S992x1 : Shape := ⟨2, ![992, 1]⟩
abbrev S3072x256 : Shape := ⟨2, ![3072, 256]⟩
abbrev S256 : Shape := ⟨1, ![256]⟩
abbrev S1x256 : Shape := ⟨2, ![1, 256]⟩
abbrev S124x8x128 : Shape := ⟨3, ![124, 8, 128]⟩
abbrev S4x8x31 : Shape := ⟨3, ![4, 8, 31]⟩
abbrev S224x8192 : Shape := ⟨2, ![224, 8192]⟩
abbrev S768x8192 : Shape := ⟨2, ![768, 8192]⟩
abbrev S992x128 : Shape := ⟨2, ![992, 128]⟩
abbrev S12x2048x256 : Shape := ⟨3, ![12, 2048, 256]⟩
abbrev S_ : Shape := ⟨0, ![]⟩
abbrev S8x128 : Shape := ⟨2, ![8, 128]⟩
abbrev S224x3072 : Shape := ⟨2, ![224, 3072]⟩
abbrev S768x3072 : Shape := ⟨2, ![768, 3072]⟩
abbrev S224x256 : Shape := ⟨2, ![224, 256]⟩
abbrev S224x128 : Shape := ⟨2, ![224, 128]⟩
abbrev S1x224x256 : Shape := ⟨3, ![1, 224, 256]⟩
abbrev S768x256 : Shape := ⟨2, ![768, 256]⟩
abbrev S768x128 : Shape := ⟨2, ![768, 128]⟩
abbrev S1x768x256 : Shape := ⟨3, ![1, 768, 256]⟩
abbrev S1x32x128 : Shape := ⟨3, ![1, 32, 128]⟩
abbrev S32x128 : Shape := ⟨2, ![32, 128]⟩
abbrev S32 : Shape := ⟨1, ![32]⟩
abbrev S32x1 : Shape := ⟨2, ![32, 1]⟩
abbrev S32x256 : Shape := ⟨2, ![32, 256]⟩
abbrev S4x8x128 : Shape := ⟨3, ![4, 8, 128]⟩
abbrev S8x31 : Shape := ⟨2, ![8, 31]⟩
abbrev S1x8x31 : Shape := ⟨3, ![1, 8, 31]⟩

abbrev nBuf : Space → Nat
  | .hbm => 11
  | .vmem => 13
  | .smem => 0
  | _ => 0

abbrev bufTy : (tb : Table) → Fin (tcTables nBuf tb) → BufTy
  | .hbm, ⟨0, _⟩ => ⟨S992x3072, .fp8e4m3⟩
  | .hbm, ⟨1, _⟩ => ⟨S992x1, .f32⟩
  | .hbm, ⟨2, _⟩ => ⟨S3072x256, .fp8e4m3⟩
  | .hbm, ⟨3, _⟩ => ⟨S256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S124x8x128, .fp8e4m3⟩
  | .hbm, ⟨8, _⟩ => ⟨S4x8x31, .f32⟩
  | .hbm, ⟨9, _⟩ => ⟨S124x8x128, .fp8e4m3⟩
  | .hbm, ⟨10, _⟩ => ⟨S4x8x31, .f32⟩
  | .local _ .vmem, ⟨0, _⟩ => ⟨S992x3072, .fp8e4m3⟩
  | .local _ .vmem, ⟨1, _⟩ => ⟨S992x1, .f32⟩
  | .local _ .vmem, ⟨2, _⟩ => ⟨S1x256, .f32⟩
  | .local _ .vmem, ⟨3, _⟩ => ⟨S1x256, .f32⟩
  | .local _ .vmem, ⟨4, _⟩ => ⟨S124x8x128, .fp8e4m3⟩
  | .local _ .vmem, ⟨5, _⟩ => ⟨S4x8x31, .f32⟩
  | .local _ .vmem, ⟨6, _⟩ => ⟨S124x8x128, .fp8e4m3⟩
  | .local _ .vmem, ⟨7, _⟩ => ⟨S4x8x31, .f32⟩
  | .local _ .vmem, ⟨8, _⟩ => ⟨S3072x256, .fp8e4m3⟩
  | .local _ .vmem, ⟨9, _⟩ => ⟨S224x8192, .fp8e4m3⟩
  | .local _ .vmem, ⟨10, _⟩ => ⟨S768x8192, .fp8e4m3⟩
  | .local _ .vmem, ⟨11, _⟩ => ⟨S992x128, .f32⟩
  | .local _ .vmem, ⟨12, _⟩ => ⟨S12x2048x256, .f32⟩
  | _, _ => ⟨S992x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S992x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S992x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S124x8x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8x31 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S124x8x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x8x31 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference2Ideal.lean ====
abbrev S992x3072 : Shape := ⟨2, ![992, 3072]⟩
abbrev S992x1 : Shape := ⟨2, ![992, 1]⟩
abbrev S3072x256 : Shape := ⟨2, ![3072, 256]⟩
abbrev S256 : Shape := ⟨1, ![256]⟩
abbrev S1x256 : Shape := ⟨2, ![1, 256]⟩
abbrev S124x8x128 : Shape := ⟨3, ![124, 8, 128]⟩
abbrev S992x256 : Shape := ⟨2, ![992, 256]⟩
abbrev S992x128 : Shape := ⟨2, ![992, 128]⟩
abbrev S992 : Shape := ⟨1, ![992]⟩
abbrev S4x31x8 : Shape := ⟨3, ![4, 31, 8]⟩
abbrev S4x8x31 : Shape := ⟨3, ![4, 8, 31]⟩

abbrev nBuf : Space → Nat
  | .hbm => 15
  | .vmem => 9
  | .smem => 0
  | _ => 0

abbrev bufTy : (tb : Table) → Fin (tcTables nBuf tb) → BufTy
  | .hbm, ⟨0, _⟩ => ⟨S992x3072, .fp8e4m3⟩
  | .hbm, ⟨1, _⟩ => ⟨S992x1, .f32⟩
  | .hbm, ⟨2, _⟩ => ⟨S3072x256, .fp8e4m3⟩
  | .hbm, ⟨3, _⟩ => ⟨S256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S124x8x128, .fp8e4m3⟩
  | .hbm, ⟨8, _⟩ => ⟨S992x1, .f32⟩
  | .hbm, ⟨9, _⟩ => ⟨S124x8x128, .fp8e4m3⟩
  | .hbm, ⟨10, _⟩ => ⟨S992x1, .f32⟩
  | .hbm, ⟨11, _⟩ => ⟨S4x31x8, .f32⟩
  | .hbm, ⟨12, _⟩ => ⟨S4x8x31, .f32⟩
  | .hbm, ⟨13, _⟩ => ⟨S4x31x8, .f32⟩
  | .hbm, ⟨14, _⟩ => ⟨S4x8x31, .f32⟩
  | .local _ .vmem, ⟨0, _⟩ => ⟨S992x3072, .fp8e4m3⟩
  | .local _ .vmem, ⟨1, _⟩ => ⟨S992x1, .f32⟩
  | .local _ .vmem, ⟨2, _⟩ => ⟨S3072x256, .fp8e4m3⟩
  | .local _ .vmem, ⟨3, _⟩ => ⟨S1x256, .f32⟩
  | .local _ .vmem, ⟨4, _⟩ => ⟨S1x256, .f32⟩
  | .local _ .vmem, ⟨5, _⟩ => ⟨S124x8x128, .fp8e4m3⟩
  | .local _ .vmem, ⟨6, _⟩ => ⟨S992x1, .f32⟩
  | .local _ .vmem, ⟨7, _⟩ => ⟨S124x8x128, .fp8e4m3⟩
  | .local _ .vmem, ⟨8, _⟩ => ⟨S992x1, .f32⟩
  | _, _ => ⟨S992x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S992x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S992x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S124x8x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S992x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S124x8x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S992x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Kernel3.lean ====
abbrev S12x224x256 : Shape := ⟨3, ![12, 224, 256]⟩
abbrev S12x768x256 : Shape := ⟨3, ![12, 768, 256]⟩
abbrev S224x3072 : Shape := ⟨2, ![224, 3072]⟩
abbrev S768x3072 : Shape := ⟨2, ![768, 3072]⟩
abbrev S992x128 : Shape := ⟨2, ![992, 128]⟩
abbrev S1x256 : Shape := ⟨2, ![1, 256]⟩
abbrev S224x128 : Shape := ⟨2, ![224, 128]⟩
abbrev S1x224x256 : Shape := ⟨3, ![1, 224, 256]⟩
abbrev S224x256 : Shape := ⟨2, ![224, 256]⟩
abbrev S32x128 : Shape := ⟨2, ![32, 128]⟩
abbrev S32 : Shape := ⟨1, ![32]⟩
abbrev S32x1 : Shape := ⟨2, ![32, 1]⟩
abbrev S32x256 : Shape := ⟨2, ![32, 256]⟩
abbrev S1x32x128 : Shape := ⟨3, ![1, 32, 128]⟩
abbrev S768x128 : Shape := ⟨2, ![768, 128]⟩
abbrev S1x768x256 : Shape := ⟨3, ![1, 768, 256]⟩
abbrev S768x256 : Shape := ⟨2, ![768, 256]⟩

abbrev nBuf : Space → Nat
  | .hbm => 5
  | .vmem => 6
  | .smem => 0
  | _ => 0

abbrev bufTy : (tb : Table) → Fin (tcTables nBuf tb) → BufTy
  | .hbm, ⟨0, _⟩ => ⟨S12x224x256, .f32⟩
  | .hbm, ⟨1, _⟩ => ⟨S12x768x256, .f32⟩
  | .hbm, ⟨2, _⟩ => ⟨S224x3072, .fp8e4m3⟩
  | .hbm, ⟨3, _⟩ => ⟨S768x3072, .fp8e4m3⟩
  | .hbm, ⟨4, _⟩ => ⟨S992x128, .f32⟩
  | .local _ .vmem, ⟨0, _⟩ => ⟨S12x224x256, .f32⟩
  | .local _ .vmem, ⟨1, _⟩ => ⟨S12x768x256, .f32⟩
  | .local _ .vmem, ⟨2, _⟩ => ⟨S224x3072, .fp8e4m3⟩
  | .local _ .vmem, ⟨3, _⟩ => ⟨S768x3072, .fp8e4m3⟩
  | .local _ .vmem, ⟨4, _⟩ => ⟨S992x128, .f32⟩
  | .local _ .vmem, ⟨5, _⟩ => ⟨S992x128, .f32⟩
  | _, _ => ⟨S12x224x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c12_i32 : BitVec 32 := 12#32
  let v17 : BitVec 32 := Scalar.addi c0_i32 c12_i32
  let c1_i32_7 : BitVec 32 := 1#32
  ⟨c0_i32, v17, c1_i32_7⟩
def k0_off1 (k0_t1 : Fin k0_t1_loop.trips) : Fin 3 → Nat :=
  let c0_i32 : BitVec 32 := 0#32
  let c1_i32_7 : BitVec 32 := 1#32
  let arg6 : BitVec 32 := Scf.iv c0_i32 c1_i32_7 k0_t1
  let v2215 : Index := Scalar.indexCast arg6
  let c0_1312 : Index := 0#32
  let c0_1313 : Index := 0#32
  ![v2215.toNat, 0, 0]
def k0_mult1 : BitVec 32 :=
  let c0_i32_19 : BitVec 32 := 0#32
  c0_i32_19
def k0_mult2 : BitVec 32 :=
  let c0_i32_26 : BitVec 32 := 0#32
  c0_i32_26
def k0_mult3 : BitVec 32 :=
  let c0_i32_32 : BitVec 32 := 0#32
  c0_i32_32
def k0_mult4 : BitVec 32 :=
  let c0_i32_38 : BitVec 32 := 0#32
  c0_i32_38
def k0_mult5 : BitVec 32 :=
  let c0_i32_44 : BitVec 32 := 0#32
  c0_i32_44
def k0_mult6 : BitVec 32 :=
  let c0_i32_49 : BitVec 32 := 0#32
  c0_i32_49
def k0_mult7 : BitVec 32 :=
  let c0_i32_55 : BitVec 32 := 0#32
  c0_i32_55
def k0_mult8 : BitVec 32 :=
  let c0_i32_60 : BitVec 32 := 0#32
  c0_i32_60
def k0_mult9 : BitVec 32 :=
  let c0_i32_66 : BitVec 32 := 0#32
  c0_i32_66
def k0_mult10 : BitVec 32 :=
  let c0_i32_71 : BitVec 32 := 0#32
  c0_i32_71
def k0_mult11 : BitVec 32 :=
  let c0_i32_77 : BitVec 32 := 0#32
  c0_i32_77
def k0_mult12 : BitVec 32 :=
  let c0_i32_82 : BitVec 32 := 0#32
  c0_i32_82
def k0_mult13 : BitVec 32 :=
  let c0_i32_88 : BitVec 32 := 0#32
  c0_i32_88
def k0_mult14 : BitVec 32 :=
  let c0_i32_93 : BitVec 32 := 0#32
  c0_i32_93
def k0_mult15 : BitVec 32 :=
  let c0_i32_99 : BitVec 32 := 0#32
  c0_i32_99
def k0_mult16 : BitVec 32 :=
  let c0_i32_104 : BitVec 32 := 0#32
  c0_i32_104
def k0_mult17 : BitVec 32 :=
  let c0_i32_110 : BitVec 32 := 0#32
  c0_i32_110
def k0_mult18 : BitVec 32 :=
  let c0_i32_115 : BitVec 32 := 0#32
  c0_i32_115
def k0_mult19 : BitVec 32 :=
  let c0_i32_121 : BitVec 32 := 0#32
  c0_i32_121
def k0_mult20 : BitVec 32 :=
  let c0_i32_126 : BitVec 32 := 0#32
  c0_i32_126
def k0_mult21 : BitVec 32 :=
  let c0_i32_132 : BitVec 32 := 0#32
  c0_i32_132
def k0_mult22 : BitVec 32 :=
  let c0_i32_137 : BitVec 32 := 0#32
  c0_i32_137
def k0_mult23 : BitVec 32 :=
  let c0_i32_143 : BitVec 32 := 0#32
  c0_i32_143
def k0_mult24 : BitVec 32 :=
  let c0_i32_148 : BitVec 32 := 0#32
  c0_i32_148
def k0_mult25 : BitVec 32 :=
  let c0_i32_154 : BitVec 32 := 0#32
  c0_i32_154
def k0_mult26 : BitVec 32 :=
  let c32_i32 : BitVec 32 := 32#32
  c32_i32
def k0_mult27 : BitVec 32 :=
  let c32_i32_170 : BitVec 32 := 32#32
  c32_i32_170
def k0_mult28 : BitVec 32 :=
  let c32_i32_177 : BitVec 32 := 32#32
  c32_i32_177
def k0_mult29 : BitVec 32 :=
  let c32_i32_184 : BitVec 32 := 32#32
  c32_i32_184
def k0_mult30 : BitVec 32 :=
  let c32_i32_191 : BitVec 32 := 32#32
  c32_i32_191
def k0_mult31 : BitVec 32 :=
  let c32_i32_198 : BitVec 32 := 32#32
  c32_i32_198
def k0_mult32 : BitVec 32 :=
  let c32_i32_205 : BitVec 32 := 32#32
  c32_i32_205
def k0_mult33 : BitVec 32 :=
  let c32_i32_212 : BitVec 32 := 32#32
  c32_i32_212
def k0_mult34 : BitVec 32 :=
  let c32_i32_219 : BitVec 32 := 32#32
  c32_i32_219
def k0_mult35 : BitVec 32 :=
  let c32_i32_226 : BitVec 32 := 32#32
  c32_i32_226
def k0_mult36 : BitVec 32 :=
  let c32_i32_233 : BitVec 32 := 32#32
  c32_i32_233
def k0_mult37 : BitVec 32 :=
  let c32_i32_240 : BitVec 32 := 32#32
  c32_i32_240
def k0_mult38 : BitVec 32 :=
  let c32_i32_247 : BitVec 32 := 32#32
  c32_i32_247
def k0_mult39 : BitVec 32 :=
  let c32_i32_254 : BitVec 32 := 32#32
  c32_i32_254
def k0_mult40 : BitVec 32 :=
  let c32_i32_261 : BitVec 32 := 32#32
  c32_i32_261
def k0_mult41 : BitVec 32 :=
  let c32_i32_268 : BitVec 32 := 32#32
  c32_i32_268
def k0_mult42 : BitVec 32 :=
  let c32_i32_275 : BitVec 32 := 32#32
  c32_i32_275
def k0_mult43 : BitVec 32 :=
  let c32_i32_282 : BitVec 32 := 32#32
  c32_i32_282
def k0_mult44 : BitVec 32 :=
  let c32_i32_289 : BitVec 32 := 32#32
  c32_i32_289
def k0_mult45 : BitVec 32 :=
  let c32_i32_296 : BitVec 32 := 32#32
  c32_i32_296
def k0_mult46 : BitVec 32 :=
  let c32_i32_303 : BitVec 32 := 32#32
  c32_i32_303
def k0_mult47 : BitVec 32 :=
  let c32_i32_310 : BitVec 32 := 32#32
  c32_i32_310
def k0_mult48 : BitVec 32 :=
  let c32_i32_317 : BitVec 32 := 32#32
  c32_i32_317
def k0_mult49 : BitVec 32 :=
  let c32_i32_324 : BitVec 32 := 32#32
  c32_i32_324
def k0_mult50 : BitVec 32 :=
  let c32_i32_331 : BitVec 32 := 32#32
  c32_i32_331
def k0_mult51 : BitVec 32 :=
  let c64_i32 : BitVec 32 := 64#32
  c64_i32
def k0_mult52 : BitVec 32 :=
  let c64_i32_348 : BitVec 32 := 64#32
  c64_i32_348
def k0_mult53 : BitVec 32 :=
  let c64_i32_355 : BitVec 32 := 64#32
  c64_i32_355
def k0_mult54 : BitVec 32 :=
  let c64_i32_362 : BitVec 32 := 64#32
  c64_i32_362
def k0_mult55 : BitVec 32 :=
  let c64_i32_369 : BitVec 32 := 64#32
  c64_i32_369
def k0_mult56 : BitVec 32 :=
  let c64_i32_376 : BitVec 32 := 64#32
  c64_i32_376
def k0_mult57 : BitVec 32 :=
  let c64_i32_383 : BitVec 32 := 64#32
  c64_i32_383
def k0_mult58 : BitVec 32 :=
  let c64_i32_390 : BitVec 32 := 64#32
  c64_i32_390
def k0_mult59 : BitVec 32 :=
  let c64_i32_397 : BitVec 32 := 64#32
  c64_i32_397
def k0_mult60 : BitVec 32 :=
  let c64_i32_404 : BitVec 32 := 64#32
  c64_i32_404
def k0_mult61 : BitVec 32 :=
  let c64_i32_411 : BitVec 32 := 64#32
  c64_i32_411
def k0_mult62 : BitVec 32 :=
  let c64_i32_418 : BitVec 32 := 64#32
  c64_i32_418
def k0_mult63 : BitVec 32 :=
  let c64_i32_425 : BitVec 32 := 64#32
  c64_i32_425
def k0_mult64 : BitVec 32 :=
  let c64_i32_432 : BitVec 32 := 64#32
  c64_i32_432
def k0_mult65 : BitVec 32 :=
  let c64_i32_439 : BitVec 32 := 64#32
  c64_i32_439
def k0_mult66 : BitVec 32 :=
  let c64_i32_446 : BitVec 32 := 64#32
  c64_i32_446
def k0_mult67 : BitVec 32 :=
  let c64_i32_453 : BitVec 32 := 64#32
  c64_i32_453
def k0_mult68 : BitVec 32 :=
  let c64_i32_460 : BitVec 32 := 64#32
  c64_i32_460
def k0_mult69 : BitVec 32 :=
  let c64_i32_467 : BitVec 32 := 64#32
  c64_i32_467
def k0_mult70 : BitVec 32 :=
  let c64_i32_474 : BitVec 32 := 64#32
  c64_i32_474
def k0_mult71 : BitVec 32 :=
  let c64_i32_481 : BitVec 32 := 64#32
  c64_i32_481
def k0_mult72 : BitVec 32 :=
  let c64_i32_488 : BitVec 32 := 64#32
  c64_i32_488
def k0_mult73 : BitVec 32 :=
  let c64_i32_495 : BitVec 32 := 64#32
  c64_i32_495
def k0_mult74 : BitVec 32 :=
  let c64_i32_502 : BitVec 32 := 64#32
  c64_i32_502
def k0_mult75 : BitVec 32 :=
  let c64_i32_509 : BitVec 32 := 64#32
  c64_i32_509
def k0_mult76 : BitVec 32 :=
  let c96_i32 : BitVec 32 := 96#32
  c96_i32
def k0_mult77 : BitVec 32 :=
  let c96_i32_526 : BitVec 32 := 96#32
  c96_i32_526
def k0_mult78 : BitVec 32 :=
  let c96_i32_533 : BitVec 32 := 96#32
  c96_i32_533
def k0_mult79 : BitVec 32 :=
  let c96_i32_540 : BitVec 32 := 96#32
  c96_i32_540
def k0_mult80 : BitVec 32 :=
  let c96_i32_547 : BitVec 32 := 96#32
  c96_i32_547
def k0_mult81 : BitVec 32 :=
  let c96_i32_554 : BitVec 32 := 96#32
  c96_i32_554
def k0_mult82 : BitVec 32 :=
  let c96_i32_561 : BitVec 32 := 96#32
  c96_i32_561
def k0_mult83 : BitVec 32 :=
  let c96_i32_568 : BitVec 32 := 96#32
  c96_i32_568
def k0_mult84 : BitVec 32 :=
  let c96_i32_575 : BitVec 32 := 96#32
  c96_i32_575
def k0_mult85 : BitVec 32 :=
  let c96_i32_582 : BitVec 32 := 96#32
  c96_i32_582
def k0_mult86 : BitVec 32 :=
  let c96_i32_589 : BitVec 32 := 96#32
  c96_i32_589
def k0_mult87 : BitVec 32 :=
  let c96_i32_596 : BitVec 32 := 96#32
  c96_i32_596
def k0_mult88 : BitVec 32 :=
  let c96_i32_603 : BitVec 32 := 96#32
  c96_i32_603
def k0_mult89 : BitVec 32 :=
  let c96_i32_610 : BitVec 32 := 96#32
  c96_i32_610
def k0_mult90 : BitVec 32 :=
  let c96_i32_617 : BitVec 32 := 96#32
  c96_i32_617
def k0_mult91 : BitVec 32 :=
  let c96_i32_624 : BitVec 32 := 96#32
  c96_i32_624
def k0_mult92 : BitVec 32 :=
  let c96_i32_631 : BitVec 32 := 96#32
  c96_i32_631
def k0_mult93 : BitVec 32 :=
  let c96_i32_638 : BitVec 32 := 96#32
  c96_i32_638
def k0_mult94 : BitVec 32 :=
  let c96_i32_645 : BitVec 32 := 96#32
  c96_i32_645
def k0_mult95 : BitVec 32 :=
  let c96_i32_652 : BitVec 32 := 96#32
  c96_i32_652
def k0_mult96 : BitVec 32 :=
  let c96_i32_659 : BitVec 32 := 96#32
  c96_i32_659
def k0_mult97 : BitVec 32 :=
  let c96_i32_666 : BitVec 32 := 96#32
  c96_i32_666
def k0_mult98 : BitVec 32 :=
  let c96_i32_673 : BitVec 32 := 96#32
  c96_i32_673
def k0_mult99 : BitVec 32 :=
  let c96_i32_680 : BitVec 32 := 96#32
  c96_i32_680
def k0_mult100 : BitVec 32 :=
  let c96_i32_687 : BitVec 32 := 96#32
  c96_i32_687
def k0_mult101 : BitVec 32 :=
  let c128_i32 : BitVec 32 := 128#32
  c128_i32
def k0_mult102 : BitVec 32 :=
  let c128_i32_705 : BitVec 32 := 128#32
  c128_i32_705
def k0_mult103 : BitVec 32 :=
  let c128_i32_712 : BitVec 32 := 128#32
  c128_i32_712
def k0_mult104 : BitVec 32 :=
  let c128_i32_719 : BitVec 32 := 128#32
  c128_i32_719
def k0_mult105 : BitVec 32 :=
  let c128_i32_726 : BitVec 32 := 128#32
  c128_i32_726
def k0_mult106 : BitVec 32 :=
  let c128_i32_733 : BitVec 32 := 128#32
  c128_i32_733
def k0_mult107 : BitVec 32 :=
  let c128_i32_740 : BitVec 32 := 128#32
  c128_i32_740
def k0_mult108 : BitVec 32 :=
  let c128_i32_747 : BitVec 32 := 128#32
  c128_i32_747
def k0_mult109 : BitVec 32 :=
  let c128_i32_754 : BitVec 32 := 128#32
  c128_i32_754
def k0_mult110 : BitVec 32 :=
  let c128_i32_761 : BitVec 32 := 128#32
  c128_i32_761
def k0_mult111 : BitVec 32 :=
  let c128_i32_768 : BitVec 32 := 128#32
  c128_i32_768
def k0_mult112 : BitVec 32 :=
  let c128_i32_775 : BitVec 32 := 128#32
  c128_i32_775
def k0_mult113 : BitVec 32 :=
  let c128_i32_782 : BitVec 32 := 128#32
  c128_i32_782
def k0_mult114 : BitVec 32 :=
  let c128_i32_789 : BitVec 32 := 128#32
  c128_i32_789
def k0_mult115 : BitVec 32 :=
  let c128_i32_796 : BitVec 32 := 128#32
  c128_i32_796
def k0_mult116 : BitVec 32 :=
  let c128_i32_803 : BitVec 32 := 128#32
  c128_i32_803
def k0_mult117 : BitVec 32 :=
  let c128_i32_810 : BitVec 32 := 128#32
  c128_i32_810
def k0_mult118 : BitVec 32 :=
  let c128_i32_817 : BitVec 32 := 128#32
  c128_i32_817
def k0_mult119 : BitVec 32 :=
  let c128_i32_824 : BitVec 32 := 128#32
  c128_i32_824
def k0_mult120 : BitVec 32 :=
  let c128_i32_831 : BitVec 32 := 128#32
  c128_i32_831
def k0_mult121 : BitVec 32 :=
  let c128_i32_838 : BitVec 32 := 128#32
  c128_i32_838
def k0_mult122 : BitVec 32 :=
  let c128_i32_845 : BitVec 32 := 128#32
  c128_i32_845
def k0_mult123 : BitVec 32 :=
  let c128_i32_852 : BitVec 32 := 128#32
  c128_i32_852
def k0_mult124 : BitVec 32 :=
  let c128_i32_859 : BitVec 32 := 128#32
  c128_i32_859
def k0_mult125 : BitVec 32 :=
  let c128_i32_866 : BitVec 32 := 128#32
  c128_i32_866
def k0_mult126 : BitVec 32 :=
  let c160_i32 : BitVec 32 := 160#32
  c160_i32
def k0_mult127 : BitVec 32 :=
  let c160_i32_883 : BitVec 32 := 160#32
  c160_i32_883
def k0_mult128 : BitVec 32 :=
  let c160_i32_890 : BitVec 32 := 160#32
  c160_i32_890
def k0_mult129 : BitVec 32 :=
  let c160_i32_897 : BitVec 32 := 160#32
  c160_i32_897
def k0_mult130 : BitVec 32 :=
  let c160_i32_904 : BitVec 32 := 160#32
  c160_i32_904
def k0_mult131 : BitVec 32 :=
  let c160_i32_911 : BitVec 32 := 160#32
  c160_i32_911
def k0_mult132 : BitVec 32 :=
  let c160_i32_918 : BitVec 32 := 160#32
  c160_i32_918
def k0_mult133 : BitVec 32 :=
  let c160_i32_925 : BitVec 32 := 160#32
  c160_i32_925
def k0_mult134 : BitVec 32 :=
  let c160_i32_932 : BitVec 32 := 160#32
  c160_i32_932
def k0_mult135 : BitVec 32 :=
  let c160_i32_939 : BitVec 32 := 160#32
  c160_i32_939
def k0_mult136 : BitVec 32 :=
  let c160_i32_946 : BitVec 32 := 160#32
  c160_i32_946
def k0_mult137 : BitVec 32 :=
  let c160_i32_953 : BitVec 32 := 160#32
  c160_i32_953
def k0_mult138 : BitVec 32 :=
  let c160_i32_960 : BitVec 32 := 160#32
  c160_i32_960
def k0_mult139 : BitVec 32 :=
  let c160_i32_967 : BitVec 32 := 160#32
  c160_i32_967
def k0_mult140 : BitVec 32 :=
  let c160_i32_974 : BitVec 32 := 160#32
  c160_i32_974
def k0_mult141 : BitVec 32 :=
  let c160_i32_981 : BitVec 32 := 160#32
  c160_i32_981
def k0_mult142 : BitVec 32 :=
  let c160_i32_988 : BitVec 32 := 160#32
  c160_i32_988
def k0_mult143 : BitVec 32 :=
  let c160_i32_995 : BitVec 32 := 160#32
  c160_i32_995
def k0_mult144 : BitVec 32 :=
  let c160_i32_1002 : BitVec 32 := 160#32
  c160_i32_1002
def k0_mult145 : BitVec 32 :=
  let c160_i32_1009 : BitVec 32 := 160#32
  c160_i32_1009
def k0_mult146 : BitVec 32 :=
  let c160_i32_1016 : BitVec 32 := 160#32
  c160_i32_1016
def k0_mult147 : BitVec 32 :=
  let c160_i32_1023 : BitVec 32 := 160#32
  c160_i32_1023
def k0_mult148 : BitVec 32 :=
  let c160_i32_1030 : BitVec 32 := 160#32
  c160_i32_1030
def k0_mult149 : BitVec 32 :=
  let c160_i32_1037 : BitVec 32 := 160#32
  c160_i32_1037
def k0_mult150 : BitVec 32 :=
  let c160_i32_1044 : BitVec 32 := 160#32
  c160_i32_1044
def k0_mult151 : BitVec 32 :=
  let c192_i32 : BitVec 32 := 192#32
  c192_i32
def k0_mult152 : BitVec 32 :=
  let c192_i32_1061 : BitVec 32 := 192#32
  c192_i32_1061
def k0_mult153 : BitVec 32 :=
  let c192_i32_1068 : BitVec 32 := 192#32
  c192_i32_1068
def k0_mult154 : BitVec 32 :=
  let c192_i32_1075 : BitVec 32 := 192#32
  c192_i32_1075
def k0_mult155 : BitVec 32 :=
  let c192_i32_1082 : BitVec 32 := 192#32
  c192_i32_1082
def k0_mult156 : BitVec 32 :=
  let c192_i32_1089 : BitVec 32 := 192#32
  c192_i32_1089
def k0_mult157 : BitVec 32 :=
  let c192_i32_1096 : BitVec 32 := 192#32
  c192_i32_1096
def k0_mult158 : BitVec 32 :=
  let c192_i32_1103 : BitVec 32 := 192#32
  c192_i32_1103
def k0_mult159 : BitVec 32 :=
  let c192_i32_1110 : BitVec 32 := 192#32
  c192_i32_1110
def k0_mult160 : BitVec 32 :=
  let c192_i32_1117 : BitVec 32 := 192#32
  c192_i32_1117
def k0_mult161 : BitVec 32 :=
  let c192_i32_1124 : BitVec 32 := 192#32
  c192_i32_1124
def k0_mult162 : BitVec 32 :=
  let c192_i32_1131 : BitVec 32 := 192#32
  c192_i32_1131
def k0_mult163 : BitVec 32 :=
  let c192_i32_1138 : BitVec 32 := 192#32
  c192_i32_1138
def k0_mult164 : BitVec 32 :=
  let c192_i32_1145 : BitVec 32 := 192#32
  c192_i32_1145
def k0_mult165 : BitVec 32 :=
  let c192_i32_1152 : BitVec 32 := 192#32
  c192_i32_1152
def k0_mult166 : BitVec 32 :=
  let c192_i32_1159 : BitVec 32 := 192#32
  c192_i32_1159
def k0_mult167 : BitVec 32 :=
  let c192_i32_1166 : BitVec 32 := 192#32
  c192_i32_1166
def k0_mult168 : BitVec 32 :=
  let c192_i32_1173 : BitVec 32 := 192#32
  c192_i32_1173
def k0_mult169 : BitVec 32 :=
  let c192_i32_1180 : BitVec 32 := 192#32
  c192_i32_1180
def k0_mult170 : BitVec 32 :=
  let c192_i32_1187 : BitVec 32 := 192#32
  c192_i32_1187
def k0_mult171 : BitVec 32 :=
  let c192_i32_1194 : BitVec 32 := 192#32
  c192_i32_1194
def k0_mult172 : BitVec 32 :=
  let c192_i32_1201 : BitVec 32 := 192#32
  c192_i32_1201
def k0_mult173 : BitVec 32 :=
  let c192_i32_1208 : BitVec 32 := 192#32
  c192_i32_1208
def k0_mult174 : BitVec 32 :=
  let c192_i32_1215 : BitVec 32 := 192#32
  c192_i32_1215
def k0_mult175 : BitVec 32 :=
  let c192_i32_1222 : BitVec 32 := 192#32
  c192_i32_1222
@[reducible] def k0_t2_loop : Scf.Loop 32 :=
  let c0_i32_1307 : BitVec 32 := 0#32
  let c24_i32 : BitVec 32 := 24#32
  let v2213 : BitVec 32 := Scalar.addi c0_i32_1307 c24_i32
  let c1_i32_1308 : BitVec 32 := 1#32
  ⟨c0_i32_1307, v2213, c1_i32_1308⟩
def k0_mult176 (k0_t2 : Fin k0_t2_loop.trips) : BitVec 32 :=
  let c7_i32 : BitVec 32 := 7#32
  let c0_i32_1307 : BitVec 32 := 0#32
  let c1_i32_1308 : BitVec 32 := 1#32
  let arg6 : BitVec 32 := Scf.iv c0_i32_1307 c1_i32_1308 k0_t2
  let v2214 : BitVec 32 := Scalar.addi c7_i32 arg6
  let c32_i32_1310 : BitVec 32 := 32#32
  let v2215 : BitVec 32 := Scalar.muli v2214 c32_i32_1310
  v2215
def k0_off2 (k0_t2 : Fin k0_t2_loop.trips) : Fin 2 → Nat :=
  let c7_i32 : BitVec 32 := 7#32
  let c0_i32_1307 : BitVec 32 := 0#32
  let c1_i32_1308 : BitVec 32 := 1#32
  let arg6 : BitVec 32 := Scf.iv c0_i32_1307 c1_i32_1308 k0_t2
  let v2214 : BitVec 32 := Scalar.addi c7_i32 arg6
  let c32_i32_1310 : BitVec 32 := 32#32
  let v2215 : BitVec 32 := Scalar.muli v2214 c32_i32_1310
  let v2216 : BitVec 32 := v2215
  let v2217 : Index := Scalar.indexCast v2216
  let c0_1311 : Index := 0#32
  ![v2217.toNat, 0]
def k0_mult177 (k0_t2 : Fin k0_t2_loop.trips) : BitVec 32 :=
  let c7_i32 : BitVec 32 := 7#32
  let c0_i32_1307 : BitVec 32 := 0#32
  let c1_i32_1308 : BitVec 32 := 1#32
  let arg6 : BitVec 32 := Scf.iv c0_i32_1307 c1_i32_1308 k0_t2
  let v2214 : BitVec 32 := Scalar.addi c7_i32 arg6
  let c32_i32_1321 : BitVec 32 := 32#32
  let v2245 : BitVec 32 := Scalar.muli v2214 c32_i32_1321
  v2245
def k0_mult178 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1323 : BitVec 32 := 32#32
  let v2249 : BitVec 32 := Scalar.muli arg6 c32_i32_1323
  v2249
def k0_off3 (k0_t2 : Fin k0_t2_loop.trips) : Fin 3 → Nat :=
  let c0_1324 : Index := 0#32
  let c0_i32_1307 : BitVec 32 := 0#32
  let c1_i32_1308 : BitVec 32 := 1#32
  let arg6 : BitVec 32 := Scf.iv c0_i32_1307 c1_i32_1308 k0_t2
  let c32_i32_1323 : BitVec 32 := 32#32
  let v2249 : BitVec 32 := Scalar.muli arg6 c32_i32_1323
  let v2250 : BitVec 32 := v2249
  let v2251 : Index := Scalar.indexCast v2250
  let c0_1325 : Index := 0#32
  ![0, v2251.toNat, 0]
def k0_mult179 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off4 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2260 : BitVec 32 := v2221
  let v2261 : Index := Scalar.indexCast v2260
  let c0_1328 : Index := 0#32
  ![v2261.toNat, 0]
def k0_mult180 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1329 : BitVec 32 := 32#32
  let v2263 : BitVec 32 := Scalar.muli arg6 c32_i32_1329
  v2263
def k0_off5 (k0_t2 : Fin k0_t2_loop.trips) : Fin 3 → Nat :=
  let c0_1330 : Index := 0#32
  let c0_i32_1307 : BitVec 32 := 0#32
  let c1_i32_1308 : BitVec 32 := 1#32
  let arg6 : BitVec 32 := Scf.iv c0_i32_1307 c1_i32_1308 k0_t2
  let c32_i32_1329 : BitVec 32 := 32#32
  let v2263 : BitVec 32 := Scalar.muli arg6 c32_i32_1329
  let v2264 : BitVec 32 := v2263
  let v2265 : Index := Scalar.indexCast v2264
  let c128_1331 : Index := 128#32
  ![0, v2265.toNat, 128]
def k0_mult181 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off6 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2274 : BitVec 32 := v2221
  let v2275 : Index := Scalar.indexCast v2274
  let c128_1334 : Index := 128#32
  ![v2275.toNat, 128]
def k0_mult182 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1335 : BitVec 32 := 32#32
  let v2277 : BitVec 32 := Scalar.muli arg6 c32_i32_1335
  v2277
def k0_off7 (k0_t2 : Fin k0_t2_loop.trips) : Fin 3 → Nat :=
  let c1_1336 : Index := 1#32
  let c0_i32_1307 : BitVec 32 := 0#32
  let c1_i32_1308 : BitVec 32 := 1#32
  let arg6 : BitVec 32 := Scf.iv c0_i32_1307 c1_i32_1308 k0_t2
  let c32_i32_1335 : BitVec 32 := 32#32
  let v2277 : BitVec 32 := Scalar.muli arg6 c32_i32_1335
  let v2278 : BitVec 32 := v2277
  let v2279 : Index := Scalar.indexCast v2278
  let c0_1337 : Index := 0#32
  ![1, v2279.toNat, 0]
def k0_mult183 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off8 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2288 : BitVec 32 := v2221
  let v2289 : Index := Scalar.indexCast v2288
  let c256_1340 : Index := 256#32
  ![v2289.toNat, 256]
def k0_mult184 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1341 : BitVec 32 := 32#32
  let v2291 : BitVec 32 := Scalar.muli arg6 c32_i32_1341
  v2291
def k0_off9 (k0_t2 : Fin k0_t2_loop.trips) : Fin 3 → Nat :=
  let c1_1342 : Index := 1#32
  let c0_i32_1307 : BitVec 32 := 0#32
  let c1_i32_1308 : BitVec 32 := 1#32
  let arg6 : BitVec 32 := Scf.iv c0_i32_1307 c1_i32_1308 k0_t2
  let c32_i32_1341 : BitVec 32 := 32#32
  let v2291 : BitVec 32 := Scalar.muli arg6 c32_i32_1341
  let v2292 : BitVec 32 := v2291
  let v2293 : Index := Scalar.indexCast v2292
  let c128_1343 : Index := 128#32
  ![1, v2293.toNat, 128]
def k0_mult185 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off10 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2302 : BitVec 32 := v2221
  let v2303 : Index := Scalar.indexCast v2302
  let c384_1346 : Index := 384#32
  ![v2303.toNat, 384]
def k0_mult186 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1347 : BitVec 32 := 32#32
  let v2305 : BitVec 32 := Scalar.muli arg6 c32_i32_1347
  v2305
def k0_off11 (k0_t2 : Fin k0_t2_loop.trips) : Fin 3 → Nat :=
  let c2_1348 : Index := 2#32
  let c0_i32_1307 : BitVec 32 := 0#32
  let c1_i32_1308 : BitVec 32 := 1#32
  let arg6 : BitVec 32 := Scf.iv c0_i32_1307 c1_i32_1308 k0_t2
  let c32_i32_1347 : BitVec 32 := 32#32
  let v2305 : BitVec 32 := Scalar.muli arg6 c32_i32_1347
  let v2306 : BitVec 32 := v2305
  let v2307 : Index := Scalar.indexCast v2306
  let c0_1349 : Index := 0#32
  ![2, v2307.toNat, 0]
def k0_mult187 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off12 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2316 : BitVec 32 := v2221
  let v2317 : Index := Scalar.indexCast v2316
  let c512_1352 : Index := 512#32
  ![v2317.toNat, 512]
def k0_mult188 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1353 : BitVec 32 := 32#32
  let v2319 : BitVec 32 := Scalar.muli arg6 c32_i32_1353
  v2319
def k0_off13 (k0_t2 : Fin k0_t2_loop.trips) : Fin 3 → Nat :=
  let c2_1354 : Index := 2#32
  let c0_i32_1307 : BitVec 32 := 0#32
  let c1_i32_1308 : BitVec 32 := 1#32
  let arg6 : BitVec 32 := Scf.iv c0_i32_1307 c1_i32_1308 k0_t2
  let c32_i32_1353 : BitVec 32 := 32#32
  let v2319 : BitVec 32 := Scalar.muli arg6 c32_i32_1353
  let v2320 : BitVec 32 := v2319
  let v2321 : Index := Scalar.indexCast v2320
  let c128_1355 : Index := 128#32
  ![2, v2321.toNat, 128]
def k0_mult189 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off14 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2330 : BitVec 32 := v2221
  let v2331 : Index := Scalar.indexCast v2330
  let c640_1358 : Index := 640#32
  ![v2331.toNat, 640]
def k0_mult190 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1359 : BitVec 32 := 32#32
  let v2333 : BitVec 32 := Scalar.muli arg6 c32_i32_1359
  v2333
def k0_off15 (k0_t2 : Fin k0_t2_loop.trips) : Fin 3 → Nat :=
  let c3_1360 : Index := 3#32
  let c0_i32_1307 : BitVec 32 := 0#32
  let c1_i32_1308 : BitVec 32 := 1#32
  let arg6 : BitVec 32 := Scf.iv c0_i32_1307 c1_i32_1308 k0_t2
  let c32_i32_1359 : BitVec 32 := 32#32
  let v2333 : BitVec 32 := Scalar.muli arg6 c32_i32_1359
  let v2334 : BitVec 32 := v2333
  let v2335 : Index := Scalar.indexCast v2334
  let c0_1361 : Index := 0#32
  ![3, v2335.toNat, 0]
def k0_mult191 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off16 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2344 : BitVec 32 := v2221
  let v2345 : Index := Scalar.indexCast v2344
  let c768_1364 : Index := 768#32
  ![v2345.toNat, 768]
def k0_mult192 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1365 : BitVec 32 := 32#32
  let v2347 : BitVec 32 := Scalar.muli arg6 c32_i32_1365
  v2347
def k0_off17 (k0_t2 : Fin k0_t2_loop.trips) : Fin 3 → Nat :=
  let c3_1366 : Index := 3#32
  let c0_i32_1307 : BitVec 32 := 0#32
  let c1_i32_1308 : BitVec 32 := 1#32
  let arg6 : BitVec 32 := Scf.iv c0_i32_1307 c1_i32_1308 k0_t2
  let c32_i32_1365 : BitVec 32 := 32#32
  let v2347 : BitVec 32 := Scalar.muli arg6 c32_i32_1365
  let v2348 : BitVec 32 := v2347
  let v2349 : Index := Scalar.indexCast v2348
  let c128_1367 : Index := 128#32
  ![3, v2349.toNat, 128]
def k0_mult193 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off18 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2358 : BitVec 32 := v2221
  let v2359 : Index := Scalar.indexCast v2358
  let c896_1370 : Index := 896#32
  ![v2359.toNat, 896]
def k0_mult194 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1371 : BitVec 32 := 32#32
  let v2361 : BitVec 32 := Scalar.muli arg6 c32_i32_1371
  v2361
def k0_off19 (k0_t2 : Fin k0_t2_loop.trips) : Fin 3 → Nat :=
  let c4_1372 : Index := 4#32
  let c0_i32_1307 : BitVec 32 := 0#32
  let c1_i32_1308 : BitVec 32 := 1#32
  let arg6 : BitVec 32 := Scf.iv c0_i32_1307 c1_i32_1308 k0_t2
  let c32_i32_1371 : BitVec 32 := 32#32
  let v2361 : BitVec 32 := Scalar.muli arg6 c32_i32_1371
  let v2362 : BitVec 32 := v2361
  let v2363 : Index := Scalar.indexCast v2362
  let c0_1373 : Index := 0#32
  ![4, v2363.toNat, 0]
def k0_mult195 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off20 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2372 : BitVec 32 := v2221
  let v2373 : Index := Scalar.indexCast v2372
  let c1024_1376 : Index := 1024#32
  ![v2373.toNat, 1024]
def k0_mult196 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1377 : BitVec 32 := 32#32
  let v2375 : BitVec 32 := Scalar.muli arg6 c32_i32_1377
  v2375
def k0_off21 (k0_t2 : Fin k0_t2_loop.trips) : Fin 3 → Nat :=
  let c4_1378 : Index := 4#32
  let c0_i32_1307 : BitVec 32 := 0#32
  let c1_i32_1308 : BitVec 32 := 1#32
  let arg6 : BitVec 32 := Scf.iv c0_i32_1307 c1_i32_1308 k0_t2
  let c32_i32_1377 : BitVec 32 := 32#32
  let v2375 : BitVec 32 := Scalar.muli arg6 c32_i32_1377
  let v2376 : BitVec 32 := v2375
  let v2377 : Index := Scalar.indexCast v2376
  let c128_1379 : Index := 128#32
  ![4, v2377.toNat, 128]
def k0_mult197 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off22 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2386 : BitVec 32 := v2221
  let v2387 : Index := Scalar.indexCast v2386
  let c1152_1382 : Index := 1152#32
  ![v2387.toNat, 1152]
def k0_mult198 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1383 : BitVec 32 := 32#32
  let v2389 : BitVec 32 := Scalar.muli arg6 c32_i32_1383
  v2389
def k0_off23 (k0_t2 : Fin k0_t2_loop.trips) : Fin 3 → Nat :=
  let c5_1384 : Index := 5#32
  let c0_i32_1307 : BitVec 32 := 0#32
  let c1_i32_1308 : BitVec 32 := 1#32
  let arg6 : BitVec 32 := Scf.iv c0_i32_1307 c1_i32_1308 k0_t2
  let c32_i32_1383 : BitVec 32 := 32#32
  let v2389 : BitVec 32 := Scalar.muli arg6 c32_i32_1383
  let v2390 : BitVec 32 := v2389
  let v2391 : Index := Scalar.indexCast v2390
  let c0_1385 : Index := 0#32
  ![5, v2391.toNat, 0]
def k0_mult199 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off24 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2400 : BitVec 32 := v2221
  let v2401 : Index := Scalar.indexCast v2400
  let c1280_1388 : Index := 1280#32
  ![v2401.toNat, 1280]
def k0_mult200 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1389 : BitVec 32 := 32#32
  let v2403 : BitVec 32 := Scalar.muli arg6 c32_i32_1389
  v2403
def k0_off25 (k0_t2 : Fin k0_t2_loop.trips) : Fin 3 → Nat :=
  let c5_1390 : Index := 5#32
  let c0_i32_1307 : BitVec 32 := 0#32
  let c1_i32_1308 : BitVec 32 := 1#32
  let arg6 : BitVec 32 := Scf.iv c0_i32_1307 c1_i32_1308 k0_t2
  let c32_i32_1389 : BitVec 32 := 32#32
  let v2403 : BitVec 32 := Scalar.muli arg6 c32_i32_1389
  let v2404 : BitVec 32 := v2403
  let v2405 : Index := Scalar.indexCast v2404
  let c128_1391 : Index := 128#32
  ![5, v2405.toNat, 128]
def k0_mult201 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off26 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2414 : BitVec 32 := v2221
  let v2415 : Index := Scalar.indexCast v2414
  let c1408_1394 : Index := 1408#32
  ![v2415.toNat, 1408]
def k0_mult202 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1395 : BitVec 32 := 32#32
  let v2417 : BitVec 32 := Scalar.muli arg6 c32_i32_1395
  v2417
def k0_off27 (k0_t2 : Fin k0_t2_loop.trips) : Fin 3 → Nat :=
  let c6_1396 : Index := 6#32
  let c0_i32_1307 : BitVec 32 := 0#32
  let c1_i32_1308 : BitVec 32 := 1#32
  let arg6 : BitVec 32 := Scf.iv c0_i32_1307 c1_i32_1308 k0_t2
  let c32_i32_1395 : BitVec 32 := 32#32
  let v2417 : BitVec 32 := Scalar.muli arg6 c32_i32_1395
  let v2418 : BitVec 32 := v2417
  let v2419 : Index := Scalar.indexCast v2418
  let c0_1397 : Index := 0#32
  ![6, v2419.toNat, 0]
def k0_mult203 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off28 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2428 : BitVec 32 := v2221
  let v2429 : Index := Scalar.indexCast v2428
  let c1536_1400 : Index := 1536#32
  ![v2429.toNat, 1536]
def k0_mult204 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1401 : BitVec 32 := 32#32
  let v2431 : BitVec 32 := Scalar.muli arg6 c32_i32_1401
  v2431
def k0_off29 (k0_t2 : Fin k0_t2_loop.trips) : Fin 3 → Nat :=
  let c6_1402 : Index := 6#32
  let c0_i32_1307 : BitVec 32 := 0#32
  let c1_i32_1308 : BitVec 32 := 1#32
  let arg6 : BitVec 32 := Scf.iv c0_i32_1307 c1_i32_1308 k0_t2
  let c32_i32_1401 : BitVec 32 := 32#32
  let v2431 : BitVec 32 := Scalar.muli arg6 c32_i32_1401
  let v2432 : BitVec 32 := v2431
  let v2433 : Index := Scalar.indexCast v2432
  let c128_1403 : Index := 128#32
  ![6, v2433.toNat, 128]
def k0_mult205 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off30 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2442 : BitVec 32 := v2221
  let v2443 : Index := Scalar.indexCast v2442
  let c1664_1406 : Index := 1664#32
  ![v2443.toNat, 1664]
def k0_mult206 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1407 : BitVec 32 := 32#32
  let v2445 : BitVec 32 := Scalar.muli arg6 c32_i32_1407
  v2445
def k0_off31 (k0_t2 : Fin k0_t2_loop.trips) : Fin 3 → Nat :=
  let c7_1408 : Index := 7#32
  let c0_i32_1307 : BitVec 32 := 0#32
  let c1_i32_1308 : BitVec 32 := 1#32
  let arg6 : BitVec 32 := Scf.iv c0_i32_1307 c1_i32_1308 k0_t2
  let c32_i32_1407 : BitVec 32 := 32#32
  let v2445 : BitVec 32 := Scalar.muli arg6 c32_i32_1407
  let v2446 : BitVec 32 := v2445
  let v2447 : Index := Scalar.indexCast v2446
  let c0_1409 : Index := 0#32
  ![7, v2447.toNat, 0]
def k0_mult207 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off32 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2456 : BitVec 32 := v2221
  let v2457 : Index := Scalar.indexCast v2456
  let c1792_1412 : Index := 1792#32
  ![v2457.toNat, 1792]
def k0_mult208 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1413 : BitVec 32 := 32#32
  let v2459 : BitVec 32 := Scalar.muli arg6 c32_i32_1413
  v2459
def k0_off33 (k0_t2 : Fin k0_t2_loop.trips) : Fin 3 → Nat :=
  let c7_1414 : Index := 7#32
  let c0_i32_1307 : BitVec 32 := 0#32
  let c1_i32_1308 : BitVec 32 := 1#32
  let arg6 : BitVec 32 := Scf.iv c0_i32_1307 c1_i32_1308 k0_t2
  let c32_i32_1413 : BitVec 32 := 32#32
  let v2459 : BitVec 32 := Scalar.muli arg6 c32_i32_1413
  let v2460 : BitVec 32 := v2459
  let v2461 : Index := Scalar.indexCast v2460
  let c128_1415 : Index := 128#32
  ![7, v2461.toNat, 128]
def k0_mult209 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off34 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2470 : BitVec 32 := v2221
  let v2471 : Index := Scalar.indexCast v2470
  let c1920_1418 : Index := 1920#32
  ![v2471.toNat, 1920]
def k0_mult210 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1419 : BitVec 32 := 32#32
  let v2473 : BitVec 32 := Scalar.muli arg6 c32_i32_1419
  v2473
def k0_off35 (k0_t2 : Fin k0_t2_loop.trips) : Fin 3 → Nat :=
  let c8_1420 : Index := 8#32
  let c0_i32_1307 : BitVec 32 := 0#32
  let c1_i32_1308 : BitVec 32 := 1#32
  let arg6 : BitVec 32 := Scf.iv c0_i32_1307 c1_i32_1308 k0_t2
  let c32_i32_1419 : BitVec 32 := 32#32
  let v2473 : BitVec 32 := Scalar.muli arg6 c32_i32_1419
  let v2474 : BitVec 32 := v2473
  let v2475 : Index := Scalar.indexCast v2474
  let c0_1421 : Index := 0#32
  ![8, v2475.toNat, 0]
def k0_mult211 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off36 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2484 : BitVec 32 := v2221
  let v2485 : Index := Scalar.indexCast v2484
  let c2048_1424 : Index := 2048#32
  ![v2485.toNat, 2048]
def k0_mult212 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1425 : BitVec 32 := 32#32
  let v2487 : BitVec 32 := Scalar.muli arg6 c32_i32_1425
  v2487
def k0_off37 (k0_t2 : Fin k0_t2_loop.trips) : Fin 3 → Nat :=
  let c8_1426 : Index := 8#32
  let c0_i32_1307 : BitVec 32 := 0#32
  let c1_i32_1308 : BitVec 32 := 1#32
  let arg6 : BitVec 32 := Scf.iv c0_i32_1307 c1_i32_1308 k0_t2
  let c32_i32_1425 : BitVec 32 := 32#32
  let v2487 : BitVec 32 := Scalar.muli arg6 c32_i32_1425
  let v2488 : BitVec 32 := v2487
  let v2489 : Index := Scalar.indexCast v2488
  let c128_1427 : Index := 128#32
  ![8, v2489.toNat, 128]
def k0_mult213 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off38 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2498 : BitVec 32 := v2221
  let v2499 : Index := Scalar.indexCast v2498
  let c2176_1430 : Index := 2176#32
  ![v2499.toNat, 2176]
def k0_mult214 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1431 : BitVec 32 := 32#32
  let v2501 : BitVec 32 := Scalar.muli arg6 c32_i32_1431
  v2501
def k0_off39 (k0_t2 : Fin k0_t2_loop.trips) : Fin 3 → Nat :=
  let c9_1432 : Index := 9#32
  let c0_i32_1307 : BitVec 32 := 0#32
  let c1_i32_1308 : BitVec 32 := 1#32
  let arg6 : BitVec 32 := Scf.iv c0_i32_1307 c1_i32_1308 k0_t2
  let c32_i32_1431 : BitVec 32 := 32#32
  let v2501 : BitVec 32 := Scalar.muli arg6 c32_i32_1431
  let v2502 : BitVec 32 := v2501
  let v2503 : Index := Scalar.indexCast v2502
  let c0_1433 : Index := 0#32
  ![9, v2503.toNat, 0]
def k0_mult215 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off40 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2512 : BitVec 32 := v2221
  let v2513 : Index := Scalar.indexCast v2512
  let c2304_1436 : Index := 2304#32
  ![v2513.toNat, 2304]
def k0_mult216 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1437 : BitVec 32 := 32#32
  let v2515 : BitVec 32 := Scalar.muli arg6 c32_i32_1437
  v2515
def k0_off41 (k0_t2 : Fin k0_t2_loop.trips) : Fin 3 → Nat :=
  let c9_1438 : Index := 9#32
  let c0_i32_1307 : BitVec 32 := 0#32
  let c1_i32_1308 : BitVec 32 := 1#32
  let arg6 : BitVec 32 := Scf.iv c0_i32_1307 c1_i32_1308 k0_t2
  let c32_i32_1437 : BitVec 32 := 32#32
  let v2515 : BitVec 32 := Scalar.muli arg6 c32_i32_1437
  let v2516 : BitVec 32 := v2515
  let v2517 : Index := Scalar.indexCast v2516
  let c128_1439 : Index := 128#32
  ![9, v2517.toNat, 128]
def k0_mult217 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off42 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2526 : BitVec 32 := v2221
  let v2527 : Index := Scalar.indexCast v2526
  let c2432_1442 : Index := 2432#32
  ![v2527.toNat, 2432]
def k0_mult218 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1443 : BitVec 32 := 32#32
  let v2529 : BitVec 32 := Scalar.muli arg6 c32_i32_1443
  v2529
def k0_off43 (k0_t2 : Fin k0_t2_loop.trips) : Fin 3 → Nat :=
  let c10_1444 : Index := 10#32
  let c0_i32_1307 : BitVec 32 := 0#32
  let c1_i32_1308 : BitVec 32 := 1#32
  let arg6 : BitVec 32 := Scf.iv c0_i32_1307 c1_i32_1308 k0_t2
  let c32_i32_1443 : BitVec 32 := 32#32
  let v2529 : BitVec 32 := Scalar.muli arg6 c32_i32_1443
  let v2530 : BitVec 32 := v2529
  let v2531 : Index := Scalar.indexCast v2530
  let c0_1445 : Index := 0#32
  ![10, v2531.toNat, 0]
def k0_mult219 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off44 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2540 : BitVec 32 := v2221
  let v2541 : Index := Scalar.indexCast v2540
  let c2560_1448 : Index := 2560#32
  ![v2541.toNat, 2560]
def k0_mult220 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1449 : BitVec 32 := 32#32
  let v2543 : BitVec 32 := Scalar.muli arg6 c32_i32_1449
  v2543
def k0_off45 (k0_t2 : Fin k0_t2_loop.trips) : Fin 3 → Nat :=
  let c10_1450 : Index := 10#32
  let c0_i32_1307 : BitVec 32 := 0#32
  let c1_i32_1308 : BitVec 32 := 1#32
  let arg6 : BitVec 32 := Scf.iv c0_i32_1307 c1_i32_1308 k0_t2
  let c32_i32_1449 : BitVec 32 := 32#32
  let v2543 : BitVec 32 := Scalar.muli arg6 c32_i32_1449
  let v2544 : BitVec 32 := v2543
  let v2545 : Index := Scalar.indexCast v2544
  let c128_1451 : Index := 128#32
  ![10, v2545.toNat, 128]
def k0_mult221 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off46 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2554 : BitVec 32 := v2221
  let v2555 : Index := Scalar.indexCast v2554
  let c2688_1454 : Index := 2688#32
  ![v2555.toNat, 2688]
def k0_mult222 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1455 : BitVec 32 := 32#32
  let v2557 : BitVec 32 := Scalar.muli arg6 c32_i32_1455
  v2557
def k0_off47 (k0_t2 : Fin k0_t2_loop.trips) : Fin 3 → Nat :=
  let c11_1456 : Index := 11#32
  let c0_i32_1307 : BitVec 32 := 0#32
  let c1_i32_1308 : BitVec 32 := 1#32
  let arg6 : BitVec 32 := Scf.iv c0_i32_1307 c1_i32_1308 k0_t2
  let c32_i32_1455 : BitVec 32 := 32#32
  let v2557 : BitVec 32 := Scalar.muli arg6 c32_i32_1455
  let v2558 : BitVec 32 := v2557
  let v2559 : Index := Scalar.indexCast v2558
  let c0_1457 : Index := 0#32
  ![11, v2559.toNat, 0]
def k0_mult223 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off48 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2568 : BitVec 32 := v2221
  let v2569 : Index := Scalar.indexCast v2568
  let c2816_1460 : Index := 2816#32
  ![v2569.toNat, 2816]
def k0_mult224 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1461 : BitVec 32 := 32#32
  let v2571 : BitVec 32 := Scalar.muli arg6 c32_i32_1461
  v2571
def k0_off49 (k0_t2 : Fin k0_t2_loop.trips) : Fin 3 → Nat :=
  let c11_1462 : Index := 11#32
  let c0_i32_1307 : BitVec 32 := 0#32
  let c1_i32_1308 : BitVec 32 := 1#32
  let arg6 : BitVec 32 := Scf.iv c0_i32_1307 c1_i32_1308 k0_t2
  let c32_i32_1461 : BitVec 32 := 32#32
  let v2571 : BitVec 32 := Scalar.muli arg6 c32_i32_1461
  let v2572 : BitVec 32 := v2571
  let v2573 : Index := Scalar.indexCast v2572
  let c128_1463 : Index := 128#32
  ![11, v2573.toNat, 128]
def k0_mult225 (k0_t2 : Fin k0_t2_loop.trips) : BitVec 32 :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  v2221
def k0_off50 (k0_t2 : Fin k0_t2_loop.trips) : Fin 2 → Nat :=
  let c0_i32_1307 : BitVec 32 := 0#32
  let c1_i32_1308 : BitVec 32 := 1#32
  let arg6 : BitVec 32 := Scf.iv c0_i32_1307 c1_i32_1308 k0_t2
  let c32_i32_1313 : BitVec 32 := 32#32
  let v2221 : BitVec 32 := Scalar.muli arg6 c32_i32_1313
  let v2582 : BitVec 32 := v2221
  let v2583 : Index := Scalar.indexCast v2582
  let c2944_1466 : Index := 2944#32
  ![v2583.toNat, 2944]
abbrev stage0_0 : Fin 1 → Memref sig .tc .vmem S12x224x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S224x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S992x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference3Ideal.lean ====
abbrev S12x224x256 : Shape := ⟨3, ![12, 224, 256]⟩
abbrev S12x768x256 : Shape := ⟨3, ![12, 768, 256]⟩
abbrev S12x992x256 : Shape := ⟨3, ![12, 992, 256]⟩
abbrev S992x12x256 : Shape := ⟨3, ![992, 12, 256]⟩
abbrev S992x3072 : Shape := ⟨2, ![992, 3072]⟩
abbrev S224x3072 : Shape := ⟨2, ![224, 3072]⟩
abbrev S768x3072 : Shape := ⟨2, ![768, 3072]⟩
abbrev S992x1 : Shape := ⟨2, ![992, 1]⟩
abbrev S1x256 : Shape := ⟨2, ![1, 256]⟩
abbrev S992 : Shape := ⟨1, ![992]⟩
abbrev S992x256 : Shape := ⟨2, ![992, 256]⟩
abbrev S992x128 : Shape := ⟨2, ![992, 128]⟩

abbrev nBuf : Space → Nat
  | .hbm => 9
  | .vmem => 4
  | .smem => 0
  | _ => 0

abbrev bufTy : (tb : Table) → Fin (tcTables nBuf tb) → BufTy
  | .hbm, ⟨0, _⟩ => ⟨S12x224x256, .f32⟩
  | .hbm, ⟨1, _⟩ => ⟨S12x768x256, .f32⟩
  | .hbm, ⟨2, _⟩ => ⟨S12x992x256, .f32⟩
  | .hbm, ⟨3, _⟩ => ⟨S992x12x256, .f32⟩
  | .hbm, ⟨4, _⟩ => ⟨S992x3072, .f32⟩
  | .hbm, ⟨5, _⟩ => ⟨S224x3072, .fp8e4m3⟩
  | .hbm, ⟨6, _⟩ => ⟨S768x3072, .fp8e4m3⟩
  | .hbm, ⟨7, _⟩ => ⟨S992x1, .f32⟩
  | .hbm, ⟨8, _⟩ => ⟨S992x128, .f32⟩
  | .local _ .vmem, ⟨0, _⟩ => ⟨S992x3072, .f32⟩
  | .local _ .vmem, ⟨1, _⟩ => ⟨S224x3072, .fp8e4m3⟩
  | .local _ .vmem, ⟨2, _⟩ => ⟨S768x3072, .fp8e4m3⟩
  | .local _ .vmem, ⟨3, _⟩ => ⟨S992x1, .f32⟩
  | _, _ => ⟨S12x224x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S992x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S224x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S992x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Two.Pieces.lean ====
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Proof.Two
open Cert.Kernel2Ideal Cert.Kernel2Ideal.Gen
open Idealize.ShloMosaic Idealize.ShloMosaic.TcCoe Idealize.SL.Sem

variable {F : FTy → Type} [FloatOps F]

variable (c : Dev nD) (arg0 : Memref sig .tc .vmem S992x3072 .fp8e4m3) (harg0 : arg0.IsWhole) (arg1 : Memref sig .tc .vmem S992x1 .f32) (harg1 : arg1.IsWhole) (arg3 : Memref sig .tc .vmem S1x256 .f32) (harg3 : arg3.IsWhole) (arg4 : Memref sig .tc .vmem S1x256 .f32) (harg4 : arg4.IsWhole) (arg5 : Memref sig .tc .vmem S124x8x128 .fp8e4m3) (harg5 : arg5.IsWhole) (arg6 : Memref sig .tc .vmem S4x8x31 .f32) (harg6 : arg6.IsWhole) (arg7 : Memref sig .tc .vmem S124x8x128 .fp8e4m3) (harg7 : arg7.IsWhole) (arg8 : Memref sig .tc .vmem S4x8x31 .f32) (harg8 : arg8.IsWhole) (arg9 : Memref sig .tc .vmem S3072x256 .fp8e4m3) (harg9 : arg9.IsWhole) (arg10 : Memref sig .tc .vmem S224x8192 .fp8e4m3) (harg10 : arg10.IsWhole) (arg11 : Memref sig .tc .vmem S768x8192 .fp8e4m3) (harg11 : arg11.IsWhole) (arg12 : Memref sig .tc .vmem S992x128 .f32) (harg12 : arg12.IsWhole) (arg13 : Memref sig .tc .vmem S12x2048x256 .f32) (harg13 : arg13.IsWhole)
    (x0 : Vec F S992x3072 .fp8e4m3) (x1 : Vec F S992x1 .f32) (x2 : Vec F S1x256 .f32) (x3 : Vec F S1x256 .f32) (fh0 : HbBuf0 (F := F) c hbM0_0)

/-- The scale column of a tile's 32 rows. -/
def scaleOf (t : FVec F S32x128 .f32) : FVec F S32x1 .f32 := k0_pay17 k0_pay11 t

/-- The codes of a tile. -/
def codesOf (t : FVec F S32x128 .f32) : FVec F S4x8x128 .fp8e4m3 := k0_pay19 k0_pay11 t

theorem inbT (p : Fin 2) (i : Fin 31) : ∀ a, (![0, 32 * i.val, 128 * p.val] : Fin 3 → ℕ) a + S1x32x128.size a ≤ S12x2048x256.size a := by
  have := i.isLt; have := p.isLt; intro a; fin_cases a <;> simp <;> omega

theorem inbC (i : Fin 31) : ∀ a, (![4 * i.val, 0, 0] : Fin 3 → ℕ) a + S4x8x128.size a ≤ S124x8x128.size a := by
  have := i.isLt; intro a; fin_cases a <;> simp; omega

/-- Tile `i` of half `p` of the layer's values, as the body loads it. -/
def tileOf (p : Fin 2) (i : Fin 31) : FVec F S32x128 .f32 :=
  k0_pay16 (arg13.view.readCov (kernelRun0_A.sl.HS4_2 c arg0 harg0 arg1 harg1 arg3 harg3 arg4 harg4 arg9 arg10 arg11 arg12 x0 x1 x2 x3 fh0)
    (Rect.unit (s := S12x2048x256) ![0, 32 * i.val, 128 * p.val] S1x32x128.size (inbT p i)).toLoadRect)

theorem inbB (b : Fin 4) : ∀ a, (![b.val, 0, 0] : Fin 3 → ℕ) a + S1x8x31.size a ≤ S4x8x31.size a := by
  have := b.isLt; intro a; fin_cases a <;> simp <;> omega

theorem slicesU (n : ℕ) : S32x128.Slices ![8 * (n % 4), 0] S8x128 :=
  ⟨rfl, fun a => by have := Nat.mod_lt n (show 0 < 4 by decide); fin_cases a <;> simp <;> omega⟩

/-- Column `n` of plane `b` of the scales put into the running array. -/
def colStep (t : Fin 31 → FVec F S32x128 .f32) (b n : ℕ) (acc : FVec F S8x128 .f32) : FVec F S8x128 .f32 :=
  select (cmpi .eq (iota .tc S8x128 32 [1] iota_S8x128_d1_w32) (broadcast S8x128 (BitVec.ofNat 32 n)))
    (extractStridedSlice S8x128 ![8 * ((31 * b + n) % 4), 0]
      (k0_pay18 k0_pay11 (t ⟨(31 * b + n) / 4 % 31, Nat.mod_lt _ (by decide)⟩)) (slicesU _)) acc

/-- Plane `b` of the scales after its first `n` columns. -/
def colAcc (t : Fin 31 → FVec F S32x128 .f32) (b : ℕ) : ℕ → FVec F S8x128 .f32
  | 0 => broadcast S8x128 (Scalar.ofBits .f32 0x00000000#32)
  | n + 1 => colStep t b n (colAcc t b n)

theorem pieces4 : (kernelRun0_A c arg0 harg0 arg1 harg1 arg3 harg3 arg4 harg4 arg5 harg5 arg6 harg6 arg7 harg7 arg8 harg8 arg9 harg9 arg10 harg10 arg11 harg11 arg12 harg12 arg13 harg13 x0 x1 x2 x3 fh0).1
    = (List.ofFn fun i : Fin 31 => (⟨Rect.unit (s := S124x8x128) ![4 * (i.rev).val, 0, 0] S4x8x128.size (inbC i.rev),
        codesOf (tileOf c arg0 harg0 arg1 harg1 arg3 harg3 arg4 harg4 arg9 arg10 arg11 arg12 arg13 x0 x1 x2 x3 fh0 0 i.rev)⟩ : View.Piece (Elt F) S124x8x128 .fp8e4m3)) := by
  rfl

theorem pieces6 : (kernelRun0_A c arg0 harg0 arg1 harg1 arg3 harg3 arg4 harg4 arg5 harg5 arg6 harg6 arg7 harg7 arg8 harg8 arg9 harg9 arg10 harg10 arg11 harg11 arg12 harg12 arg13 harg13 x0 x1 x2 x3 fh0).2.2.1
    = (List.ofFn fun i : Fin 31 => (⟨Rect.unit (s := S124x8x128) ![4 * (i.rev).val, 0, 0] S4x8x128.size (inbC i.rev),
        codesOf (tileOf c arg0 harg0 arg1 harg1 arg3 harg3 arg4 harg4 arg9 arg10 arg11 arg12 arg13 x0 x1 x2 x3 fh0 1 i.rev)⟩ : View.Piece (Elt F) S124x8x128 .fp8e4m3)) := by
  rfl

theorem pieces5 : (kernelRun0_A c arg0 harg0 arg1 harg1 arg3 harg3 arg4 harg4 arg5 harg5 arg6 harg6 arg7 harg7 arg8 harg8 arg9 harg9 arg10 harg10 arg11 harg11 arg12 harg12 arg13 harg13 x0 x1 x2 x3 fh0).2.1
    = (List.ofFn fun b : Fin 4 => (⟨Rect.unit (s := S4x8x31) ![(b.rev).val, 0, 0] S1x8x31.size (inbB b.rev),
        k0_pay211 (colAcc (tileOf c arg0 harg0 arg1 harg1 arg3 harg3 arg4 harg4 arg9 arg10 arg11 arg12 arg13 x0 x1 x2 x3 fh0 0) (b.rev).val 31)⟩ : View.Piece (Elt F) S4x8x31 .f32)) := by
  rfl

theorem pieces7 : (kernelRun0_A c arg0 harg0 arg1 harg1 arg3 harg3 arg4 harg4 arg5 harg5 arg6 harg6 arg7 harg7 arg8 harg8 arg9 harg9 arg10 harg10 arg11 harg11 arg12 harg12 arg13 harg13 x0 x1 x2 x3 fh0).2.2.2.1
    = (List.ofFn fun b : Fin 4 => (⟨Rect.unit (s := S4x8x31) ![(b.rev).val, 0, 0] S1x8x31.size (inbB b.rev),
        k0_pay211 (colAcc (tileOf c arg0 harg0 arg1 harg1 arg3 harg3 arg4 harg4 arg9 arg10 arg11 arg12 arg13 x0 x1 x2 x3 fh0 1) (b.rev).val 31)⟩ : View.Piece (Elt F) S4x8x31 .f32)) := by
  rfl

end Cert.Proof.Two
end
-- ==== Proof.Two.Layer.lean ====
/-
  The second layer's values as the body holds them: one element of the buffer the quantiser reads.
-/
module

public import proofs.«01_k».proof.Proof.Two.Pieces
public import Idealize.ShloMosaic.Lib.WholeRead

@[expose] public section

set_option maxRecDepth 16384

noncomputable section

namespace Cert.Proof.Two
open Cert.Kernel2Ideal Cert.Kernel2Ideal.Gen
open Idealize.ShloMosaic Idealize.ShloMosaic.TcCoe Idealize.SL.Sem

/-- Row `r`, column `n` of the second layer: codes times weight, scaled by row and by column, plus the bias. -/
def cmp (a : S992x3072.Idx → EReal) (q : S992x1.Idx → EReal) (w : S3072x256.Idx → EReal) (s b : S1x256.Idx → EReal) (r : Fin 992) (n : Fin 256) : EReal :=
  (∑ k : Fin 3072, a (ix2 r k) * w (ix2 k n)) * q (ix2 r 0) * s (ix2 0 n) + b (ix2 0 n)

variable (c : Dev nD) (arg0 : Memref sig .tc .vmem S992x3072 .fp8e4m3) (harg0 : arg0.IsWhole) (arg1 : Memref sig .tc .vmem S992x1 .f32) (harg1 : arg1.IsWhole) (arg3 : Memref sig .tc .vmem S1x256 .f32) (harg3 : arg3.IsWhole) (arg4 : Memref sig .tc .vmem S1x256 .f32) (harg4 : arg4.IsWhole) (arg5 : Memref sig .tc .vmem S124x8x128 .fp8e4m3) (harg5 : arg5.IsWhole) (arg6 : Memref sig .tc .vmem S4x8x31 .f32) (harg6 : arg6.IsWhole) (arg7 : Memref sig .tc .vmem S124x8x128 .fp8e4m3) (harg7 : arg7.IsWhole) (arg8 : Memref sig .tc .vmem S4x8x31 .f32) (harg8 : arg8.IsWhole) (arg9 : Memref sig .tc .vmem S3072x256 .fp8e4m3) (harg9 : arg9.IsWhole) (arg10 : Memref sig .tc .vmem S224x8192 .fp8e4m3) (harg10 : arg10.IsWhole) (arg11 : Memref sig .tc .vmem S768x8192 .fp8e4m3) (harg11 : arg11.IsWhole) (arg12 : Memref sig .tc .vmem S992x128 .f32) (harg12 : arg12.IsWhole) (arg13 : Memref sig .tc .vmem S12x2048x256 .f32) (harg13 : arg13.IsWhole)
    (x0 : Vec Ideal S992x3072 .fp8e4m3) (x1 : Vec Ideal S992x1 .f32) (x2 : Vec Ideal S1x256 .f32) (x3 : Vec Ideal S1x256 .f32) (fh0 : HbBuf0 (F := Ideal) c hbM0_0)

theorem ld_a (r : Fin 224) (k : Fin 3072) : kernelRun0_A.sl.v15 (F := Ideal) c arg0 harg0 arg10 x0 (ix2 r k) = x0 (ix2 ⟨r.val, by omega⟩ k) := by
  unfold kernelRun0_A.sl.v15 kernelRun0_A.sl.HS1_1
  erw [View.readCov_cons_toLoadRect]
  pointwise [k0_pay5]
  erw [Memref.IsWhole.readAt_unread]
  refine congrArg x0 (funext fun a => Fin.ext ?_)
  fin_cases a
  · show 0 + 1 * r.val = r.val; omega
  · show 0 + 1 * k.val = k.val; omega

theorem ld_b (r : Fin 768) (k : Fin 3072) : kernelRun0_A.sl.v32 (F := Ideal) c arg0 harg0 arg11 x0 (ix2 r k) = x0 (ix2 ⟨224 + r.val, by omega⟩ k) := by
  unfold kernelRun0_A.sl.v32 kernelRun0_A.sl.HS2_1
  erw [View.readCov_cons_toLoadRect]
  pointwise [k0_pay6]
  erw [Memref.IsWhole.readAt_unread]
  refine congrArg x0 (funext fun a => Fin.ext ?_)
  fin_cases a
  · show 224 + 1 * r.val = 224 + r.val; omega
  · show 0 + 1 * k.val = k.val; omega

theorem ld_w (k : Fin 3072) (n : Fin 256) : kernelRun0_A.sl.v16 (F := Ideal) c arg9 fh0 (ix2 k n) = (fh0 : S3072x256.Idx → EReal) (ix2 k n) := by
  unfold kernelRun0_A.sl.v16
  rw [View.readCov_eq_canon']
  refine Eq.trans (congrArg _ (show _ = (Rect.whole S3072x256).emb (ix2 k n) from funext fun a => Fin.ext ?_)) ((View.canon_cons_emb (Rect.whole S3072x256) _ [] (ix2 k n)).trans ?_)
  · fin_cases a
    · show 0 + 1 * k.val = 0 + 1 * k.val; rfl
    · show 0 + 1 * n.val = 0 + 1 * n.val; rfl
  · show kernelRun0_A.sl.dma0 c fh0 (ix2 k n) = _
    rfl

theorem sc_canon (r : Fin 992) (l : Fin 128) : View.canon (kernelRun0_A.sl.HS3_1 (F := Ideal) c arg1 harg1 x1) (ix2 r l) = x1 (ix2 r 0) := by
  unfold kernelRun0_A.sl.HS3_1
  rw [View.canon_cons_unit_lit _ _ _ (by decide)]
  pointwise [k0_pay7]
  erw [Memref.IsWhole.readAt_unread]
  refine congrArg x1 (funext fun a => Fin.ext ?_)
  fin_cases a
  · show 0 + 1 * r.val = r.val; omega
  · rfl

theorem ld_sa (r : Fin 224) (l : Fin 128) : kernelRun0_A.sl.v18 (F := Ideal) c arg1 harg1 arg12 x1 (ix2 r l) = x1 (ix2 ⟨r.val, by omega⟩ 0) := by
  unfold kernelRun0_A.sl.v18
  rw [View.readCov_eq_canon']
  refine Eq.trans (congrArg _ (funext fun a => Fin.ext ?_)) (sc_canon c arg1 harg1 x1 ⟨r.val, by omega⟩ l)
  fin_cases a
  · show 0 + 1 * r.val = r.val; omega
  · show 0 + 1 * l.val = l.val; omega

theorem ld_sb (r : Fin 768) (l : Fin 128) : kernelRun0_A.sl.v35 (F := Ideal) c arg1 harg1 arg12 x1 (ix2 r l) = x1 (ix2 ⟨224 + r.val, by omega⟩ 0) := by
  unfold kernelRun0_A.sl.v35
  rw [View.readCov_eq_canon']
  refine Eq.trans (congrArg _ (funext fun a => Fin.ext ?_)) (sc_canon c arg1 harg1 x1 ⟨224 + r.val, by omega⟩ l)
  fin_cases a
  · show 224 + 1 * r.val = 224 + r.val; omega
  · show 0 + 1 * l.val = l.val; omega

theorem ld_row (m : Memref sig .tc .vmem S1x256 .f32) (h : m.IsWhole) (x : Vec Ideal S1x256 .f32) (n : Fin 256) :
    View.readAt (Elt Ideal) m.view (Rect.unit (s := S1x256) ![0, 0] S1x256.size inb_S1x256_S1x256_0_0).toLoadRect (h.unread x) (ix2 0 n) = x (ix2 0 n) := by
  rw [Memref.IsWhole.readAt_unread]
  refine congrArg x (funext fun a => Fin.ext ?_)
  fin_cases a
  · rfl
  · show 0 + 1 * n.val = n.val; omega

theorem pay_a (r : Fin 224) (n : Fin 256) :
    kernelRun0_A.sl.r (F := Ideal) c arg0 harg0 arg1 harg1 arg3 harg3 arg4 harg4 arg9 arg10 arg12 x0 x1 x2 x3 fh0 (ix2 r n) = cmp x0 x1 fh0 x2 x3 ⟨r.val, by omega⟩ n := by
  unfold kernelRun0_A.sl.r cmp
  pointwise [k0_pay8, ld_a, ld_w, ld_sa]
  simp only [dite_eq_ite, ite_self]
  erw [ld_row arg3 harg3 x2 n, ld_row arg4 harg4 x3 n]

theorem pay_b (r : Fin 768) (n : Fin 256) :
    k0_pay10 (F := Ideal) (kernelRun0_A.sl.v32 c arg0 harg0 arg11 x0) (kernelRun0_A.sl.v16 c arg9 fh0) (kernelRun0_A.sl.v35 c arg1 harg1 arg12 x1)
      (View.readAt (Elt Ideal) arg3.view (Rect.unit (s := S1x256) ![0, 0] S1x256.size inb_S1x256_S1x256_0_0).toLoadRect (harg3.unread x2))
      (View.readAt (Elt Ideal) arg4.view (Rect.unit (s := S1x256) ![0, 0] S1x256.size inb_S1x256_S1x256_0_0).toLoadRect (harg4.unread x3))
      (ix3 0 r n) = cmp x0 x1 fh0 x2 x3 ⟨224 + r.val, by omega⟩ n := by
  unfold cmp
  pointwise [k0_pay10, ld_b, ld_w, ld_sb]
  simp only [dite_eq_ite, ite_self]
  erw [ld_row arg3 harg3 x2 n, ld_row arg4 harg4 x3 n]

/-- The layer's buffer, at an index of its first plane and of the rows in use. -/
theorem buf_canon (r : Fin 992) (n : Fin 256) :
    View.canon (kernelRun0_A.sl.HS4_2 (F := Ideal) c arg0 harg0 arg1 harg1 arg3 harg3 arg4 harg4 arg9 arg10 arg11 arg12 x0 x1 x2 x3 fh0)
      (ix3 (0 : Fin 12) (⟨r.val, by omega⟩ : Fin 2048) n) = cmp x0 x1 fh0 x2 x3 r n := by
  unfold kernelRun0_A.sl.HS4_2
  by_cases h : r.val < 224
  · rw [View.canon_cons_of_not_mem]
    · refine Eq.trans (congrArg _ (show _ = (Rect.unit (s := S12x2048x256) ![0, 0, 0] S1x224x256.size inb_S12x2048x256_S1x224x256_0_0_0).emb (ix3 (0 : Fin 1) (⟨r.val, h⟩ : Fin 224) n) from funext fun a => Fin.ext ?_)) ((View.canon_cons_emb _ _ [] _).trans ?_)
      · fin_cases a
        · rfl
        · show r.val = 0 + 1 * r.val; omega
        · show n.val = 0 + 1 * n.val; omega
      · pointwise [k0_pay9, pay_a]
    · intro hm
      have e := (Rect.mem_set_unit (s := S12x2048x256) (size := S1x768x256.size) (inb := inb_S12x2048x256_S1x768x256_0_224_0)).mp hm
      have : 224 ≤ r.val := (e 1).1
      omega
  · refine Eq.trans (congrArg _ (show _ = (Rect.unit (s := S12x2048x256) ![0, 224, 0] S1x768x256.size inb_S12x2048x256_S1x768x256_0_224_0).emb (ix3 (0 : Fin 1) (⟨r.val - 224, by omega⟩ : Fin 768) n) from funext fun a => Fin.ext ?_)) ((View.canon_cons_emb _ _ _ _).trans ?_)
    · fin_cases a
      · rfl
      · show r.val = 224 + 1 * (r.val - 224); omega
      · show n.val = 0 + 1 * n.val; omega
    · refine (pay_b c arg0 harg0 arg1 harg1 arg3 harg3 arg4 harg4 arg9 arg11 arg12 x0 x1 x2 x3 fh0 ⟨r.val - 224, by omega⟩ n).trans ?_
      exact congrArg (fun r => cmp x0 x1 fh0 x2 x3 r n) (Fin.ext (by show 224 + (r.val - 224) = r.val; omega))

/-- Tile `i` of half `p`: rows from `32 i`, columns from `128 p`. -/
theorem tile_apply (p : Fin 2) (i : Fin 31) (r : Fin 32) (d : Fin 128) :
    tileOf (F := Ideal) c arg0 harg0 arg1 harg1 arg3 harg3 arg4 harg4 arg9 arg10 arg11 arg12 arg13 x0 x1 x2 x3 fh0 p i (ix2 r d)
      = cmp x0 x1 fh0 x2 x3 ⟨32 * i.val + r.val, by omega⟩ ⟨128 * p.val + d.val, by omega⟩ := by
  unfold tileOf
  pointwise [k0_pay16]
  rw [View.readCov_eq_canon']
  refine Eq.trans (congrArg _ (funext fun a => Fin.ext ?_))
    (buf_canon c arg0 harg0 arg1 harg1 arg3 harg3 arg4 harg4 arg9 arg10 arg11 arg12 x0 x1 x2 x3 fh0 ⟨32 * i.val + r.val, by omega⟩ ⟨128 * p.val + d.val, by omega⟩)
  fin_cases a
  · rfl
  · show 32 * i.val + 1 * r.val = 32 * i.val + r.val; omega
  · show 128 * p.val + 1 * d.val = 128 * p.val + d.val; omega

end Cert.Proof.Two
end
-- ==== Proof.Two.Scale.lean ====
/-
  The power-of-two scale of a row, over the extended reals: twice the greatest table power not above `y` is the least power above `y`.
-/
module

public import proofs.«01_k».proof.Proof.Gen.Kernel2Ideal.Skeleton
public import proofs.«01_k».proof.Proof.Gen.Reference2Ideal.Skeleton
public import Idealize.ShloMosaic.Lib.Pointwise

@[expose] public section

set_option maxRecDepth 16384

noncomputable section

namespace Cert.Proof.Two

open Idealize.ShloMosaic Idealize.ShloMosaic.TcCoe

/-- The exponent of entry `l` of the kernel's table. -/
def expo (l : ℕ) : ℤ := (min l 252 : ℕ) - 126

/-- A power of two as an extended real. -/
def pw (e : ℤ) : EReal := (((2 : ℝ) ^ e : ℝ) : EReal)

theorem pw_le {a b : ℤ} : pw a ≤ pw b ↔ a ≤ b := by
  unfold pw
  rw [EReal.coe_le_coe_iff]
  exact zpow_le_zpow_iff_right₀ (by norm_num)

theorem pw_lt {a b : ℤ} : pw a < pw b ↔ a < b := by
  unfold pw
  rw [EReal.coe_lt_coe_iff]
  exact zpow_lt_zpow_iff_right₀ (by norm_num)

theorem pw_pos (e : ℤ) : 0 < pw e := by
  unfold pw
  exact_mod_cast zpow_pos (by norm_num : (0 : ℝ) < 2) e

theorem pw_mul_two (e : ℤ) : pw e * ((2 : ℝ) : EReal) = pw (e + 1) := by
  unfold pw
  rw [← EReal.coe_mul, zpow_add₀ (by norm_num : (2 : ℝ) ≠ 0), zpow_one]

theorem word_parts : ∀ l : Fin 256,
    ((IntOp.shli ArithUnit.vector (IntOp.addi (IntOp.minsi (BitVec.ofNat 32 l.val) 252#32) 1#32) 23#32).extractLsb' 31 1 == 1#1) = false
      ∧ ((IntOp.shli ArithUnit.vector (IntOp.addi (IntOp.minsi (BitVec.ofNat 32 l.val) 252#32) 1#32) 23#32).extractLsb' 23 8).toNat = min l.val 252 + 1
      ∧ ((IntOp.shli ArithUnit.vector (IntOp.addi (IntOp.minsi (BitVec.ofNat 32 l.val) 252#32) 1#32) 23#32).extractLsb' 0 23).toNat = 0 := by
  decide +kernel

theorem index_int : ∀ l : Fin 256, (IntOp.minsi (IntOp.subi (BitVec.ofNat 32 l.val) 125#32) 127#32).toInt = expo l.val + 1 := by
  decide +kernel

theorem kernel_power (l : Fin 256) : Cert.Kernel2Ideal.Gen.k0_pay11 (F := Ideal) (ix2 0 l) = pw (expo l.val) := by
  pointwise [Cert.Kernel2Ideal.Gen.k0_pay11]
  obtain ⟨h1, h2, h3⟩ := word_parts l
  unfold Ideal.ofBits Ideal.ieee
  simp only [show (8 + 23 : ℕ) = 31 from rfl, h1, h2, h3]
  have hm : min l.val 252 ≤ 252 := Nat.min_le_right _ _
  rw [if_neg (by omega), if_neg (by omega)]
  unfold pw expo
  refine congrArg (fun r : ℝ => (r : EReal)) ?_
  have e : ((min l.val 252 : ℕ) : ℤ) - 126 = 23 + ((((min l.val 252 + 1 : ℕ)) : ℤ) - (2 ^ (8 - 1) - 1) - (23 : ℕ)) := by
    push_cast; norm_num; ring
  rw [e, zpow_add₀ (by norm_num : (2 : ℝ) ≠ 0)]
  norm_num

theorem reference_power (l : Fin 256) : Cert.Reference2Ideal.Gen.k0_pay1 (F := Ideal) (ix2 0 l) = pw (expo l.val + 1) := by
  pointwise [Cert.Reference2Ideal.Gen.k0_pay1]
  show Ideal.exp2 (((IntOp.minsi (IntOp.subi (BitVec.ofNat 32 l.val) 125#32) 127#32).toInt : ℝ) : EReal) = _
  rw [index_int l]
  show ((Real.rpow 2 ((expo l.val + 1 : ℤ) : ℝ) : ℝ) : EReal) = _
  unfold pw
  refine congrArg (fun r : ℝ => (r : EReal)) ?_
  exact Real.rpow_intCast 2 _

theorem ofBits_bot : Ideal.ofBits FTy.f32 4286578688#32 = ⊥ := by simp [Ideal.ofBits, Ideal.ieee]
theorem ofBits_top : Ideal.ofBits FTy.f32 2139095040#32 = ⊤ := by simp [Ideal.ofBits, Ideal.ieee]
theorem ofBits_two : Ideal.ofBits FTy.f32 1073741824#32 = ((2 : ℝ) : EReal) := by
  simp [Ideal.ofBits, Ideal.ieee, -EReal.coe_mul]; norm_num
theorem ofBits_least : Ideal.ofBits FTy.f32 8388608#32 = pw (-126) := by
  unfold pw; simp [Ideal.ofBits, Ideal.ieee, -EReal.coe_mul]; norm_num
theorem ofBits_most : Ideal.ofBits FTy.f32 2130706432#32 = pw 127 := by
  unfold pw; simp [Ideal.ofBits, Ideal.ieee, -EReal.coe_mul, -EReal.coe_pow]; norm_num [-EReal.coe_pow]

theorem fold_max_eq {n : ℕ} (h : Fin n → EReal) (v : EReal) (l : Fin n) (hl : h l = v) (hv : ∀ k, h k ≤ v) :
    Finset.fold max (⊥ : EReal) h Finset.univ = v :=
  le_antisymm ((Finset.fold_max_le v).mpr ⟨bot_le, fun k _ => hv k⟩) ((Finset.le_fold_max v).mpr (.inr ⟨l, Finset.mem_univ l, hl.ge⟩))

theorem fold_min_eq {n : ℕ} (h : Fin n → EReal) (v : EReal) (l : Fin n) (hl : h l = v) (hv : ∀ k, v ≤ h k) :
    Finset.fold min (⊤ : EReal) h Finset.univ = v :=
  le_antisymm ((Finset.fold_min_le v).mpr (.inr ⟨l, Finset.mem_univ l, hl.le⟩)) ((Finset.le_fold_min v).mpr ⟨le_top, fun k _ => hv k⟩)

/-- The kernel's scale of a row whose maximum over 448 is `y`. -/
def kScale (y : EReal) : EReal :=
  if 0 < Finset.fold max (⊥ : EReal) (fun l : Fin 256 => if pw (expo l.val) ≤ y then pw (expo l.val) else 0) Finset.univ then
    Finset.fold max (⊥ : EReal) (fun l : Fin 256 => if pw (expo l.val) ≤ y then pw (expo l.val) else 0) Finset.univ * ((2 : ℝ) : EReal) else 1

/-- The reference's scale of that row. -/
def rScale (y : EReal) : EReal :=
  if y < pw (-126) then 1 else Finset.fold min (⊤ : EReal) (fun l : Fin 256 => if y < pw (expo l.val + 1) then pw (expo l.val + 1) else pw 127) Finset.univ

/-- Both are one, or one power of two. -/
theorem scales (y : EReal) : rScale y = kScale y ∧ ∃ e : ℤ, kScale y = pw e := by
  have one : (1 : EReal) = pw 0 := by unfold pw; simp
  unfold rScale kScale
  by_cases hy : y < pw (-126)
  · have h0 : Finset.fold max (⊥ : EReal) (fun l : Fin 256 => if pw (expo l.val) ≤ y then pw (expo l.val) else 0) Finset.univ = 0 := by
      have hn : ∀ l : Fin 256, ¬ pw (expo l.val) ≤ y := fun l h =>
        absurd (pw_lt.mp (lt_of_le_of_lt h hy)) (by unfold expo; omega)
      refine fold_max_eq _ 0 0 (if_neg (hn 0)) fun k => ?_
      simp only [if_neg (hn k), le_refl]
    rw [if_pos hy, h0, if_neg (lt_irrefl _)]
    exact ⟨rfl, 0, one⟩
  · have hy' : pw (-126) ≤ y := not_lt.mp hy
    let Q : ℕ → Prop := fun l => pw (expo l) ≤ y
    classical
    let L := Nat.findGreatest Q 252
    have hL : L ≤ 252 := Nat.findGreatest_le 252
    have hQ : pw (expo L) ≤ y := Nat.findGreatest_spec (P := Q) (Nat.zero_le 252) (by show pw (expo 0) ≤ y; exact hy')
    have hN : ∀ l, L < l → l ≤ 252 → y < pw (expo l) := fun l h1 h2 => not_le.mp (Nat.findGreatest_is_greatest (P := Q) h1 h2)
    have hf : Finset.fold max (⊥ : EReal) (fun l : Fin 256 => if pw (expo l.val) ≤ y then pw (expo l.val) else 0) Finset.univ = pw (expo L) := by
      refine fold_max_eq _ _ ⟨L, by omega⟩ (if_pos hQ) fun k => ?_
      show (if pw (expo k.val) ≤ y then pw (expo k.val) else 0) ≤ _
      split_ifs with h
      · refine pw_le.mpr ?_
        by_contra hc
        have hk : L < min k.val 252 := by unfold expo at hc; omega
        have := hN _ hk (Nat.min_le_right _ _)
        rw [show expo (min k.val 252) = expo k.val by unfold expo; omega] at this
        exact absurd h (not_le.mpr this)
      · exact (pw_pos _).le
    have hg : Finset.fold min (⊤ : EReal) (fun l : Fin 256 => if y < pw (expo l.val + 1) then pw (expo l.val + 1) else pw 127) Finset.univ = pw (expo L + 1) := by
      refine fold_min_eq _ _ ⟨L, by omega⟩ ?_ fun k => ?_
      · show (if y < pw (expo L + 1) then pw (expo L + 1) else pw 127) = _
        split_ifs with h
        · rfl
        · rcases Nat.lt_or_ge L 252 with h2 | h2
          · have := hN (L + 1) (by omega) (by omega)
            rw [show expo (L + 1) = expo L + 1 by unfold expo; omega] at this
            exact absurd this h
          · rw [show expo L + 1 = 127 by unfold expo; omega]
      · show _ ≤ (if y < pw (expo k.val + 1) then pw (expo k.val + 1) else pw 127)
        split_ifs with h
        · refine pw_le.mpr ?_
          have := pw_lt.mp (lt_of_le_of_lt hQ h)
          omega
        · exact pw_le.mpr (by unfold expo; omega)
    rw [if_neg hy, hf, hg, if_pos (pw_pos _), pw_mul_two]
    exact ⟨rfl, _, rfl⟩

/-- Multiplying by the reciprocal of a power of two is dividing by it. -/
theorem mul_div_pw (x : EReal) (e : ℤ) : x * Ideal.div 1 (pw e) = Ideal.div x (pw e) := by
  unfold Ideal.div
  rw [if_neg (pw_pos e).ne', if_neg (pw_pos e).ne', one_mul]

end Cert.Proof.Two

end
-- ==== Proof.Two.Quant.lean ====
/-
  The quantiser of a row: its scale and its codes, as the kernel's tiles and the reference's halves compute them.
-/
module

public import proofs.«01_k».proof.Proof.Two.Layer
public import proofs.«01_k».proof.Proof.Two.Scale

@[expose] public section

set_option maxRecDepth 16384

noncomputable section

namespace Cert.Proof.Two
open Idealize.ShloMosaic Idealize.ShloMosaic.TcCoe Idealize.SL.Sem

/-- The greatest magnitude of a row, over 448. -/
def top (t : Fin 128 → EReal) : EReal :=
  Finset.fold max (Ideal.ofBits FTy.f32 4286578688#32) (fun x => FloatOps.absf (F := Ideal) (t x)) Finset.univ * Ideal.ofBits FTy.f32 991054117#32

/-- The scale of a row. -/
def qscale (t : Fin 128 → EReal) : EReal := kScale (top t)

/-- The code of element `d` of a row. -/
def qcode (t : Fin 128 → EReal) (d : Fin 128) : EReal :=
  min (Ideal.ofBits FTy.f32 1138753536#32) (max (Ideal.ofBits FTy.f32 3286237184#32) (Ideal.div (t d) (qscale t)))

section Kernel
open Cert.Kernel2Ideal Cert.Kernel2Ideal.Gen

theorem scaleOf_apply (t : FVec Ideal S32x128 .f32) (r : Fin 32) : scaleOf t (ix2 r 0) = qscale (fun d => t (ix2 r d)) := by
  unfold scaleOf qscale kScale top
  pointwise [k0_pay17]
  simp only [kernel_power, ofBits_two]
  rw [ofBits_bot]

theorem codesOf_apply (t : FVec Ideal S32x128 .f32) (u : Fin 4) (g : Fin 8) (d : Fin 128) :
    codesOf t (ix3 u g d) = qcode (fun d => t (ix2 (⟨8 * u.val + g.val, by omega⟩ : Fin 32) d)) d := by
  unfold codesOf
  have e := scaleOf_apply t ⟨u.val * 8 + g.val, by omega⟩
  obtain ⟨_, n, hn⟩ := scales (top fun d => t (ix2 (⟨u.val * 8 + g.val, by omega⟩ : Fin 32) d))
  unfold scaleOf at e
  pointwise [k0_pay19, e]
  unfold qscale qcode
  rw [hn, mul_div_pw, ← hn]
  have h : (⟨u.val * 8 + g.val, by omega⟩ : Fin 32) = ⟨8 * u.val + g.val, by omega⟩ := Fin.ext (by show u.val * 8 + g.val = 8 * u.val + g.val; omega)
  simp only [h, qscale]

theorem spread_apply (t : FVec Ideal S32x128 .f32) (r : Fin 32) (d : Fin 128) : k0_pay18 (F := Ideal) k0_pay11 t (ix2 r d) = qscale (fun d => t (ix2 r d)) := by
  have e := scaleOf_apply t r
  unfold scaleOf at e
  pointwise [k0_pay18, e]

theorem acc_apply (t : Fin 31 → FVec Ideal S32x128 .f32) (b : Fin 4) (g : Fin 8) (l : Fin 128) : ∀ n : ℕ, n ≤ 31 →
    l.val < n → colAcc t b.val n (ix2 g l) = qscale (fun d => t ⟨(31 * b.val + l.val) / 4 % 31, Nat.mod_lt _ (by decide)⟩ (ix2 (⟨8 * ((31 * b.val + l.val) % 4) + g.val, by omega⟩ : Fin 32) d)) := by
  intro n
  induction n with
  | zero => intro _ h; omega
  | succ n ih =>
    intro hn hl
    show colStep t b.val n (colAcc t b.val n) (ix2 g l) = _
    unfold colStep
    pointwise [spread_apply]
    by_cases h : l.val = n
    · subst h
      exact if_pos (by simp [IntOp.cmpi])
    · rw [← ih (by omega) (by omega)]
      refine if_neg ?_
      have hne : BitVec.ofNat 32 l.val ≠ BitVec.ofNat 32 n := fun he => h (by
        have := congrArg BitVec.toNat he
        simp only [BitVec.toNat_ofNat] at this
        rw [Nat.mod_eq_of_lt (by omega), Nat.mod_eq_of_lt (by omega)] at this
        exact this)
      rw [show IntOp.cmpi .eq (BitVec.ofNat 32 l.val) (BitVec.ofNat 32 n) = BitVec.ofBool (BitVec.ofNat 32 l.val == BitVec.ofNat 32 n) from rfl, beq_eq_false_iff_ne.mpr hne]
      decide

theorem plane_apply (t : Fin 31 → FVec Ideal S32x128 .f32) (b : Fin 4) (g : Fin 8) (l : Fin 31) :
    k0_pay211 (colAcc t b.val 31) (ix3 0 g l) = qscale (fun d => t ⟨(31 * b.val + l.val) / 4 % 31, Nat.mod_lt _ (by decide)⟩ (ix2 (⟨8 * ((31 * b.val + l.val) % 4) + g.val, by omega⟩ : Fin 32) d)) := by
  pointwise [k0_pay211]
  exact acc_apply t b g ⟨l.val, by omega⟩ 31 le_rfl l.isLt
end Kernel

section Reference
open Cert.Reference2Ideal Cert.Reference2Ideal.Gen

theorem r_scaleK (t : FVec Ideal S992x128 .f32) (r : Fin 992) : k0_pay7 (F := Ideal) k0_pay1 t (ix2 r 0) = qscale (fun d => t (ix2 r d)) := by
  rw [qscale, ← (scales _).1]
  unfold rScale top
  pointwise [k0_pay7]
  simp only [reference_power]
  rw [ofBits_top, ofBits_most, ofBits_least, ofBits_bot]

theorem r_cmp (x0 : Vec Ideal S992x3072 .fp8e4m3) (x1 : Vec Ideal S992x1 .f32) (x2 : Vec Ideal S3072x256 .fp8e4m3) (x3 x4 : Vec Ideal S1x256 .f32) (r : Fin 992) (n : Fin 256) :
    k0_pay2 x0 x2 x1 x3 x4 (ix2 r n) = cmp x0 x1 x2 x3 x4 r n := by
  unfold cmp
  pointwise [k0_pay2]

theorem r_half0 (x0 : Vec Ideal S992x3072 .fp8e4m3) (x1 : Vec Ideal S992x1 .f32) (x2 : Vec Ideal S3072x256 .fp8e4m3) (x3 x4 : Vec Ideal S1x256 .f32) (r : Fin 992) (d : Fin 128) :
    k0_pay3 x0 x2 x1 x3 x4 (ix2 r d) = cmp x0 x1 x2 x3 x4 r ⟨d.val, by omega⟩ := by
  pointwise [k0_pay3, r_cmp]

theorem r_half1 (x0 : Vec Ideal S992x3072 .fp8e4m3) (x1 : Vec Ideal S992x1 .f32) (x2 : Vec Ideal S3072x256 .fp8e4m3) (x3 x4 : Vec Ideal S1x256 .f32) (r : Fin 992) (d : Fin 128) :
    k0_pay4 x0 x2 x1 x3 x4 (ix2 r d) = cmp x0 x1 x2 x3 x4 r ⟨128 + d.val, by omega⟩ := by
  pointwise [k0_pay4, r_cmp]

theorem r_scaleC (x0 : Vec Ideal S992x3072 .fp8e4m3) (x1 : Vec Ideal S992x1 .f32) (x2 : Vec Ideal S3072x256 .fp8e4m3) (x3 x4 : Vec Ideal S1x256 .f32) (r : Fin 992) :
    k0_pay5 x0 x2 x1 x3 x4 (ix2 r 0) = qscale (fun d => k0_pay3 x0 x2 x1 x3 x4 (ix2 r d)) := r_scaleK (k0_pay3 x0 x2 x1 x3 x4) r

theorem r_codes (t : FVec Ideal S992x128 .f32) (u : Fin 124) (g : Fin 8) (d : Fin 128) (s : FVec Ideal S992x1 .f32)
    (hs : ∀ r, s (ix2 r 0) = qscale (fun d => t (ix2 r d))) :
    k0_pay6 t s (ix3 u g d) = qcode (fun d => t (ix2 (⟨8 * u.val + g.val, by omega⟩ : Fin 992) d)) d := by
  pointwise [k0_pay6, hs]
  unfold qcode
  have h : (⟨u.val * 8 + g.val, by omega⟩ : Fin 992) = ⟨8 * u.val + g.val, by omega⟩ := Fin.ext (by show u.val * 8 + g.val = 8 * u.val + g.val; omega)
  simp only [h]

theorem r_codesV (t : FVec Ideal S992x128 .f32) (u : Fin 124) (g : Fin 8) (d : Fin 128) :
    k0_pay8 k0_pay1 t (ix3 u g d) = qcode (fun d => t (ix2 (⟨8 * u.val + g.val, by omega⟩ : Fin 992) d)) d := r_codes t u g d (k0_pay7 k0_pay1 t) (r_scaleK t)
end Reference

end Cert.Proof.Two
end
-- ==== Proof.Two.Arrays.lean ====
/-
  The second layer's four results as whole arrays: what the kernel's program leaves, a function of the arguments.
-/
module

public import proofs.«01_k».proof.Proof.Two.Quant
public import proofs.«01_k».proof.Proof.Gen.Kernel2Ideal.Value
public import Idealize.ShloMosaic.Lib.Pipeline.ValueKit
public import Idealize.ShloMosaic.Lib.Claim

@[expose] public section

set_option maxRecDepth 16384

noncomputable section

namespace Cert.Proof.Two

open Idealize.ShloMosaic Idealize.ShloMosaic.TcCoe Idealize.SL.Sem
open Idealize.ShloMosaic.Pipeline (Dat Cfg Window)
open Cert.Kernel2Ideal Cert.Kernel2Ideal.Gen

/-- Row `r`, half `p` of the second layer. -/
def half (p : Fin 2) (a : S992x3072.Idx → EReal) (q : S992x1.Idx → EReal) (w : S3072x256.Idx → EReal) (s b : S1x256.Idx → EReal) (r : Fin 992) (d : Fin 128) : EReal :=
  cmp a q w s b r ⟨128 * p.val + d.val, by omega⟩

/-- The codes of half `p`: block `u`, row `g`, column `d`. -/
def KC (p : Fin 2) (a : S992x3072.Idx → EReal) (q : S992x1.Idx → EReal) (w : S3072x256.Idx → EReal) (s b : S1x256.Idx → EReal) : S124x8x128.Idx → EReal := fun y =>
  qcode (half p a q w s b ⟨8 * (y 0).val + (y 1).val, by
    have h0 : (y 0).val < 124 := (y 0).isLt
    have h1 : (y 1).val < 8 := (y 1).isLt
    omega⟩) (y 2)

/-- The scales of half `p`: batch `b`, row `g`, block `l`. -/
def KS (p : Fin 2) (a : S992x3072.Idx → EReal) (q : S992x1.Idx → EReal) (w : S3072x256.Idx → EReal) (s b : S1x256.Idx → EReal) : S4x8x31.Idx → EReal := fun y =>
  qscale (half p a q w s b ⟨8 * (31 * (y 0).val + (y 2).val) + (y 1).val, by
    have h0 : (y 0).val < 4 := (y 0).isLt
    have h1 : (y 1).val < 8 := (y 1).isLt
    have h2 : (y 2).val < 31 := (y 2).isLt
    omega⟩)

/-- A vector as a one-row matrix. -/
def rowOf (x : S256.Idx → EReal) : S1x256.Idx → EReal := fun j => x (ix1 (j 1))

theorem row_cast (x : S256.Idx → EReal) (h : S256.ShapeCasts S1x256) (j : S1x256.Idx) : shapeCast S1x256 x h j = rowOf x j := by
  rw [eq_ix2 j]
  unfold rowOf
  pointwise

section Body
variable (c : Dev nD) (arg0 : Memref sig .tc .vmem S992x3072 .fp8e4m3) (harg0 : arg0.IsWhole) (arg1 : Memref sig .tc .vmem S992x1 .f32) (harg1 : arg1.IsWhole) (arg3 : Memref sig .tc .vmem S1x256 .f32) (harg3 : arg3.IsWhole) (arg4 : Memref sig .tc .vmem S1x256 .f32) (harg4 : arg4.IsWhole) (arg5 : Memref sig .tc .vmem S124x8x128 .fp8e4m3) (harg5 : arg5.IsWhole) (arg6 : Memref sig .tc .vmem S4x8x31 .f32) (harg6 : arg6.IsWhole) (arg7 : Memref sig .tc .vmem S124x8x128 .fp8e4m3) (harg7 : arg7.IsWhole) (arg8 : Memref sig .tc .vmem S4x8x31 .f32) (harg8 : arg8.IsWhole) (arg9 : Memref sig .tc .vmem S3072x256 .fp8e4m3) (harg9 : arg9.IsWhole) (arg10 : Memref sig .tc .vmem S224x8192 .fp8e4m3) (harg10 : arg10.IsWhole) (arg11 : Memref sig .tc .vmem S768x8192 .fp8e4m3) (harg11 : arg11.IsWhole) (arg12 : Memref sig .tc .vmem S992x128 .f32) (harg12 : arg12.IsWhole) (arg13 : Memref sig .tc .vmem S12x2048x256 .f32) (harg13 : arg13.IsWhole)
    (x0 : Vec Ideal S992x3072 .fp8e4m3) (x1 : Vec Ideal S992x1 .f32) (x2 : Vec Ideal S1x256 .f32) (x3 : Vec Ideal S1x256 .f32) (fh0 : HbBuf0 (F := Ideal) c hbM0_0)

theorem codes_tile (p : Fin 2) (i : Fin 31) (x : S4x8x128.Idx) :
    codesOf (tileOf c arg0 harg0 arg1 harg1 arg3 harg3 arg4 harg4 arg9 arg10 arg11 arg12 arg13 x0 x1 x2 x3 fh0 p i) x = KC p x0 x1 fh0 x2 x3 ((Rect.unit (s := S124x8x128) ![4 * i.val, 0, 0] S4x8x128.size (inbC i)).emb x) := by
  refine ((congrArg _ (eq_ix3 x)).trans (codesOf_apply _ (x 0) (x 1) (x 2))).trans ?_
  unfold KC half
  have h0 : (x 0).val < 4 := (x 0).isLt
  have h1 : (x 1).val < 8 := (x 1).isLt
  refine congr (congrArg qcode (funext fun d => ?_)) (Fin.ext ?_)
  · rw [tile_apply]
    refine congrArg (fun r => cmp x0 x1 fh0 x2 x3 r _) (Fin.ext ?_)
    show 32 * i.val + (8 * (x 0).val + (x 1).val) = 8 * (4 * i.val + 1 * (x 0).val) + (0 + 1 * (x 1).val)
    omega
  · show (x 2).val = 0 + 1 * (x 2).val
    omega

theorem scales_tile (p : Fin 2) (b : Fin 4) (x : S1x8x31.Idx) :
    k0_pay211 (colAcc (tileOf c arg0 harg0 arg1 harg1 arg3 harg3 arg4 harg4 arg9 arg10 arg11 arg12 arg13 x0 x1 x2 x3 fh0 p) b.val 31) x = KS p x0 x1 fh0 x2 x3 ((Rect.unit (s := S4x8x31) ![b.val, 0, 0] S1x8x31.size (inbB b)).emb x) := by
  have h0 : (x 0).val < 1 := (x 0).isLt
  have h1 : (x 1).val < 8 := (x 1).isLt
  have h2 : (x 2).val < 31 := (x 2).isLt
  have e : x = ix3 (0 : Fin 1) (x 1) (x 2) := funext fun a => by
    match a with
    | ⟨0, _⟩ => exact Fin.ext (by show (x 0).val = 0; omega)
    | ⟨1, _⟩ => rfl
    | ⟨2, _⟩ => rfl
  rw [e]
  refine (plane_apply _ b (x 1) (x 2)).trans ?_
  unfold KS half
  refine congrArg qscale (funext fun d => ?_)
  rw [tile_apply]
  refine congrArg (fun r => cmp x0 x1 fh0 x2 x3 r _) (Fin.ext ?_)
  show 32 * ((31 * b.val + (x 2).val) / 4 % 31) + (8 * ((31 * b.val + (x 2).val) % 4) + (x 1).val) = 8 * (31 * (b.val + 1 * 0) + (0 + 1 * (x 2).val)) + (0 + 1 * (x 1).val)
  omega

theorem out4 : out0_A_4 c arg0 harg0 arg1 harg1 arg3 harg3 arg4 harg4 arg5 harg5 arg6 harg6 arg7 harg7 arg8 harg8 arg9 harg9 arg10 harg10 arg11 harg11 arg12 harg12 arg13 harg13 x0 x1 x2 x3 fh0 = KC 0 x0 x1 fh0 x2 x3 := by
  unfold out0_A_4
  rw [View.read_writes_junk_eq_canon]
  funext y
  refine View.canon_apply_of_pieces (KC 0 x0 x1 fh0 x2 x3) _ ?_ y (cover0_A_4 c arg0 harg0 arg1 harg1 arg3 harg3 arg4 harg4 arg5 harg5 arg6 harg6 arg7 harg7 arg8 harg8 arg9 harg9 arg10 harg10 arg11 harg11 arg12 harg12 arg13 harg13 x0 x1 x2 x3 fh0 y)
  rw [pieces4]
  intro pc hpc x
  obtain ⟨i, rfl⟩ := List.mem_ofFn.mp hpc
  exact codes_tile c arg0 harg0 arg1 harg1 arg3 harg3 arg4 harg4 arg9 arg10 arg11 arg12 arg13 x0 x1 x2 x3 fh0 0 i.rev x

theorem out5 : out0_A_5 c arg0 harg0 arg1 harg1 arg3 harg3 arg4 harg4 arg5 harg5 arg6 harg6 arg7 harg7 arg8 harg8 arg9 harg9 arg10 harg10 arg11 harg11 arg12 harg12 arg13 harg13 x0 x1 x2 x3 fh0 = KS 0 x0 x1 fh0 x2 x3 := by
  unfold out0_A_5
  rw [View.read_writes_junk_eq_canon]
  funext y
  refine View.canon_apply_of_pieces (KS 0 x0 x1 fh0 x2 x3) _ ?_ y (cover0_A_5 c arg0 harg0 arg1 harg1 arg3 harg3 arg4 harg4 arg5 harg5 arg6 harg6 arg7 harg7 arg8 harg8 arg9 harg9 arg10 harg10 arg11 harg11 arg12 harg12 arg13 harg13 x0 x1 x2 x3 fh0 y)
  rw [pieces5]
  intro pc hpc x
  obtain ⟨i, rfl⟩ := List.mem_ofFn.mp hpc
  exact scales_tile c arg0 harg0 arg1 harg1 arg3 harg3 arg4 harg4 arg9 arg10 arg11 arg12 arg13 x0 x1 x2 x3 fh0 0 i.rev x

theorem out6 : out0_A_6 c arg0 harg0 arg1 harg1 arg3 harg3 arg4 harg4 arg5 harg5 arg6 harg6 arg7 harg7 arg8 harg8 arg9 harg9 arg10 harg10 arg11 harg11 arg12 harg12 arg13 harg13 x0 x1 x2 x3 fh0 = KC 1 x0 x1 fh0 x2 x3 := by
  unfold out0_A_6
  rw [View.read_writes_junk_eq_canon]
  funext y
  refine View.canon_apply_of_pieces (KC 1 x0 x1 fh0 x2 x3) _ ?_ y (cover0_A_6 c arg0 harg0 arg1 harg1 arg3 harg3 arg4 harg4 arg5 harg5 arg6 harg6 arg7 harg7 arg8 harg8 arg9 harg9 arg10 harg10 arg11 harg11 arg12 harg12 arg13 harg13 x0 x1 x2 x3 fh0 y)
  rw [pieces6]
  intro pc hpc x
  obtain ⟨i, rfl⟩ := List.mem_ofFn.mp hpc
  exact codes_tile c arg0 harg0 arg1 harg1 arg3 harg3 arg4 harg4 arg9 arg10 arg11 arg12 arg13 x0 x1 x2 x3 fh0 1 i.rev x

theorem out7 : out0_A_7 c arg0 harg0 arg1 harg1 arg3 harg3 arg4 harg4 arg5 harg5 arg6 harg6 arg7 harg7 arg8 harg8 arg9 harg9 arg10 harg10 arg11 harg11 arg12 harg12 arg13 harg13 x0 x1 x2 x3 fh0 = KS 1 x0 x1 fh0 x2 x3 := by
  unfold out0_A_7
  rw [View.read_writes_junk_eq_canon]
  funext y
  refine View.canon_apply_of_pieces (KS 1 x0 x1 fh0 x2 x3) _ ?_ y (cover0_A_7 c arg0 harg0 arg1 harg1 arg3 harg3 arg4 harg4 arg5 harg5 arg6 harg6 arg7 harg7 arg8 harg8 arg9 harg9 arg10 harg10 arg11 harg11 arg12 harg12 arg13 harg13 x0 x1 x2 x3 fh0 y)
  rw [pieces7]
  intro pc hpc x
  obtain ⟨i, rfl⟩ := List.mem_ofFn.mp hpc
  exact scales_tile c arg0 harg0 arg1 harg1 arg3 harg3 arg4 harg4 arg9 arg10 arg11 arg12 arg13 x0 x1 x2 x3 fh0 1 i.rev x
end Body

section Program
variable (m : (ℓ : Loc nD τ sig) → Buf (Elt Ideal) ℓ) (c : Dev nD)

theorem k_iblk0 (t : Fin cfg0.N) : (iblk m c 0 t : S992x3072.Idx → EReal) = m ((c : Thread nD τ).loc main_arg0) := by
  rw [← V_main_arg0 m c]
  refine funext fun j => congrArg (V m c main_arg0 : S992x3072.Idx → EReal) (funext fun a => Fin.ext ?_)
  fin_cases a
  · show win0_0.index t 0 * win0_0.size 0 + 1 * (j 0).val = (j 0).val; rw [show win0_0.index t 0 * win0_0.size 0 = 0 from Nat.zero_mul _]; omega
  · show win0_0.index t 1 * win0_0.size 1 + 1 * (j 1).val = (j 1).val; rw [show win0_0.index t 1 * win0_0.size 1 = 0 from Nat.zero_mul _]; omega

theorem k_iblk1 (t : Fin cfg0.N) : (iblk m c 1 t : S992x1.Idx → EReal) = m ((c : Thread nD τ).loc main_arg1) := by
  rw [← V_main_arg1 m c]
  refine funext fun j => congrArg (V m c main_arg1 : S992x1.Idx → EReal) (funext fun a => Fin.ext ?_)
  fin_cases a
  · show win0_1.index t 0 * win0_1.size 0 + 1 * (j 0).val = (j 0).val; rw [show win0_1.index t 0 * win0_1.size 0 = 0 from Nat.zero_mul _]; omega
  · show win0_1.index t 1 * win0_1.size 1 + 1 * (j 1).val = (j 1).val; rw [show win0_1.index t 1 * win0_1.size 1 = 0 from Nat.zero_mul _]; omega

theorem k_V0 : (V m c main_v0 : S1x256.Idx → EReal) = rowOf (m ((c : Thread nD τ).loc main_arg3)) := by
  show StableHlo.after hostOps0 (fun b => m (c, b)) (Proc.devRef .tc main_v0) = _
  after_results
  refine funext fun (j : S1x256.Idx) => ?_
  exact row_cast _ _ j

theorem k_iblk2 (t : Fin cfg0.N) : (iblk m c 2 t : S1x256.Idx → EReal) = rowOf (m ((c : Thread nD τ).loc main_arg3)) := by
  rw [← k_V0 m c]
  refine funext fun j => congrArg (V m c main_v0 : S1x256.Idx → EReal) (funext fun a => Fin.ext ?_)
  fin_cases a
  · show win0_2.index t 0 * win0_2.size 0 + 1 * (j 0).val = (j 0).val; rw [show win0_2.index t 0 * win0_2.size 0 = 0 from Nat.zero_mul _]; omega
  · show win0_2.index t 1 * win0_2.size 1 + 1 * (j 1).val = (j 1).val; rw [show win0_2.index t 1 * win0_2.size 1 = 0 from Nat.zero_mul _]; omega

theorem k_V1 : (V m c main_v1 : S1x256.Idx → EReal) = rowOf (m ((c : Thread nD τ).loc main_arg4)) := by
  show StableHlo.after hostOps0 (fun b => m (c, b)) (Proc.devRef .tc main_v1) = _
  after_results
  refine funext fun (j : S1x256.Idx) => ?_
  exact row_cast _ _ j

theorem k_iblk3 (t : Fin cfg0.N) : (iblk m c 3 t : S1x256.Idx → EReal) = rowOf (m ((c : Thread nD τ).loc main_arg4)) := by
  rw [← k_V1 m c]
  refine funext fun j => congrArg (V m c main_v1 : S1x256.Idx → EReal) (funext fun a => Fin.ext ?_)
  fin_cases a
  · show win0_3.index t 0 * win0_3.size 0 + 1 * (j 0).val = (j 0).val; rw [show win0_3.index t 0 * win0_3.size 0 = 0 from Nat.zero_mul _]; omega
  · show win0_3.index t 1 * win0_3.size 1 + 1 * (j 1).val = (j 1).val; rw [show win0_3.index t 1 * win0_3.size 1 = 0 from Nat.zero_mul _]; omega

theorem k_final4 : (dats m 0 c).arrAt 4 cfg0.N = KC 0 (m ((c : Thread nD τ).loc main_arg0)) (m ((c : Thread nD τ).loc main_arg1)) (m ((c : Thread nD τ).loc main_arg2)) (rowOf (m ((c : Thread nD τ).loc main_arg3))) (rowOf (m ((c : Thread nD τ).loc main_arg4))) := by
  refine (dats m 0 c).arrAt_eq_of_covers 4 _ (by decide +kernel) fun t hf y => ?_
  have e0 := k_iblk0 m c t
  have e1 := k_iblk1 m c t
  have e2 := k_iblk2 m c t
  have e3 := k_iblk3 m c t
  have e4 := V_main_arg2 m c
  refine (congrFun (Cert.Kernel2Ideal.Value.flushed4_A m c t) y).trans ?_
  rw [out4]
  blk_simp
  erw [e0, e1, e2, e3, e4]
  refine congrArg (KC 0 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))) ?_
  have e : ∀ t : Fin cfg0.N, win0_4.index t = ![0, 0, 0] := by decide +kernel
  blk_ext [e]

theorem k_final5 : (dats m 0 c).arrAt 5 cfg0.N = KS 0 (m ((c : Thread nD τ).loc main_arg0)) (m ((c : Thread nD τ).loc main_arg1)) (m ((c : Thread nD τ).loc main_arg2)) (rowOf (m ((c : Thread nD τ).loc main_arg3))) (rowOf (m ((c : Thread nD τ).loc main_arg4))) := by
  refine (dats m 0 c).arrAt_eq_of_covers 5 _ (by decide +kernel) fun t hf y => ?_
  have e0 := k_iblk0 m c t
  have e1 := k_iblk1 m c t
  have e2 := k_iblk2 m c t
  have e3 := k_iblk3 m c t
  have e4 := V_main_arg2 m c
  refine (congrFun (Cert.Kernel2Ideal.Value.flushed5_A m c t) y).trans ?_
  rw [out5]
  blk_simp
  erw [e0, e1, e2, e3, e4]
  refine congrArg (KS 0 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))) ?_
  have e : ∀ t : Fin cfg0.N, win0_5.index t = ![0, 0, 0] := by decide +kernel
  blk_ext [e]

theorem k_final6 : (dats m 0 c).arrAt 6 cfg0.N = KC 1 (m ((c : Thread nD τ).loc main_arg0)) (m ((c : Thread nD τ).loc main_arg1)) (m ((c : Thread nD τ).loc main_arg2)) (rowOf (m ((c : Thread nD τ).loc main_arg3))) (rowOf (m ((c : Thread nD τ).loc main_arg4))) := by
  refine (dats m 0 c).arrAt_eq_of_covers 6 _ (by decide +kernel) fun t hf y => ?_
  have e0 := k_iblk0 m c t
  have e1 := k_iblk1 m c t
  have e2 := k_iblk2 m c t
  have e3 := k_iblk3 m c t
  have e4 := V_main_arg2 m c
  refine (congrFun (Cert.Kernel2Ideal.Value.flushed6_A m c t) y).trans ?_
  rw [out6]
  blk_simp
  erw [e0, e1, e2, e3, e4]
  refine congrArg (KC 1 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))) ?_
  have e : ∀ t : Fin cfg0.N, win0_6.index t = ![0, 0, 0] := by decide +kernel
  blk_ext [e]

theorem k_final7 : (dats m 0 c).arrAt 7 cfg0.N = KS 1 (m ((c : Thread nD τ).loc main_arg0)) (m ((c : Thread nD τ).loc main_arg1)) (m ((c : Thread nD τ).loc main_arg2)) (rowOf (m ((c : Thread nD τ).loc main_arg3))) (rowOf (m ((c : Thread nD τ).loc main_arg4))) := by
  refine (dats m 0 c).arrAt_eq_of_covers 7 _ (by decide +kernel) fun t hf y => ?_
  have e0 := k_iblk0 m c t
  have e1 := k_iblk1 m c t
  have e2 := k_iblk2 m c t
  have e3 := k_iblk3 m c t
  have e4 := V_main_arg2 m c
  refine (congrFun (Cert.Kernel2Ideal.Value.flushed7_A m c t) y).trans ?_
  rw [out7]
  blk_simp
  erw [e0, e1, e2, e3, e4]
  refine congrArg (KS 1 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))) ?_
  have e : ∀ t : Fin cfg0.N, win0_7.index t = ![0, 0, 0] := by decide +kernel
  blk_ext [e]

/-- The kernel's run, read: its four results are the claimed arrays of its arguments, and they are unchanged. -/
theorem k_run (ρ : Dev nD → PrngReg) : θ_run (defs (F := Ideal)) (onTc (τ := τ) (main (F := Ideal))) ⟨m, fun _ => 0, ρ⟩ (fun r => ∀ c : Dev nD,
      r.2.mem ((c.tc : Thread nD τ).loc main_v2_0) = KC 0 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))
      ∧ r.2.mem ((c.tc : Thread nD τ).loc main_v2_1) = KS 0 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))
      ∧ r.2.mem ((c.tc : Thread nD τ).loc main_v2_2) = KC 1 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))
      ∧ r.2.mem ((c.tc : Thread nD τ).loc main_v2_3) = KS 1 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨(h c).1.trans (k_final4 m c), (h c).2.1.trans (k_final5 m c), (h c).2.2.1.trans (k_final6 m c), (h c).2.2.2.1.trans (k_final7 m c), (h c).2.2.2.2⟩)
    (Cert.Kernel2Ideal.Value.run_blocks m ρ)
end Program

end Cert.Proof.Two
end
-- ==== Proof.Two.Reference.lean ====
/-
  The second layer's four results as the reference's program leaves them: the same functions of its own arguments.
-/
module

public import proofs.«01_k».proof.Proof.Two.Arrays
public import proofs.«01_k».proof.Proof.Gen.Reference2Ideal.Frame
public import Idealize.ShloMosaic.Lib.Pipeline.ValueKit
public import Idealize.ShloMosaic.Lib.Claim

@[expose] public section

set_option maxRecDepth 16384

noncomputable section

namespace Cert.Proof.Two

open Idealize.ShloMosaic Idealize.ShloMosaic.TcCoe Idealize.SL.Sem
open Idealize.ShloMosaic.Pipeline (Dat Cfg Window)
open Cert.Reference2Ideal Cert.Reference2Ideal.Gen

/-- The scales of half `p` as the reference's body keeps them: one column. -/
def KR (p : Fin 2) (a : S992x3072.Idx → EReal) (q : S992x1.Idx → EReal) (w : S3072x256.Idx → EReal) (s b : S1x256.Idx → EReal) : S992x1.Idx → EReal := fun y =>
  qscale (half p a q w s b (y 0))

section Body
variable (x0 : Vec Ideal S992x3072 .fp8e4m3) (x1 : Vec Ideal S992x1 .f32) (x2 : Vec Ideal S3072x256 .fp8e4m3) (x3 x4 : Vec Ideal S1x256 .f32)

theorem half_zero (r : Fin 992) : (fun d => k0_pay3 x0 x2 x1 x3 x4 (ix2 r d)) = half 0 x0 x1 x2 x3 x4 r := funext fun d => by
  rw [r_half0]
  unfold half
  exact congrArg (cmp x0 x1 x2 x3 x4 r) (Fin.ext (by show d.val = 128 * 0 + d.val; omega))

theorem half_one (r : Fin 992) : (fun d => k0_pay4 x0 x2 x1 x3 x4 (ix2 r d)) = half 1 x0 x1 x2 x3 x4 r := funext fun d => by
  rw [r_half1]
  unfold half
  exact congrArg (cmp x0 x1 x2 x3 x4 r) (Fin.ext (by show 128 + d.val = 128 * 1 + d.val; omega))

theorem colIdx (y : S992x1.Idx) : y = ix2 (y 0) (0 : Fin 1) := funext fun a => by
  have h : (y 1).val < 1 := (y 1).isLt
  match a with
  | ⟨0, _⟩ => rfl
  | ⟨1, _⟩ => exact Fin.ext (by show (y 1).val = 0; omega)

theorem val5 : k0_pay6 (k0_pay3 x0 x2 x1 x3 x4) (k0_pay5 x0 x2 x1 x3 x4) = KC 0 x0 x1 x2 x3 x4 := by
  refine funext fun (y : S124x8x128.Idx) => ?_
  refine ((congrArg _ (eq_ix3 y)).trans (r_codes _ (y 0) (y 1) (y 2) _ (r_scaleC x0 x1 x2 x3 x4))).trans ?_
  exact congrArg (fun f => qcode f (y 2)) (half_zero x0 x1 x2 x3 x4 _)

theorem val6 : k0_pay5 x0 x2 x1 x3 x4 = KR 0 x0 x1 x2 x3 x4 := by
  refine funext fun (y : S992x1.Idx) => ?_
  refine ((congrArg _ (colIdx y)).trans (r_scaleC x0 x1 x2 x3 x4 (y 0))).trans ?_
  exact congrArg qscale (half_zero x0 x1 x2 x3 x4 (y 0))

theorem val7 : k0_pay8 k0_pay1 (k0_pay4 x0 x2 x1 x3 x4) = KC 1 x0 x1 x2 x3 x4 := by
  refine funext fun (y : S124x8x128.Idx) => ?_
  refine ((congrArg _ (eq_ix3 y)).trans (r_codesV _ (y 0) (y 1) (y 2))).trans ?_
  exact congrArg (fun f => qcode f (y 2)) (half_one x0 x1 x2 x3 x4 _)

theorem val8 : k0_pay7 k0_pay1 (k0_pay4 x0 x2 x1 x3 x4) = KR 1 x0 x1 x2 x3 x4 := by
  refine funext fun (y : S992x1.Idx) => ?_
  refine ((congrArg _ (colIdx y)).trans (r_scaleK _ (y 0))).trans ?_
  exact congrArg qscale (half_one x0 x1 x2 x3 x4 (y 0))

theorem r_out5 : out0_5 (F := Ideal) x0 x1 x2 x3 x4 = KC 0 x0 x1 x2 x3 x4 := by
  rw [← val5]
  refine funext fun (y : S124x8x128.Idx) => ?_
  unfold out0_5 k0_pay11
  frame_out

theorem r_out6 : out0_6 (F := Ideal) x0 x1 x2 x3 x4 = KR 0 x0 x1 x2 x3 x4 := by
  rw [← val6]
  refine funext fun (y : S992x1.Idx) => ?_
  unfold out0_6 k0_pay11
  frame_out

theorem r_out7 : out0_7 (F := Ideal) x0 x1 x2 x3 x4 = KC 1 x0 x1 x2 x3 x4 := by
  rw [← val7]
  refine funext fun (y : S124x8x128.Idx) => ?_
  unfold out0_7 k0_pay9 k0_pay10
  frame_out

theorem r_out8 : out0_8 (F := Ideal) x0 x1 x2 x3 x4 = KR 1 x0 x1 x2 x3 x4 := by
  rw [← val8]
  refine funext fun (y : S992x1.Idx) => ?_
  unfold out0_8 k0_pay9 k0_pay10
  frame_out
end Body

section Program
variable (m : (ℓ : Loc nD τ sig) → Buf (Elt Ideal) ℓ) (c : Dev nD)

theorem r_iblk0 (t : Fin cfg0.N) : (iblk m c 0 t : S992x3072.Idx → EReal) = m ((c : Thread nD τ).loc main_arg0) := by
  rw [← V_main_arg0 m c]
  refine funext fun j => congrArg (V m c main_arg0 : S992x3072.Idx → EReal) (funext fun a => Fin.ext ?_)
  fin_cases a
  · show win0_0.index t 0 * win0_0.size 0 + 1 * (j 0).val = (j 0).val; rw [show win0_0.index t 0 * win0_0.size 0 = 0 from Nat.zero_mul _]; omega
  · show win0_0.index t 1 * win0_0.size 1 + 1 * (j 1).val = (j 1).val; rw [show win0_0.index t 1 * win0_0.size 1 = 0 from Nat.zero_mul _]; omega

theorem r_iblk1 (t : Fin cfg0.N) : (iblk m c 1 t : S992x1.Idx → EReal) = m ((c : Thread nD τ).loc main_arg1) := by
  rw [← V_main_arg1 m c]
  refine funext fun j => congrArg (V m c main_arg1 : S992x1.Idx → EReal) (funext fun a => Fin.ext ?_)
  fin_cases a
  · show win0_1.index t 0 * win0_1.size 0 + 1 * (j 0).val = (j 0).val; rw [show win0_1.index t 0 * win0_1.size 0 = 0 from Nat.zero_mul _]; omega
  · show win0_1.index t 1 * win0_1.size 1 + 1 * (j 1).val = (j 1).val; rw [show win0_1.index t 1 * win0_1.size 1 = 0 from Nat.zero_mul _]; omega

theorem r_iblk2 (t : Fin cfg0.N) : (iblk m c 2 t : S3072x256.Idx → EReal) = m ((c : Thread nD τ).loc main_arg2) := by
  rw [← V_main_arg2 m c]
  refine funext fun j => congrArg (V m c main_arg2 : S3072x256.Idx → EReal) (funext fun a => Fin.ext ?_)
  fin_cases a
  · show win0_2.index t 0 * win0_2.size 0 + 1 * (j 0).val = (j 0).val; rw [show win0_2.index t 0 * win0_2.size 0 = 0 from Nat.zero_mul _]; omega
  · show win0_2.index t 1 * win0_2.size 1 + 1 * (j 1).val = (j 1).val; rw [show win0_2.index t 1 * win0_2.size 1 = 0 from Nat.zero_mul _]; omega

theorem r_V0 : (V m c main_v0 : S1x256.Idx → EReal) = rowOf (m ((c : Thread nD τ).loc main_arg3)) := by
  show StableHlo.after hostOps0 (fun b => m (c, b)) (Proc.devRef .tc main_v0) = _
  after_results
  refine funext fun (j : S1x256.Idx) => ?_
  exact row_cast _ _ j

theorem r_iblk3 (t : Fin cfg0.N) : (iblk m c 3 t : S1x256.Idx → EReal) = rowOf (m ((c : Thread nD τ).loc main_arg3)) := by
  rw [← r_V0 m c]
  refine funext fun j => congrArg (V m c main_v0 : S1x256.Idx → EReal) (funext fun a => Fin.ext ?_)
  fin_cases a
  · show win0_3.index t 0 * win0_3.size 0 + 1 * (j 0).val = (j 0).val; rw [show win0_3.index t 0 * win0_3.size 0 = 0 from Nat.zero_mul _]; omega
  · show win0_3.index t 1 * win0_3.size 1 + 1 * (j 1).val = (j 1).val; rw [show win0_3.index t 1 * win0_3.size 1 = 0 from Nat.zero_mul _]; omega

theorem r_V1 : (V m c main_v1 : S1x256.Idx → EReal) = rowOf (m ((c : Thread nD τ).loc main_arg4)) := by
  show StableHlo.after hostOps0 (fun b => m (c, b)) (Proc.devRef .tc main_v1) = _
  after_results
  refine funext fun (j : S1x256.Idx) => ?_
  exact row_cast _ _ j

theorem r_iblk4 (t : Fin cfg0.N) : (iblk m c 4 t : S1x256.Idx → EReal) = rowOf (m ((c : Thread nD τ).loc main_arg4)) := by
  rw [← r_V1 m c]
  refine funext fun j => congrArg (V m c main_v1 : S1x256.Idx → EReal) (funext fun a => Fin.ext ?_)
  fin_cases a
  · show win0_4.index t 0 * win0_4.size 0 + 1 * (j 0).val = (j 0).val; rw [show win0_4.index t 0 * win0_4.size 0 = 0 from Nat.zero_mul _]; omega
  · show win0_4.index t 1 * win0_4.size 1 + 1 * (j 1).val = (j 1).val; rw [show win0_4.index t 1 * win0_4.size 1 = 0 from Nat.zero_mul _]; omega

theorem r_final5 : (dats m 0 c).arrAt 5 cfg0.N = KC 0 (m ((c : Thread nD τ).loc main_arg0)) (m ((c : Thread nD τ).loc main_arg1)) (m ((c : Thread nD τ).loc main_arg2)) (rowOf (m ((c : Thread nD τ).loc main_arg3))) (rowOf (m ((c : Thread nD τ).loc main_arg4))) := by
  refine (dats m 0 c).arrAt_eq_of_covers 5 _ (by decide +kernel) fun t hf y => ?_
  have e0 := r_iblk0 m c t
  have e1 := r_iblk1 m c t
  have e2 := r_iblk2 m c t
  have e3 := r_iblk3 m c t
  have e4 := r_iblk4 m c t
  blk_simp
  rw [after0_5, r_out5]
  erw [e0, e1, e2, e3, e4]
  refine congrArg (KC 0 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))) ?_
  have e : ∀ t : Fin cfg0.N, win0_5.index t = ![0, 0, 0] := by decide +kernel
  blk_ext [e]

theorem r_final6 : (dats m 0 c).arrAt 6 cfg0.N = KR 0 (m ((c : Thread nD τ).loc main_arg0)) (m ((c : Thread nD τ).loc main_arg1)) (m ((c : Thread nD τ).loc main_arg2)) (rowOf (m ((c : Thread nD τ).loc main_arg3))) (rowOf (m ((c : Thread nD τ).loc main_arg4))) := by
  refine (dats m 0 c).arrAt_eq_of_covers 6 _ (by decide +kernel) fun t hf y => ?_
  have e0 := r_iblk0 m c t
  have e1 := r_iblk1 m c t
  have e2 := r_iblk2 m c t
  have e3 := r_iblk3 m c t
  have e4 := r_iblk4 m c t
  blk_simp
  rw [after0_6, r_out6]
  erw [e0, e1, e2, e3, e4]
  refine congrArg (KR 0 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))) ?_
  have e : ∀ t : Fin cfg0.N, win0_6.index t = ![0, 0] := by decide +kernel
  blk_ext [e]

theorem r_final7 : (dats m 0 c).arrAt 7 cfg0.N = KC 1 (m ((c : Thread nD τ).loc main_arg0)) (m ((c : Thread nD τ).loc main_arg1)) (m ((c : Thread nD τ).loc main_arg2)) (rowOf (m ((c : Thread nD τ).loc main_arg3))) (rowOf (m ((c : Thread nD τ).loc main_arg4))) := by
  refine (dats m 0 c).arrAt_eq_of_covers 7 _ (by decide +kernel) fun t hf y => ?_
  have e0 := r_iblk0 m c t
  have e1 := r_iblk1 m c t
  have e2 := r_iblk2 m c t
  have e3 := r_iblk3 m c t
  have e4 := r_iblk4 m c t
  blk_simp
  rw [after0_7, r_out7]
  erw [e0, e1, e2, e3, e4]
  refine congrArg (KC 1 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))) ?_
  have e : ∀ t : Fin cfg0.N, win0_7.index t = ![0, 0, 0] := by decide +kernel
  blk_ext [e]

theorem r_final8 : (dats m 0 c).arrAt 8 cfg0.N = KR 1 (m ((c : Thread nD τ).loc main_arg0)) (m ((c : Thread nD τ).loc main_arg1)) (m ((c : Thread nD τ).loc main_arg2)) (rowOf (m ((c : Thread nD τ).loc main_arg3))) (rowOf (m ((c : Thread nD τ).loc main_arg4))) := by
  refine (dats m 0 c).arrAt_eq_of_covers 8 _ (by decide +kernel) fun t hf y => ?_
  have e0 := r_iblk0 m c t
  have e1 := r_iblk1 m c t
  have e2 := r_iblk2 m c t
  have e3 := r_iblk3 m c t
  have e4 := r_iblk4 m c t
  blk_simp
  rw [after0_8, r_out8]
  erw [e0, e1, e2, e3, e4]
  refine congrArg (KR 1 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))) ?_
  have e : ∀ t : Fin cfg0.N, win0_8.index t = ![0, 0] := by decide +kernel
  blk_ext [e]

/-- The scales' column made batch by row by block. -/
theorem spread (X : S992x1.Idx → EReal) (h : S992x1.ShapeCasts S4x31x8) (h' : S4x31x8.Transposes [0, 2, 1] S4x8x31) (y : S4x8x31.Idx) :
    transpose S4x8x31 [0, 2, 1] (shapeCast S4x31x8 X h) h' y = X (ix2 ⟨8 * (31 * (y 0).val + (y 2).val) + (y 1).val, by
      have h0 : (y 0).val < 4 := (y 0).isLt
      have h1 : (y 1).val < 8 := (y 1).isLt
      have h2 : (y 2).val < 31 := (y 2).isLt
      omega⟩ 0) := by
  rw [eq_ix3 y]
  pointwise
  exact congrArg X (congrArg (fun r => ix2 r (0 : Fin 1)) (Fin.ext (by show (y 0).val * 248 + (y 2).val * 8 + (y 1).val = 8 * (31 * (y 0).val + (y 2).val) + (y 1).val; omega)))

theorem r_result6 : (Pipeline.afterTail₀ cfgs (dats m) 0 (V0 m) [hostOps1] c main_v4 : S4x8x31.Idx → EReal) = KS 0 (m ((c : Thread nD τ).loc main_arg0)) (m ((c : Thread nD τ).loc main_arg1)) (m ((c : Thread nD τ).loc main_arg2)) (rowOf (m ((c : Thread nD τ).loc main_arg3))) (rowOf (m ((c : Thread nD τ).loc main_arg4))) := by
  unfold Pipeline.afterTail₀
  simp only [List.flatten_cons, List.flatten_nil, List.append_nil]
  after_results
  have e : Pipeline.withArrays (cfgs 0).spec c (V0 m c) (fun w => (dats m 0 c).arrAt w (cfgs 0).N) (Proc.tc.devRef main_v2_1) = (dats m 0 c).arrAt 6 cfg0.N :=
    Pipeline.withArrays_arr (cfgs 0).spec launch0.win.arr_inj c _ _ 6
  rw [e, r_final6]
  refine funext fun (y : S4x8x31.Idx) => ?_
  exact spread _ _ _ y

theorem r_result8 : (Pipeline.afterTail₀ cfgs (dats m) 0 (V0 m) [hostOps1] c main_v6 : S4x8x31.Idx → EReal) = KS 1 (m ((c : Thread nD τ).loc main_arg0)) (m ((c : Thread nD τ).loc main_arg1)) (m ((c : Thread nD τ).loc main_arg2)) (rowOf (m ((c : Thread nD τ).loc main_arg3))) (rowOf (m ((c : Thread nD τ).loc main_arg4))) := by
  unfold Pipeline.afterTail₀
  simp only [List.flatten_cons, List.flatten_nil, List.append_nil]
  after_results
  have e : Pipeline.withArrays (cfgs 0).spec c (V0 m c) (fun w => (dats m 0 c).arrAt w (cfgs 0).N) (Proc.tc.devRef main_v2_3) = (dats m 0 c).arrAt 8 cfg0.N :=
    Pipeline.withArrays_arr (cfgs 0).spec launch0.win.arr_inj c _ _ 8
  rw [e, r_final8]
  refine funext fun (y : S4x8x31.Idx) => ?_
  exact spread _ _ _ y

/-- The reference's run, read: its four results are the claimed arrays of its arguments, and they are unchanged. -/
theorem r_run (ρ : Dev nD → PrngReg) : θ_run (defs (F := Ideal)) (onTc (τ := τ) (main (F := Ideal))) ⟨m, fun _ => 0, ρ⟩ (fun r => ∀ c : Dev nD,
      r.2.mem ((c.tc : Thread nD τ).loc main_v2_0) = KC 0 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))
      ∧ r.2.mem ((c.tc : Thread nD τ).loc main_v4) = KS 0 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))
      ∧ r.2.mem ((c.tc : Thread nD τ).loc main_v2_2) = KC 1 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))
      ∧ r.2.mem ((c.tc : Thread nD τ).loc main_v6) = KS 1 (m ((c : Thread nD τ).loc main_arg0)) (m ((c : Thread nD τ).loc main_arg1)) (m ((c : Thread nD τ).loc main_arg2)) (rowOf (m ((c : Thread nD τ).loc main_arg3))) (rowOf (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨((h.1 c).1 5).trans (r_final5 m c), ((h.1 c).2 main_v4 (Pipeline.mem_restRefs_of main_v4 (by decide) (by decide))).trans (r_result6 m c),
      ((h.1 c).1 7).trans (r_final7 m c), ((h.1 c).2 main_v6 (Pipeline.mem_restRefs_of main_v6 (by decide) (by decide))).trans (r_result8 m c), h.2 c⟩)
    (θ_run_and (run_main m ρ) (unchanged m ρ))
end Program

end Cert.Proof.Two
end
-- ==== Proof.Kernel.Kit.lean ====
/-
  What the proof of `Kernel` is stated over: the contents of its buffers when the kernel is entered, the blocks its windows
  show, and the memrefs, semaphores and the array left in HBM that its body is given.
-/
module

public import proofs.«01_k».proof.Proof.Gen.Kernel
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.OfKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (t : Fin cfg0.N) : Memref sig .tc .vmem S992x8192 .fp8e4m3 := win0_0.stage (cfg0.slots t 0)
abbrev hs0_0 (t : Fin cfg0.N) : (ms0_0 t).IsWhole := hstage0_0 0
abbrev ms0_1 (t : Fin cfg0.N) : Memref sig .tc .vmem S992x1 .f32 := win0_1.stage (cfg0.slots t 1)
abbrev hs0_1 (t : Fin cfg0.N) : (ms0_1 t).IsWhole := hstage0_1 0
abbrev ms0_2 (t : Fin cfg0.N) : Memref sig .tc .vmem S1x3072 .f32 := win0_2.stage (cfg0.slots t 2)
abbrev hs0_2 (t : Fin cfg0.N) : (ms0_2 t).IsWhole := hstage0_2 0
abbrev ms0_3 (t : Fin cfg0.N) : Memref sig .tc .vmem S1x3072 .f32 := win0_3.stage (cfg0.slots t 3)
abbrev hs0_3 (t : Fin cfg0.N) : (ms0_3 t).IsWhole := hstage0_3 0
abbrev ms0_4 (t : Fin cfg0.N) : Memref sig .tc .vmem S12x224x256 .f32 := win0_4.stage (cfg0.slots t 4)
abbrev hs0_4 (t : Fin cfg0.N) : (ms0_4 t).IsWhole := hstage0_4 0
abbrev ms0_5 (t : Fin cfg0.N) : Memref sig .tc .vmem S12x768x256 .f32 := win0_5.stage (cfg0.slots t 5)
abbrev hs0_5 (t : Fin cfg0.N) : (ms0_5 t).IsWhole := hstage0_5 0
/-- The scratch operands: whole scoped buffers of the kernel's own, passed beside the windows. -/
abbrev scM0_0 : Memref sig .tc .vmem S12x8192x256 .fp8e4m3 := Memref.whole cc0_scratch0
abbrev scM0_1 : Memref sig .tc .vmem S224x8192 .fp8e4m3 := Memref.whole cc0_scratch1
abbrev scM0_2 : Memref sig .tc .vmem S768x8192 .fp8e4m3 := Memref.whole cc0_scratch2
abbrev scM0_3 : Memref sig .tc .vmem S992x128 .f32 := Memref.whole cc0_scratch3
/-- The operands left in HBM that the body copies into scratch itself, whole. -/
abbrev hbM0_0 : Memref sig .tc .hbm S8192x3072 .fp8e4m3 := Memref.whole main_arg2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 12 → SemLoc sig := fun j => (![SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17] : Fin 12 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [Pipeline.ownSems0_eq_of_list c osem0 [0, 1, 2, 3, 4, 5, 6, 7, 8, 9, 10, 11] (by decide) (by decide)]; rfl
/-- The HBM operands the body moves, as references: unscoped, no window's array (`Pipeline.restRefs`). -/
def H0 : Finset (Ref sig .tc) := {main_arg2}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt0 c hbM0_0 (V m c main_arg2))) := by
  rw [Pipeline.ΦD_eq, scopedRest0_eq, ownSems00_eq, hbmPts0_eq]; simp only [scM0_0, scM0_1, scM0_2, scM0_3, owns_whole]; try rfl

end Cert.Proof.OfKernel

end
-- ==== Proof.Kernel.Tiles.lean ====
/-
  The weight's twelve tiles: their slices of the array in HBM, the twelve slabs of the buffer they are copied into and the
  twelve semaphores of those copies, each under one name; the array and the buffer held whole are their parts held apart.
-/
module

public import proofs.«01_k».proof.Proof.Kernel.Kit

@[expose] public section

set_option maxRecDepth 16384

noncomputable section

namespace Cert.Proof.OfKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev wM : Memref sig .tc .hbm S8192x3072 .fp8e4m3 := Memref.whole main_arg2
abbrev ringM : Memref sig .tc .vmem S12x8192x256 .fp8e4m3 := Memref.whole cc0_scratch0

/-! ## Names -/

abbrev tileOff (b : Fin 12) : Fin 2 → Nat := ![0, 256 * b.val]
theorem tileOff_inb (b : Fin 12) : ∀ a, tileOff b a + S8192x256.size a ≤ S8192x3072.size a := by
  have := b.isLt; intro a; fin_cases a
  · show 0 + 8192 ≤ 8192; omega
  · show 256 * b.val + 256 ≤ 3072; omega
abbrev slabOff (s : Fin 12) : Fin 3 → Nat := ![s.val, 0, 0]
theorem slabOff_inb (s : Fin 12) : ∀ a, slabOff s a + S1x8192x256.size a ≤ S12x8192x256.size a := by
  have := s.isLt; intro a; fin_cases a
  · show s.val + 1 ≤ 12; omega
  · show 0 + 8192 ≤ 8192; omega
  · show 0 + 256 ≤ 256; omega
abbrev semOff (s : Fin 12) : Fin 1 → Nat := ![s.val]
theorem semOff_inb (s : Fin 12) : ∀ a, semOff s a + S1.size a ≤ S12.size a := by
  have := s.isLt; intro a; fin_cases a; show s.val + 1 ≤ 12; omega

/-- Tile `b` of the weight: its columns `256 b` to `256 b + 255`. -/
def tile (b : Fin 12) : Memref sig .tc .hbm S8192x256 .fp8e4m3 :=
  wM.slice (Rect.unit (s := S8192x3072) (tileOff b) S8192x256.size (tileOff_inb b)) (fun _ => rfl)
/-- Slab `s` of the buffer. -/
def slab (s : Fin 12) : Memref sig .tc .vmem S8192x256 .fp8e4m3 :=
  (ringM.slice (Rect.unit (s := S12x8192x256) (slabOff s) S1x8192x256.size (slabOff_inb s)) (fun _ => rfl)).squeeze S8192x256 squeezes_S1x8192x256_S8192x256
/-- Slab `s`'s semaphore. -/
def csm (s : Fin 12) : DmaSems sig S_ := (cc0_scratch4.slice (Rect.unit (s := S12) (semOff s) S1.size (semOff_inb s))).squeeze S_ squeezes_S1_S_

instance (s : Fin 12) : ClosedOff (slabOff s) := ⟨slabOff s, rfl⟩
instance (b : Fin 12) : ClosedOff (tileOff b) := ⟨tileOff b, rfl⟩

theorem csm_congr {off : Fin 1 → Nat} {s : Fin 12} (e : off = semOff s) (hh) :
    (cc0_scratch4.slice (Rect.unit (s := S12) off S1.size hh)).squeeze S_ squeezes_S1_S_ = csm s :=
  congrArg (fun A : DmaSems sig S1 => A.squeeze S_ squeezes_S1_S_) (SemArray.slice_unit_congr _ e _ _)
theorem slab_congr {off : Fin 3 → Nat} {s : Fin 12} (e : off = slabOff s) (hh hs) :
    (ringM.slice (Rect.unit (s := S12x8192x256) off S1x8192x256.size hh) hs).squeeze S8192x256 squeezes_S1x8192x256_S8192x256 = slab s :=
  congrArg (fun M : Memref sig .tc .vmem S1x8192x256 .fp8e4m3 => M.squeeze S8192x256 squeezes_S1x8192x256_S8192x256) (Memref.slice_unit_congr _ e _ _ _ _)
theorem tile_congr {off : Fin 2 → Nat} {b : Fin 12} (e : off = tileOff b) (hh hs) :
    wM.slice (Rect.unit (s := S8192x3072) off S8192x256.size hh) hs = tile b := Memref.slice_unit_congr _ e _ _ _ (fun _ => rfl)

/-! ## The body's literal slices under those names -/

@[sl_canon] theorem semL0 (hh) : (cc0_scratch4.slice (Rect.unit (s := S12) ![0] S1.size hh)).squeeze S_ squeezes_S1_S_ = csm 0 := csm_congr (by decide) _
@[sl_canon] theorem slabL0 (hh hs) : (ringM.slice (Rect.unit (s := S12x8192x256) ![0, 0, 0] S1x8192x256.size hh) hs).squeeze S8192x256 squeezes_S1x8192x256_S8192x256 = slab 0 := slab_congr (by decide) _ _
@[sl_canon] theorem tileL0 (hh hs) : wM.slice (Rect.unit (s := S8192x3072) ![0, 0] S8192x256.size hh) hs = tile 0 := tile_congr (by decide) _ _
@[sl_canon] theorem semL1 (hh) : (cc0_scratch4.slice (Rect.unit (s := S12) ![1] S1.size hh)).squeeze S_ squeezes_S1_S_ = csm 1 := csm_congr (by decide) _
@[sl_canon] theorem slabL1 (hh hs) : (ringM.slice (Rect.unit (s := S12x8192x256) ![1, 0, 0] S1x8192x256.size hh) hs).squeeze S8192x256 squeezes_S1x8192x256_S8192x256 = slab 1 := slab_congr (by decide) _ _
@[sl_canon] theorem tileL1 (hh hs) : wM.slice (Rect.unit (s := S8192x3072) ![0, 256] S8192x256.size hh) hs = tile 1 := tile_congr (by decide) _ _
@[sl_canon] theorem semL2 (hh) : (cc0_scratch4.slice (Rect.unit (s := S12) ![2] S1.size hh)).squeeze S_ squeezes_S1_S_ = csm 2 := csm_congr (by decide) _
@[sl_canon] theorem slabL2 (hh hs) : (ringM.slice (Rect.unit (s := S12x8192x256) ![2, 0, 0] S1x8192x256.size hh) hs).squeeze S8192x256 squeezes_S1x8192x256_S8192x256 = slab 2 := slab_congr (by decide) _ _
@[sl_canon] theorem tileL2 (hh hs) : wM.slice (Rect.unit (s := S8192x3072) ![0, 512] S8192x256.size hh) hs = tile 2 := tile_congr (by decide) _ _
@[sl_canon] theorem semL3 (hh) : (cc0_scratch4.slice (Rect.unit (s := S12) ![3] S1.size hh)).squeeze S_ squeezes_S1_S_ = csm 3 := csm_congr (by decide) _
@[sl_canon] theorem slabL3 (hh hs) : (ringM.slice (Rect.unit (s := S12x8192x256) ![3, 0, 0] S1x8192x256.size hh) hs).squeeze S8192x256 squeezes_S1x8192x256_S8192x256 = slab 3 := slab_congr (by decide) _ _
@[sl_canon] theorem tileL3 (hh hs) : wM.slice (Rect.unit (s := S8192x3072) ![0, 768] S8192x256.size hh) hs = tile 3 := tile_congr (by decide) _ _
@[sl_canon] theorem semL4 (hh) : (cc0_scratch4.slice (Rect.unit (s := S12) ![4] S1.size hh)).squeeze S_ squeezes_S1_S_ = csm 4 := csm_congr (by decide) _
@[sl_canon] theorem slabL4 (hh hs) : (ringM.slice (Rect.unit (s := S12x8192x256) ![4, 0, 0] S1x8192x256.size hh) hs).squeeze S8192x256 squeezes_S1x8192x256_S8192x256 = slab 4 := slab_congr (by decide) _ _
@[sl_canon] theorem tileL4 (hh hs) : wM.slice (Rect.unit (s := S8192x3072) ![0, 1024] S8192x256.size hh) hs = tile 4 := tile_congr (by decide) _ _
@[sl_canon] theorem semL5 (hh) : (cc0_scratch4.slice (Rect.unit (s := S12) ![5] S1.size hh)).squeeze S_ squeezes_S1_S_ = csm 5 := csm_congr (by decide) _
@[sl_canon] theorem slabL5 (hh hs) : (ringM.slice (Rect.unit (s := S12x8192x256) ![5, 0, 0] S1x8192x256.size hh) hs).squeeze S8192x256 squeezes_S1x8192x256_S8192x256 = slab 5 := slab_congr (by decide) _ _
@[sl_canon] theorem tileL5 (hh hs) : wM.slice (Rect.unit (s := S8192x3072) ![0, 1280] S8192x256.size hh) hs = tile 5 := tile_congr (by decide) _ _
@[sl_canon] theorem semL6 (hh) : (cc0_scratch4.slice (Rect.unit (s := S12) ![6] S1.size hh)).squeeze S_ squeezes_S1_S_ = csm 6 := csm_congr (by decide) _
@[sl_canon] theorem slabL6 (hh hs) : (ringM.slice (Rect.unit (s := S12x8192x256) ![6, 0, 0] S1x8192x256.size hh) hs).squeeze S8192x256 squeezes_S1x8192x256_S8192x256 = slab 6 := slab_congr (by decide) _ _
@[sl_canon] theorem tileL6 (hh hs) : wM.slice (Rect.unit (s := S8192x3072) ![0, 1536] S8192x256.size hh) hs = tile 6 := tile_congr (by decide) _ _
@[sl_canon] theorem semL7 (hh) : (cc0_scratch4.slice (Rect.unit (s := S12) ![7] S1.size hh)).squeeze S_ squeezes_S1_S_ = csm 7 := csm_congr (by decide) _
@[sl_canon] theorem slabL7 (hh hs) : (ringM.slice (Rect.unit (s := S12x8192x256) ![7, 0, 0] S1x8192x256.size hh) hs).squeeze S8192x256 squeezes_S1x8192x256_S8192x256 = slab 7 := slab_congr (by decide) _ _
@[sl_canon] theorem tileL7 (hh hs) : wM.slice (Rect.unit (s := S8192x3072) ![0, 1792] S8192x256.size hh) hs = tile 7 := tile_congr (by decide) _ _
@[sl_canon] theorem semL8 (hh) : (cc0_scratch4.slice (Rect.unit (s := S12) ![8] S1.size hh)).squeeze S_ squeezes_S1_S_ = csm 8 := csm_congr (by decide) _
@[sl_canon] theorem slabL8 (hh hs) : (ringM.slice (Rect.unit (s := S12x8192x256) ![8, 0, 0] S1x8192x256.size hh) hs).squeeze S8192x256 squeezes_S1x8192x256_S8192x256 = slab 8 := slab_congr (by decide) _ _
@[sl_canon] theorem tileL8 (hh hs) : wM.slice (Rect.unit (s := S8192x3072) ![0, 2048] S8192x256.size hh) hs = tile 8 := tile_congr (by decide) _ _
@[sl_canon] theorem semL9 (hh) : (cc0_scratch4.slice (Rect.unit (s := S12) ![9] S1.size hh)).squeeze S_ squeezes_S1_S_ = csm 9 := csm_congr (by decide) _
@[sl_canon] theorem slabL9 (hh hs) : (ringM.slice (Rect.unit (s := S12x8192x256) ![9, 0, 0] S1x8192x256.size hh) hs).squeeze S8192x256 squeezes_S1x8192x256_S8192x256 = slab 9 := slab_congr (by decide) _ _
@[sl_canon] theorem tileL9 (hh hs) : wM.slice (Rect.unit (s := S8192x3072) ![0, 2304] S8192x256.size hh) hs = tile 9 := tile_congr (by decide) _ _
@[sl_canon] theorem semL10 (hh) : (cc0_scratch4.slice (Rect.unit (s := S12) ![10] S1.size hh)).squeeze S_ squeezes_S1_S_ = csm 10 := csm_congr (by decide) _
@[sl_canon] theorem slabL10 (hh hs) : (ringM.slice (Rect.unit (s := S12x8192x256) ![10, 0, 0] S1x8192x256.size hh) hs).squeeze S8192x256 squeezes_S1x8192x256_S8192x256 = slab 10 := slab_congr (by decide) _ _
@[sl_canon] theorem tileL10 (hh hs) : wM.slice (Rect.unit (s := S8192x3072) ![0, 2560] S8192x256.size hh) hs = tile 10 := tile_congr (by decide) _ _
@[sl_canon] theorem semL11 (hh) : (cc0_scratch4.slice (Rect.unit (s := S12) ![11] S1.size hh)).squeeze S_ squeezes_S1_S_ = csm 11 := csm_congr (by decide) _
@[sl_canon] theorem slabL11 (hh hs) : (ringM.slice (Rect.unit (s := S12x8192x256) ![11, 0, 0] S1x8192x256.size hh) hs).squeeze S8192x256 squeezes_S1x8192x256_S8192x256 = slab 11 := slab_congr (by decide) _ _
@[sl_canon] theorem tileL11 (hh hs) : wM.slice (Rect.unit (s := S8192x3072) ![0, 2816] S8192x256.size hh) hs = tile 11 := tile_congr (by decide) _ _

/-! ## The loop's slices, at trip `k` -/

theorem trips_eq : k0_t1_loop.trips = 12 := by decide +kernel
/-- Trip `k` as the tile it works on. -/
abbrev kk (k : Fin k0_t1_loop.trips) : Fin 12 := ⟨k.val, trips_eq ▸ k.isLt⟩
@[sl_canon] theorem semK (k : Fin k0_t1_loop.trips) (hh) : (cc0_scratch4.slice (Rect.unit (s := S12) (k0_off1 k) S1.size hh)).squeeze S_ squeezes_S1_S_ = csm (kk k) := csm_congr (k0_off1_eq k) _
@[sl_canon] theorem slabK (k : Fin k0_t1_loop.trips) (hh hs) : (ringM.slice (Rect.unit (s := S12x8192x256) (k0_off2 k) S1x8192x256.size hh) hs).squeeze S8192x256 squeezes_S1x8192x256_S8192x256 = slab (kk k) := slab_congr (k0_off2_eq k) _ _
@[sl_canon] theorem tileK (k : Fin k0_t1_loop.trips) (hh hs) : wM.slice (Rect.unit (s := S8192x3072) (k0_off3 k) S8192x256.size hh) hs = tile (kk k) := tile_congr (k0_off3_eq k) _ _

/-! ## The pieces: a tile at home, a slab held, a slab's semaphore at zero -/

section Pieces
variable (c : Dev nD) (XA : Buf (Elt F) (wM.view.loc (c : Thread nD τ)))

abbrev cellP (s : Fin 12) : sProp 𝕄 := semVal ((c : Thread nD τ), SemLoc.dma (csm s).sem) 0
abbrev slabP (s : Fin 12) (f : Buf (Elt F) ((slab s).view.loc (c : Thread nD τ))) : sProp 𝕄 :=
  (slab s).view.loc (c : Thread nD τ) ↦[(slab s).view.set]{fullShare} f
/-- Tile `b` at home: held on its elements at the weight's contents. -/
abbrev homeP (b : Fin 12) : sProp 𝕄 := (tile b).view.loc (c : Thread nD τ) ↦[(tile b).view.set]{fullShare} XA

end Pieces

/-! ## Element sets: the twelve tiles, the twelve slabs -/

abbrev TS (b : Fin 12) : Finset S8192x3072.Idx := (Rect.unit (s := S8192x3072) (tileOff b) S8192x256.size (tileOff_inb b)).set
abbrev SS (s : Fin 12) : Finset S12x8192x256.Idx := (Rect.unit (s := S12x8192x256) (slabOff s) S1x8192x256.size (slabOff_inb s)).set

theorem tile_set (b : Fin 12) : (tile b : Memref sig .tc .hbm _ _).view.set = TS b := View.set_slice_whole _ _
theorem slab_set (s : Fin 12) : (slab s : Memref sig .tc .vmem _ _).view.set = SS s := (View.set_reshape _ _).trans (View.set_slice_whole _ _)

theorem mem_TS (b : Fin 12) (y : S8192x3072.Idx) : y ∈ TS b ↔ 256 * b.val ≤ (y 1).val ∧ (y 1).val < 256 * b.val + 256 := by
  rw [Rect.mem_set_unit]
  have h0 : (y 0).val < 8192 := (y 0).isLt
  constructor
  · intro H; exact H 1
  · intro H i; fin_cases i
    · show 0 ≤ (y 0).val ∧ (y 0).val < 0 + 8192; omega
    · exact H
theorem mem_SS (s : Fin 12) (y : S12x8192x256.Idx) : y ∈ SS s ↔ (y 0).val = s.val := by
  rw [Rect.mem_set_unit]
  have h1 : (y 1).val < 8192 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 8192; omega
    · show 0 ≤ (y 2).val ∧ (y 2).val < 0 + 256; omega
theorem TS_disjoint : ∀ b b' : Fin 12, b ≠ b' → Disjoint (TS b) (TS b') := by
  intro b b' hne; rw [Finset.disjoint_left]; intro y hy hy'; rw [mem_TS] at hy hy'; exact hne (Fin.ext (by omega))
theorem TS_cover : (Finset.univ : Finset (Fin 12)).biUnion TS = Finset.univ := by
  ext y; simp only [Finset.mem_biUnion, Finset.mem_univ, true_and, iff_true]
  have h1 : (y 1).val < 3072 := (y 1).isLt
  exact ⟨⟨(y 1).val / 256, by omega⟩, by rw [mem_TS]; dsimp only; omega⟩
theorem SS_disjoint : ∀ s s' : Fin 12, s ≠ s' → Disjoint (SS s) (SS s') := by
  intro s s' hne; rw [Finset.disjoint_left]; intro y hy hy'; rw [mem_SS] at hy hy'; exact hne (Fin.ext (hy.symm.trans hy'))
theorem SS_cover : (Finset.univ : Finset (Fin 12)).biUnion SS = Finset.univ := by
  ext y; simp only [Finset.mem_biUnion, Finset.mem_univ, true_and, iff_true]; exact ⟨(y 0).cast (by decide), by rw [mem_SS]; rfl⟩

theorem entails_of_eq {P Q : sProp 𝕄} (e : P = Q) : P ⊢ Q := e ▸ .rfl

/-- The weight whole is its twelve tiles at home. -/
theorem w_eq (c : Dev nD) (XA : Buf (Elt F) (wM.view.loc (c : Thread nD τ))) :
    (hbPt0 c hbM0_0 XA : sProp 𝕄) = bigSep Finset.univ (homeP c XA) := by
  rw [hbPt0, Ring.pointsTo_blocks (ℓ := (c : Thread nD τ).loc main_arg2) TS TS_disjoint TS_cover]
  exact bigSep_congr fun b _ => by rw [← tile_set]; rfl

/-- The buffer whole is its twelve slabs. -/
theorem ring_eq (c : Dev nD) (f : Buf (Elt F) ((c : Thread nD τ).loc cc0_scratch0)) :
    (((c : Thread nD τ).loc cc0_scratch0) ↦{fullShare} f : sProp 𝕄) = bigSep Finset.univ (fun s => slabP c s f) := by
  rw [Ring.pointsTo_blocks (ℓ := (c : Thread nD τ).loc cc0_scratch0) SS SS_disjoint SS_cover]
  exact bigSep_congr fun s _ => by rw [← slab_set]; rfl
/-- Its twelve slabs, each at some contents, are the buffer at some contents. -/
theorem ring_join (c : Dev nD) :
    bigSep Finset.univ (fun s => iprop(∃ f, slabP c s f))
      ⊢ (iprop(∃ f : Buf (Elt F) ((c : Thread nD τ).loc cc0_scratch0), ((c : Thread nD τ).loc cc0_scratch0) ↦{fullShare} f) : sProp 𝕄) := by
  refine BIBase.Entails.trans ?_ (Ring.pointsTo_blocks_join_exists (ℓ := (c : Thread nD τ).loc cc0_scratch0) SS SS_disjoint SS_cover (fun _ => Classical.arbitrary _))
  exact entails_of_eq (bigSep_congr fun s _ => by rw [← slab_set]; rfl)

/-- A family over the twelve, spelt out. -/
theorem bigSep_fin12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [(0 : Fin 12), 1, 2, 3, 4, 5, 6, 7, 8, 9, 10, 11] (by decide) (by decide) Φ

/-- The copies' semaphores at zero, as the launch lists them. -/
theorem cells_eq (c : Dev nD) :
    (Pipeline.ownSems0 (Ix := Unit) (Name := ℕ) (U := Pipeline.UD sig nD τ) (Lvl := ℕ) (Val := Elt F) (τ := τ) osem0 c : sProp 𝕄)
      = bigSep Finset.univ (cellP c) := by
  rw [ownSems00_eq, bigSep_fin12]; rfl

end Cert.Proof.OfKernel

end
-- ==== Proof.Kernel.Trip.lean ====
/-
  One trip of the loop over the first rows: the wait for its tile, the product with it, the seven blocks stored.
-/
module

public import proofs.«01_k».proof.Proof.Kernel.Tiles
public import Idealize.ShloMosaic.Lib.Pipeline.Value
public import Idealize.ShloMosaic.Lib.ValueIdx

@[expose] public section

set_option maxRecDepth 16384

noncomputable section

namespace Cert.Proof.OfKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Tile `s` once it has landed in slab `s`, over contents `f`. -/
abbrev landF (c : Dev nD) (XA : Buf (Elt F) (wM.view.loc (c : Thread nD τ))) (s : Fin 12) (f : Buf (Elt F) ((slab s).view.loc (c : Thread nD τ))) : Buf (Elt F) ((slab s).view.loc (c : Thread nD τ)) :=
  (slab s).view.writes (Elt F) f [⟨Rect.whole S8192x256, View.read (Elt F) (tile s).view XA⟩]

/-- Slab `s` in flight: the copy of tile `s` into it, its semaphore and the tile lent to it. -/
abbrev flightP (c : Dev nD) (XA : Buf (Elt F) (wM.view.loc (c : Thread nD τ))) (s : Fin 12) (f : Buf (Elt F) ((slab s).view.loc (c : Thread nD τ))) : sProp 𝕄 :=
  Transfers.Flight countersEmb (c : Thread nD τ) (SemLoc.dma (csm s).sem) default 65536
    iprop(slabP c s (landF c XA s f) ∗ homeP c XA s)

/-- The trip's load of its slab lies in the slab. -/
theorem trip_sub (k : Fin k0_t1_loop.trips) :
    (ringM.access (Rect.unit (s := S12x8192x256) (k0_off4 k) S1x8192x256.size (k0_off4_inb k))).set ⊆ (slab (kk k)).view.set := by
  rw [slab_set]
  have e : Rect.unit (s := S12x8192x256) (k0_off4 k) S1x8192x256.size (k0_off4_inb k) = Rect.unit (s := S12x8192x256) (slabOff (kk k)) S1x8192x256.size (slabOff_inb (kk k)) :=
    Rect.unit_congr (k0_off4_eq k) _ _
  rw [e]
  exact (View.set_slice_whole _ _).le

set_option maxHeartbeats 1000000 in
/-- A trip's run, the pieces it leaves in the output's buffer to be found. -/
@[irreducible] def trip (c : Dev nD) (arg0 : Memref sig .tc .vmem S992x8192 .fp8e4m3) (harg0 : arg0.IsWhole) (arg1 : Memref sig .tc .vmem S992x1 .f32) (harg1 : arg1.IsWhole)
    (arg3 : Memref sig .tc .vmem S1x3072 .f32) (harg3 : arg3.IsWhole) (arg4 : Memref sig .tc .vmem S1x3072 .f32) (harg4 : arg4.IsWhole)
    (arg5 : Memref sig .tc .vmem S12x224x256 .f32) (harg5 : arg5.IsWhole) (arg6 : Memref sig .tc .vmem S12x768x256 .f32) (harg6 : arg6.IsWhole)
    (arg8 : Memref sig .tc .vmem S224x8192 .fp8e4m3) (harg8 : arg8.IsWhole) (arg9 : Memref sig .tc .vmem S768x8192 .fp8e4m3) (harg9 : arg9.IsWhole) (arg10 : Memref sig .tc .vmem S992x128 .f32) (harg10 : arg10.IsWhole)
    (XA : Buf (Elt F) (wM.view.loc (c : Thread nD τ))) (f3 : Buf (Elt F) (arg3.view.loc (c : Thread nD τ))) (f4 : Buf (Elt F) (arg4.view.loc (c : Thread nD τ)))
    (f8 : Buf (Elt F) (arg8.view.loc (c : Thread nD τ))) (f10 : Buf (Elt F) (arg10.view.loc (c : Thread nD τ))) (k : Fin k0_t1_loop.trips) :
    { L : List (View.Piece (Elt F) S12x224x256 .f32) //
      ∀ (W : Waits sig Unit) (K : Unit → sProp 𝕄) (f5 : Buf (Elt F) (arg5.view.loc (c : Thread nD τ))) (fs : Buf (Elt F) ((slab (kk k)).view.loc (c : Thread nD τ))),
        (iprop((arg3.view.loc (c : Thread nD τ) ↦[arg3.view.set]{fullShare} f3) ∗ (arg4.view.loc (c : Thread nD τ) ↦[arg4.view.set]{fullShare} f4)
          ∗ (arg8.view.loc (c : Thread nD τ) ↦[arg8.view.set]{fullShare} f8) ∗ (arg10.view.loc (c : Thread nD τ) ↦[arg10.view.set]{fullShare} f10)
          ∗ (arg5.view.loc (c : Thread nD τ) ↦[arg5.view.set]{fullShare} f5) ∗ flightP c XA (kk k) fs ∗ owes (c : Thread nD τ) 0 W
          ∗ (iprop((arg3.view.loc (c : Thread nD τ) ↦[arg3.view.set]{fullShare} f3) ∗ (arg4.view.loc (c : Thread nD τ) ↦[arg4.view.set]{fullShare} f4)
          ∗ (arg8.view.loc (c : Thread nD τ) ↦[arg8.view.set]{fullShare} f8) ∗ (arg10.view.loc (c : Thread nD τ) ↦[arg10.view.set]{fullShare} f10)
          ∗ (arg5.view.loc (c : Thread nD τ) ↦[arg5.view.set]{fullShare} arg5.view.writes (Elt F) f5 L) ∗ slabP c (kk k) (landF c XA (kk k) (slab (kk k)).view.junk) ∗ homeP c XA (kk k) ∗ cellP c (kk k)
          ∗ (∃ W, owes (c : Thread nD τ) 0 W)) -∗ K ())) : sProp 𝕄)
          ⊢ wp frame (wpE (defs₀ (F := F)) Variants.none c none) Set.univ
              (k0_t1_body arg0 harg0 arg1 harg1 wM (Memref.isWhole_whole _) arg3 harg3 arg4 harg4 arg5 harg5 arg6 harg6 ringM (Memref.isWhole_whole _) arg8 harg8 arg9 harg9 arg10 harg10 cc0_scratch4 k ())
              K } := by
  refine ⟨?_, ?run⟩
  case run =>
    intro W K f5 fs
    unfold k0_t1_body
    simp only [k0_part1_eq_skeleton]
    have hS := trip_sub k
    iintro ⟨H3, H4, H8, H10, H5, Hc, HW, Hk⟩
    sl_exec
    sl_step
    iapply Hk
    isplitl [H3]; · iexact H3
    isplitl [H4]; · iexact H4
    isplitl [H8]; · iexact H8
    isplitl [H10]; · iexact H10
    isplitl [H5]; · iexact H5
    isplitl [Hc_dst]; · iexact Hc_dst
    isplitl [Hc_src]; · iexact Hc_src
    isplitl [Hc]; · iexact Hc
    iexists _; iexact HW

/-! ## What a trip leaves in the output -/

/-- The hidden layer's first rows for one tile `w` of the weight: the codes times the tile, scaled by row and by column, the bias added, through SiLU. -/
def hidA (la : Vec F S224x8192 .fp8e4m3) (w : Vec F S8192x256 .fp8e4m3) (sc : Vec F S224x128 .f32) (s b : Vec F S1x256 .f32) : FVec F S224x256 .f32 :=
  have z : FVec F S224x256 .f32 := addf (mulf (mulf
    (matmul dot_S224x8192_S8192x256_S224x256_1_0_0_1_n_n none la w (constant S224x256 .f32 0x00000000#32))
    (concatenate S224x256 1 [⟨S224x128, sc⟩, ⟨S224x128, sc⟩] concatenates_S224x128_S224x128_S224x256_d1))
    (broadcastTo S224x256 (shapeCast S1x256 s shapeCasts_S1x256_S1x256) broadcasts_S1x256_S224x256))
    (broadcastTo S224x256 (shapeCast S1x256 b shapeCasts_S1x256_S1x256) broadcasts_S1x256_S224x256)
  mulf z (logistic z)

theorem formA (a : Vec F S224x8192 .fp8e4m3) (v : Vec F S1x8192x256 .fp8e4m3) (q : Vec F S224x128 .f32) (s b : Vec F S1x256 .f32) :
    k0_pay2 a v q s b = hidA a (shapeCast S8192x256 v shapeCasts_S1x8192x256_S8192x256) q s b := rfl

abbrev colOff (k : Fin 12) : Fin 2 → Nat := ![0, 256 * k.val]
theorem colOff_inb (k : Fin 12) : ∀ a, colOff k a + S1x256.size a ≤ S1x3072.size a := by
  have := k.isLt; intro a; fin_cases a
  · show 0 + 1 ≤ 1; omega
  · show 256 * k.val + 256 ≤ 3072; omega
/-- Columns `256 k` to `256 k + 255` of a row of scales or biases. -/
abbrev colR (k : Fin 12) : Rect S1x3072 := Rect.unit (colOff k) S1x256.size (colOff_inb k)

theorem ldS (arg : Memref sig .tc .vmem S1x3072 .f32) (h : arg.IsWhole) (x : Vec F S1x3072 .f32) (k : Fin 12) {off : Fin 2 → Nat} (e : off = colOff k) (inb : ∀ a, off a + S1x256.size a ≤ S1x3072.size a) :
    View.readAt (Elt F) arg.view (Rect.unit (s := S1x3072) off S1x256.size inb).toLoadRect (h.unread x) = View.ld x (colR k) := by
  subst e; exact funext fun j => by rw [View.readAt_apply, h.read_unread]

/-- A load of slab `k` once tile `x` has landed there reads `x`. -/
theorem landed (k : Fin 12) {off : Fin 3 → Nat} (e : off = slabOff k) (inb : ∀ a, off a + S1x8192x256.size a ≤ S12x8192x256.size a) (f : (slab k).view.ty.Contents (Elt F)) (x : Vec F S8192x256 .fp8e4m3) :
    shapeCast S8192x256 (View.readAt (Elt F) ringM.view (Rect.unit (s := S12x8192x256) off S1x8192x256.size inb).toLoadRect
      ((slab k).view.writes (Elt F) f [⟨Rect.whole S8192x256, x⟩])) shapeCasts_S1x8192x256_S8192x256 = x := by
  subst e
  exact (Memref.read_squeeze_slice ringM (Rect.unit (s := S12x8192x256) (slabOff k) S1x8192x256.size (slabOff_inb k)) (fun _ => rfl) squeezes_S1x8192x256_S8192x256 shapeCasts_S1x8192x256_S8192x256 _).symm.trans
    (View.read_writes_whole (slab k).view f x)

abbrev rbOff (k : Fin 12) (rb : Fin 7) : Fin 3 → Nat := ![k.val, 32 * rb.val, 0]
theorem rbOff_inb (k : Fin 12) (rb : Fin 7) : ∀ a, rbOff k rb a + S1x32x256.size a ≤ S12x224x256.size a := by
  have := k.isLt; have := rb.isLt; intro a; fin_cases a
  · show k.val + 1 ≤ 12; omega
  · show 32 * rb.val + 32 ≤ 224; omega
  · show 0 + 256 ≤ 256; omega
/-- Rows `32 rb` to `32 rb + 31` of block `k` of the output. -/
abbrev rbR (k : Fin 12) (rb : Fin 7) : Rect S12x224x256 := Rect.unit (rbOff k rb) S1x32x256.size (rbOff_inb k rb)
theorem rb_slices (rb : Fin 7) : S224x256.Slices ![32 * rb.val, 0] S32x256 := by
  have := rb.isLt
  refine ⟨rfl, fun a => ?_⟩
  fin_cases a
  · show 32 * rb.val + 32 ≤ 224; omega
  · show 0 + 256 ≤ 256; omega
/-- Rows `32 rb` to `32 rb + 31` of the hidden layer's tile `h`. -/
def rbV (rb : Fin 7) (h : FVec F S224x256 .f32) : FVec F S1x32x256 .f32 :=
  shapeCast S1x32x256 (extractStridedSlice S32x256 ![32 * rb.val, 0] h (rb_slices rb)) shapeCasts_S32x256_S1x32x256

theorem rbV_apply (rb : Fin 7) (h : FVec F S224x256 .f32) (x : S1x32x256.Idx) (y : S224x256.Idx) (e0 : (y 0).val = 32 * rb.val + (x 1).val) (e1 : (y 1).val = (x 2).val) :
    rbV rb h x = h y := by
  unfold rbV
  refine (shapeCast_addUnit_apply ![32, 256] _ shapeCasts_S32x256_S1x32x256 x).trans ?_
  refine extractStridedSlice_apply _ h (rb_slices rb) _ y fun a => ?_
  fin_cases a
  · exact e0
  · show (y 1).val = 0 + (x 2).val; omega

/-- A trip's stores, last first. -/
def tripL (k : Fin 12) (h : FVec F S224x256 .f32) : List (View.Piece (Elt F) S12x224x256 .f32) :=
  [⟨rbR k 6, rbV 6 h⟩, ⟨rbR k 5, rbV 5 h⟩, ⟨rbR k 4, rbV 4 h⟩, ⟨rbR k 3, rbV 3 h⟩, ⟨rbR k 2, rbV 2 h⟩, ⟨rbR k 1, rbV 1 h⟩, ⟨rbR k 0, rbV 0 h⟩]

theorem rb_lit (k : Fin 12) (rb : Fin 7) {off : Fin 3 → Nat} (e : off = rbOff k rb) (inb : ∀ a, off a + S1x32x256.size a ≤ S12x224x256.size a) {w w' : Vec F S1x32x256 .f32} (h : w = w') :
    (⟨Rect.unit (s := S12x224x256) off S1x32x256.size inb, w⟩ : View.Piece (Elt F) S12x224x256 .f32) = ⟨rbR k rb, w'⟩ := by subst e h; rfl

theorem of_mem_tripL (k : Fin 12) (h : FVec F S224x256 .f32) (p : View.Piece (Elt F) S12x224x256 .f32) (hp : p ∈ tripL k h) : ∃ rb : Fin 7, p = ⟨rbR k rb, rbV rb h⟩ := by
  simp only [tripL, List.mem_cons, List.mem_nil_iff, or_false] at hp
  rcases hp with h | h | h | h | h | h | h
  · exact ⟨6, h⟩
  · exact ⟨5, h⟩
  · exact ⟨4, h⟩
  · exact ⟨3, h⟩
  · exact ⟨2, h⟩
  · exact ⟨1, h⟩
  · exact ⟨0, h⟩
theorem mem_tripL (k : Fin 12) (h : FVec F S224x256 .f32) (rb : Fin 7) : (⟨rbR k rb, rbV rb h⟩ : View.Piece (Elt F) S12x224x256 .f32) ∈ tripL k h := by
  unfold tripL
  fin_cases rb <;> simp only [List.mem_cons, true_or, or_true] <;> simp
theorem mem_rbR (k : Fin 12) (rb : Fin 7) (y : S12x224x256.Idx) : y ∈ (rbR k rb).set ↔ (y 0).val = k.val ∧ 32 * rb.val ≤ (y 1).val ∧ (y 1).val < 32 * rb.val + 32 := by
  have h2 : (y 2).val < 256 := (y 2).isLt
  rw [Rect.mem_set_unit]
  constructor
  · intro H
    have a0 : k.val ≤ (y 0).val ∧ (y 0).val < k.val + 1 := H 0
    exact ⟨by omega, H 1⟩
  · rintro ⟨e, H⟩ a; fin_cases a
    · show k.val ≤ (y 0).val ∧ (y 0).val < k.val + 1; omega
    · exact H
    · show 0 ≤ (y 2).val ∧ (y 2).val < 0 + 256; omega

/-- What the loop leaves in the output, element by element: block `k` is the hidden layer's first rows for tile `k`. -/
def outA (c : Dev nD) (la : Vec F S224x8192 .fp8e4m3) (sc : Vec F S224x128 .f32) (x3 x4 : Vec F S1x3072 .f32) (XA : Buf (Elt F) (wM.view.loc (c : Thread nD τ))) : Vec F S12x224x256 .f32 :=
  fun y => hidA la (View.read (Elt F) (tile (y 0)).view XA) sc (View.ld x3 (colR (y 0))) (View.ld x4 (colR (y 0))) (ValueIdx.ix2 (y 1) (y 2))

/-- A trip's stores leave the other blocks as they were, -/
theorem read_tripL_ne (k : Fin 12) (h : FVec F S224x256 .f32) (v : View sig .tc .vmem S12x224x256 .f32) (f : v.ty.Contents (Elt F)) (y : S12x224x256.Idx) (hy : (y 0).val ≠ k.val) :
    v.read (Elt F) (v.writes (Elt F) f (tripL k h)) y = v.read (Elt F) f y :=
  View.read_writes_apply_of_forall_not_mem (v := v) (f := f) y (tripL k h) fun p hp => by
    obtain ⟨rb, rfl⟩ := of_mem_tripL k h p hp
    rw [mem_rbR]; exact fun H => hy H.1
/-- and block `k` at the tile's rows. -/
theorem read_tripL_eq (k : Fin 12) (h : FVec F S224x256 .f32) (v : View sig .tc .vmem S12x224x256 .f32) (f : v.ty.Contents (Elt F)) (y : S12x224x256.Idx) (hy : (y 0).val = k.val) :
    v.read (Elt F) (v.writes (Elt F) f (tripL k h)) y = h (ValueIdx.ix2 (y 1) (y 2)) :=
  View.read_writes_apply_of_pieces (v := v) (f := f) (fun y => h (ValueIdx.ix2 (y 1) (y 2))) (tripL k h)
    (fun p hp x => by
      obtain ⟨rb, rfl⟩ := of_mem_tripL k h p hp
      refine rbV_apply rb h x _ ?_ ?_
      · show 32 * rb.val + 1 * (x 1).val = _; omega
      · show 0 + 1 * (x 2).val = _; omega) y
    (by
      have h1 : (y 1).val < 224 := (y 1).isLt
      refine ⟨_, mem_tripL k h ⟨(y 1).val / 32, by omega⟩, ?_⟩
      rw [mem_rbR]; dsimp only; omega)

section
variable (c : Dev nD) (arg0 : Memref sig .tc .vmem S992x8192 .fp8e4m3) (harg0 : arg0.IsWhole) (arg1 : Memref sig .tc .vmem S992x1 .f32) (harg1 : arg1.IsWhole)
    (arg3 : Memref sig .tc .vmem S1x3072 .f32) (harg3 : arg3.IsWhole) (arg4 : Memref sig .tc .vmem S1x3072 .f32) (harg4 : arg4.IsWhole)
    (arg5 : Memref sig .tc .vmem S12x224x256 .f32) (harg5 : arg5.IsWhole) (arg6 : Memref sig .tc .vmem S12x768x256 .f32) (harg6 : arg6.IsWhole)
    (arg8 : Memref sig .tc .vmem S224x8192 .fp8e4m3) (harg8 : arg8.IsWhole) (arg9 : Memref sig .tc .vmem S768x8192 .fp8e4m3) (harg9 : arg9.IsWhole) (arg10 : Memref sig .tc .vmem S992x128 .f32) (harg10 : arg10.IsWhole)
    (XA : Buf (Elt F) (wM.view.loc (c : Thread nD τ))) (x3 x4 : Vec F S1x3072 .f32)
    (f8 : Buf (Elt F) (arg8.view.loc (c : Thread nD τ))) (f10 : Buf (Elt F) (arg10.view.loc (c : Thread nD τ)))

/-- The first rows' codes, as a trip loads them, -/
abbrev laOf : Vec F S224x8192 .fp8e4m3 := View.readAt (Elt F) arg8.view (Rect.unit (s := S224x8192) ![0, 0] S224x8192.size inb_S224x8192_S224x8192_0_0).toLoadRect f8
/-- and their scales. -/
abbrev scOf : Vec F S224x128 .f32 := View.readAt (Elt F) arg10.view (Rect.unit (s := S992x128) ![0, 0] S224x128.size inb_S992x128_S224x128_0_0).toLoadRect f10

theorem trip_w (k : Fin k0_t1_loop.trips) : shapeCast S8192x256 (trip.sl.v336 c XA k) shapeCasts_S1x8192x256_S8192x256 = View.read (Elt F) (tile (kk k)).view XA := by
  unfold trip.sl.v336
  exact landed (kk k) (k0_off4_eq k) _ _ _

theorem trip_h (k : Fin k0_t1_loop.trips) : trip.sl.r c arg3 arg4 arg8 arg10 XA (harg3.unread x3) (harg4.unread x4) f8 f10 k
    = hidA (laOf c arg8 f8) (View.read (Elt F) (tile (kk k)).view XA) (scOf c arg10 f10) (View.ld x3 (colR (kk k))) (View.ld x4 (colR (kk k))) := by
  unfold trip.sl.r
  rw [formA, trip_w, ldS arg3 harg3 x3 (kk k) (k0_off5_eq k), ldS arg4 harg4 x4 (kk k) (k0_off5_eq k)]

theorem trip_val (k : Fin k0_t1_loop.trips) :
    (trip c arg0 harg0 arg1 harg1 arg3 harg3 arg4 harg4 arg5 harg5 arg6 harg6 arg8 harg8 arg9 harg9 arg10 harg10 XA (harg3.unread x3) (harg4.unread x4) f8 f10 k).1
      = tripL (kk k) (hidA (laOf c arg8 f8) (View.read (Elt F) (tile (kk k)).view XA) (scOf c arg10 f10) (View.ld x3 (colR (kk k))) (View.ld x4 (colR (kk k)))) := by
  rw [← trip_h c arg3 harg3 arg4 harg4 arg8 arg10 XA x3 x4 f8 f10 k]
  unfold trip tripL
  dsimp only
  refine congrArg₂ List.cons (rb_lit (kk k) 6 (k0_off12_eq k) _ rfl) ?_
  refine congrArg₂ List.cons (rb_lit (kk k) 5 (k0_off11_eq k) _ rfl) ?_
  refine congrArg₂ List.cons (rb_lit (kk k) 4 (k0_off10_eq k) _ rfl) ?_
  refine congrArg₂ List.cons (rb_lit (kk k) 3 (k0_off9_eq k) _ rfl) ?_
  refine congrArg₂ List.cons (rb_lit (kk k) 2 (k0_off8_eq k) _ rfl) ?_
  refine congrArg₂ List.cons (rb_lit (kk k) 1 (k0_off7_eq k) _ (by unfold trip.sl.r_1 trip.sl.r; rfl)) ?_
  refine congrArg₂ List.cons (rb_lit (kk k) 0 (k0_off6_eq k) _ (by unfold trip.sl.r; rfl)) ?_
  rfl

end

end Cert.Proof.OfKernel

end
-- ==== Proof.Kernel.Loop.lean ====
/-
  The loop over the first rows: its invariant, and the loop from it.
-/
module

public import proofs.«01_k».proof.Proof.Kernel.Trip

@[expose] public section

set_option maxRecDepth 16384

noncomputable section

namespace Cert.Proof.OfKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section
variable (c : Dev nD) (arg0 : Memref sig .tc .vmem S992x8192 .fp8e4m3) (harg0 : arg0.IsWhole) (arg1 : Memref sig .tc .vmem S992x1 .f32) (harg1 : arg1.IsWhole)
    (arg3 : Memref sig .tc .vmem S1x3072 .f32) (harg3 : arg3.IsWhole) (arg4 : Memref sig .tc .vmem S1x3072 .f32) (harg4 : arg4.IsWhole)
    (arg5 : Memref sig .tc .vmem S12x224x256 .f32) (harg5 : arg5.IsWhole) (arg6 : Memref sig .tc .vmem S12x768x256 .f32) (harg6 : arg6.IsWhole)
    (arg8 : Memref sig .tc .vmem S224x8192 .fp8e4m3) (harg8 : arg8.IsWhole) (arg9 : Memref sig .tc .vmem S768x8192 .fp8e4m3) (harg9 : arg9.IsWhole) (arg10 : Memref sig .tc .vmem S992x128 .f32) (harg10 : arg10.IsWhole)
    (XA : Buf (Elt F) (wM.view.loc (c : Thread nD τ))) (x3 x4 : Vec F S1x3072 .f32)
    (f8 : Buf (Elt F) (arg8.view.loc (c : Thread nD τ))) (f10 : Buf (Elt F) (arg10.view.loc (c : Thread nD τ)))
    (fs : (s : Fin 12) → Buf (Elt F) ((slab s).view.loc (c : Thread nD τ)))

/-- Slab `s` once waited for: the tile landed in it, the tile at home, its semaphore at zero. -/
abbrev doneP (s : Fin 12) : sProp 𝕄 :=
  iprop(slabP c s (landF c XA s (slab s).view.junk) ∗ homeP c XA s ∗ cellP c s)
/-- Slab `s` before trip `k`: waited for if its trip has been, in flight if not. -/
def slotP (k : Nat) (s : Fin 12) : sProp 𝕄 := if s.val < k then doneP c XA s else flightP c XA s (fs s)

/-- Before trip `k`: the first `k` blocks of the output written. -/
def inv (k : Nat) (_ : Unit) : sProp 𝕄 :=
  iprop((arg3.view.loc (c : Thread nD τ) ↦[arg3.view.set]{fullShare} harg3.unread x3) ∗ (arg4.view.loc (c : Thread nD τ) ↦[arg4.view.set]{fullShare} harg4.unread x4)
    ∗ (arg8.view.loc (c : Thread nD τ) ↦[arg8.view.set]{fullShare} f8) ∗ (arg10.view.loc (c : Thread nD τ) ↦[arg10.view.set]{fullShare} f10)
    ∗ (∃ g : Buf (Elt F) (arg5.view.loc (c : Thread nD τ)), ⌜∀ y : S12x224x256.Idx, (y 0).val < k → arg5.view.read (Elt F) g y = outA c (laOf c arg8 f8) (scOf c arg10 f10) x3 x4 XA y⌝
        ∗ (arg5.view.loc (c : Thread nD τ) ↦[arg5.view.set]{fullShare} g))
    ∗ bigSep Finset.univ (slotP c XA fs k) ∗ (∃ W, owes (c : Thread nD τ) 0 W))

theorem slot_here (k : Fin 12) : slotP c XA fs k.val k = flightP c XA k (fs k) := if_neg (Nat.lt_irrefl _)
theorem slot_next (k : Fin 12) : slotP c XA fs (k.val + 1) k = doneP c XA k := if_pos (Nat.lt_succ_self _)
theorem slots_rest (k : Fin 12) : bigSep (Finset.univ.erase k) (slotP c XA fs k.val) = bigSep (Finset.univ.erase k) (slotP c XA fs (k.val + 1)) :=
  bigSep_congr fun s hs => by
    have hne : s.val ≠ k.val := fun e => (Finset.ne_of_mem_erase hs) (Fin.ext e)
    unfold slotP
    by_cases h : s.val < k.val
    · rw [if_pos h, if_pos (by omega)]
    · rw [if_neg h, if_neg (by omega)]

theorem slots_cut (k : Fin 12) {Φ : Fin 12 → sProp 𝕄} : bigSep Finset.univ Φ = iprop(Φ k ∗ bigSep (Finset.univ.erase k) Φ) := bigSep_erase (Finset.mem_univ k)

theorem inv_step (k : Fin k0_t1_loop.trips) (acc : Unit) :
    inv c arg3 harg3 arg4 harg4 arg5 arg8 arg10 XA x3 x4 f8 f10 fs k.val acc
      ⊢ wp frame (wpE (defs₀ (F := F)) Variants.none c none) Set.univ
          (k0_t1_body arg0 harg0 arg1 harg1 wM (Memref.isWhole_whole _) arg3 harg3 arg4 harg4 arg5 harg5 arg6 harg6 ringM (Memref.isWhole_whole _) arg8 harg8 arg9 harg9 arg10 harg10 cc0_scratch4 k acc)
          (inv c arg3 harg3 arg4 harg4 arg5 arg8 arg10 XA x3 x4 f8 f10 fs (k.val + 1)) := by
  have hv := trip_val c arg0 harg0 arg1 harg1 arg3 harg3 arg4 harg4 arg5 harg5 arg6 harg6 arg8 harg8 arg9 harg9 arg10 harg10 XA x3 x4 f8 f10 k
  have ht := (trip c arg0 harg0 arg1 harg1 arg3 harg3 arg4 harg4 arg5 harg5 arg6 harg6 arg8 harg8 arg9 harg9 arg10 harg10 XA (harg3.unread x3) (harg4.unread x4) f8 f10 k).2
  rw [hv] at ht
  unfold inv
  rw [slots_cut (kk k), slots_cut (kk k), slot_here c XA fs (kk k), slot_next c XA fs (kk k), slots_rest c XA fs (kk k)]
  iintro ⟨H3, H4, H8, H10, ⟨%g, %hg, H5⟩, ⟨Hc, Hr⟩, ⟨%W, HW⟩⟩
  iapply (ht W _ g (fs (kk k)))
  isplitl [H3]; · iexact H3
  isplitl [H4]; · iexact H4
  isplitl [H8]; · iexact H8
  isplitl [H10]; · iexact H10
  isplitl [H5]; · iexact H5
  isplitl [Hc]; · iexact Hc
  isplitl [HW]; · iexact HW
  iintro ⟨H3, H4, H8, H10, H5, Hs, Hh, Hq, HW⟩
  isplitl [H3]; · iexact H3
  isplitl [H4]; · iexact H4
  isplitl [H8]; · iexact H8
  isplitl [H10]; · iexact H10
  isplitl [H5]
  · iexists _; isplitr
    rotate_left
    · iexact H5
    ipureintro
    intro y hy
    by_cases e : (y 0).val = k.val
    · refine (read_tripL_eq (kk k) _ arg5.view g y e).trans ?_
      have e' : kk k = y 0 := Fin.ext e.symm
      rw [e']; rfl
    · exact (read_tripL_ne (kk k) _ arg5.view g y e).trans (hg y (by omega))
  isplitl [Hs Hh Hq Hr]
  · isplitl [Hs Hh Hq]
    · isplitl [Hs]; · iexact Hs
      isplitl [Hh]; · iexact Hh
      iexact Hq
    iexact Hr
  iexact HW

/-- The loop, from its invariant before the first trip to the twelve slabs waited for and the output at `outA`. -/
theorem loop_run {β : Type} {kk : Unit → Prog (TpuEff nD τ sig (Elt F) Λ₀ .tc) β} {Q : β → sProp 𝕄} :
    inv c arg3 harg3 arg4 harg4 arg5 arg8 arg10 XA x3 x4 f8 f10 fs 0 ()
      ⊢ iprop((∀ acc, inv c arg3 harg3 arg4 harg4 arg5 arg8 arg10 XA x3 x4 f8 f10 fs k0_t1_loop.trips acc -∗ wp frame (wpE (defs₀ (F := F)) Variants.none c none) Set.univ (kk acc) Q)
        -∗ wp frame (wpE (defs₀ (F := F)) Variants.none c none) Set.univ (k0_t1_loop.for k0_t1_ok () (k0_t1_body arg0 harg0 arg1 harg1 wM (Memref.isWhole_whole _) arg3 harg3 arg4 harg4 arg5 harg5 arg6 harg6 ringM (Memref.isWhole_whole _) arg8 harg8 arg9 harg9 arg10 harg10 cc0_scratch4) >>= kk) Q) :=
  Scf.wp_for_bind frame (wpE (defs₀ (F := F)) Variants.none c none) Set.univ k0_t1_loop.lb k0_t1_loop.ub k0_t1_loop.st k0_t1_ok () _ _
    (inv_step c arg0 harg0 arg1 harg1 arg3 harg3 arg4 harg4 arg5 harg5 arg6 harg6 arg8 harg8 arg9 harg9 arg10 harg10 XA x3 x4 f8 f10 fs)

/-- Before the first trip every slab is in flight, -/
theorem slots_first : bigSep Finset.univ (slotP c XA fs 0) = iprop(flightP c XA 0 (fs 0) ∗ flightP c XA 1 (fs 1) ∗ flightP c XA 2 (fs 2) ∗ flightP c XA 3 (fs 3) ∗ flightP c XA 4 (fs 4) ∗ flightP c XA 5 (fs 5) ∗ flightP c XA 6 (fs 6) ∗ flightP c XA 7 (fs 7) ∗ flightP c XA 8 (fs 8) ∗ flightP c XA 9 (fs 9) ∗ flightP c XA 10 (fs 10) ∗ flightP c XA 11 (fs 11)) :=
  (bigSep_fin12 _).trans rfl
/-- and after the last every one is waited for. -/
theorem slots_last : bigSep Finset.univ (slotP c XA fs k0_t1_loop.trips) = iprop(doneP c XA 0 ∗ doneP c XA 1 ∗ doneP c XA 2 ∗ doneP c XA 3 ∗ doneP c XA 4 ∗ doneP c XA 5 ∗ doneP c XA 6 ∗ doneP c XA 7 ∗ doneP c XA 8 ∗ doneP c XA 9 ∗ doneP c XA 10 ∗ doneP c XA 11) := by
  rw [trips_eq]; exact (bigSep_fin12 _).trans rfl

/-- What the loop leaves, in the pieces the rest of the body is run on. -/
theorem inv_last (acc : Unit) : inv c arg3 harg3 arg4 harg4 arg5 arg8 arg10 XA x3 x4 f8 f10 fs k0_t1_loop.trips acc
    ⊢ iprop((arg3.view.loc (c : Thread nD τ) ↦[arg3.view.set]{fullShare} harg3.unread x3) ∗ (arg4.view.loc (c : Thread nD τ) ↦[arg4.view.set]{fullShare} harg4.unread x4)
    ∗ (arg8.view.loc (c : Thread nD τ) ↦[arg8.view.set]{fullShare} f8) ∗ (arg10.view.loc (c : Thread nD τ) ↦[arg10.view.set]{fullShare} f10)
    ∗ (∃ g : Buf (Elt F) (arg5.view.loc (c : Thread nD τ)), ⌜arg5.view.read (Elt F) g = outA c (laOf c arg8 f8) (scOf c arg10 f10) x3 x4 XA⌝
        ∗ (arg5.view.loc (c : Thread nD τ) ↦[arg5.view.set]{fullShare} g))
    ∗ (doneP c XA 0 ∗ doneP c XA 1 ∗ doneP c XA 2 ∗ doneP c XA 3 ∗ doneP c XA 4 ∗ doneP c XA 5 ∗ doneP c XA 6 ∗ doneP c XA 7 ∗ doneP c XA 8 ∗ doneP c XA 9 ∗ doneP c XA 10 ∗ doneP c XA 11) ∗ (∃ W, owes (c : Thread nD τ) 0 W)) := by
  unfold inv
  rw [slots_last]
  iintro ⟨H3, H4, H8, H10, ⟨%g, %hg, H5⟩, Hd, HW⟩
  isplitl [H3]; · iexact H3
  isplitl [H4]; · iexact H4
  isplitl [H8]; · iexact H8
  isplitl [H10]; · iexact H10
  isplitl [H5]
  · iexists g; isplitr
    · ipureintro
      exact funext fun y => hg y (trips_eq ▸ (y 0).isLt)
    iexact H5
  isplitl [Hd]; · iexact Hd
  iexact HW

end

end Cert.Proof.OfKernel

end
-- ==== Proof.Kernel.Body.lean ====
/-
  The kernel's body on any staging buffers: the twelve copies issued, the loop that waits for them one by one, then the steps
  over the tiles for the other rows: the product with the
  copied tile and the hidden activation stored; what it leaves in the output's buffer is found by the run.
-/
module

public import proofs.«01_k».proof.Proof.Kernel.Loop

@[expose] public section

set_option maxRecDepth 16384

noncomputable section

namespace Cert.Proof.OfKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body's run, the pieces it leaves in the output's buffer to be found. -/
@[irreducible] def bodyRun (c : Dev nD) (arg0 : Memref sig .tc .vmem S992x8192 .fp8e4m3) (harg0 : arg0.IsWhole) (arg1 : Memref sig .tc .vmem S992x1 .f32) (harg1 : arg1.IsWhole)
    (arg3 : Memref sig .tc .vmem S1x3072 .f32) (harg3 : arg3.IsWhole) (arg4 : Memref sig .tc .vmem S1x3072 .f32) (harg4 : arg4.IsWhole)
    (arg5 : Memref sig .tc .vmem S12x224x256 .f32) (harg5 : arg5.IsWhole) (arg6 : Memref sig .tc .vmem S12x768x256 .f32) (harg6 : arg6.IsWhole)
    (arg8 : Memref sig .tc .vmem S224x8192 .fp8e4m3) (harg8 : arg8.IsWhole) (arg9 : Memref sig .tc .vmem S768x8192 .fp8e4m3) (harg9 : arg9.IsWhole) (arg10 : Memref sig .tc .vmem S992x128 .f32) (harg10 : arg10.IsWhole)
    (x0 : Vec F S992x8192 .fp8e4m3) (x1 : Vec F S992x1 .f32) (x3 : Vec F S1x3072 .f32) (x4 : Vec F S1x3072 .f32)
    (XA : Buf (Elt F) (wM.view.loc (c : Thread nD τ))) :
    (g8 : Buf (Elt F) (arg8.view.loc (c : Thread nD τ))) ×' (g10 : Buf (Elt F) (arg10.view.loc (c : Thread nD τ))) ×' { L : List (View.Piece (Elt F) S12x768x256 .f32) //
      ∀ (W : Waits sig Unit) (K : PUnit → sProp 𝕄) (f5 : Buf (Elt F) (arg5.view.loc (c : Thread nD τ))) (f6 : Buf (Elt F) (arg6.view.loc (c : Thread nD τ)))
        (f8 : Buf (Elt F) (arg8.view.loc (c : Thread nD τ))) (f9 : Buf (Elt F) (arg9.view.loc (c : Thread nD τ))) (f10 : Buf (Elt F) (arg10.view.loc (c : Thread nD τ))) (fs : (s : Fin 12) → Buf (Elt F) ((slab s).view.loc (c : Thread nD τ))),
        iprop(owns (c : Thread nD τ) arg0 fullShare x0 ∗ owns (c : Thread nD τ) arg1 fullShare x1 ∗ owns (c : Thread nD τ) arg3 fullShare x3 ∗ owns (c : Thread nD τ) arg4 fullShare x4
            ∗ (arg5.view.loc (c : Thread nD τ) ↦[arg5.view.set]{fullShare} f5) ∗ (arg6.view.loc (c : Thread nD τ) ↦[arg6.view.set]{fullShare} f6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
            ∗ slabP c 0 (fs 0) ∗ slabP c 1 (fs 1) ∗ slabP c 2 (fs 2) ∗ slabP c 3 (fs 3) ∗ slabP c 4 (fs 4) ∗ slabP c 5 (fs 5) ∗ slabP c 6 (fs 6) ∗ slabP c 7 (fs 7) ∗ slabP c 8 (fs 8) ∗ slabP c 9 (fs 9) ∗ slabP c 10 (fs 10) ∗ slabP c 11 (fs 11)
            ∗ homeP c XA 0 ∗ homeP c XA 1 ∗ homeP c XA 2 ∗ homeP c XA 3 ∗ homeP c XA 4 ∗ homeP c XA 5 ∗ homeP c XA 6 ∗ homeP c XA 7 ∗ homeP c XA 8 ∗ homeP c XA 9 ∗ homeP c XA 10 ∗ homeP c XA 11
            ∗ cellP c 0 ∗ cellP c 1 ∗ cellP c 2 ∗ cellP c 3 ∗ cellP c 4 ∗ cellP c 5 ∗ cellP c 6 ∗ cellP c 7 ∗ cellP c 8 ∗ cellP c 9 ∗ cellP c 10 ∗ cellP c 11
            ∗ owes (c : Thread nD τ) 0 W
            ∗ (iprop(owns (c : Thread nD τ) arg0 fullShare x0 ∗ owns (c : Thread nD τ) arg1 fullShare x1 ∗ owns (c : Thread nD τ) arg3 fullShare x3 ∗ owns (c : Thread nD τ) arg4 fullShare x4
                ∗ (∃ g : Buf (Elt F) (arg5.view.loc (c : Thread nD τ)), ⌜arg5.view.read (Elt F) g = outA c (laOf c arg8 g8) (scOf c arg10 g10) x3 x4 XA⌝ ∗ (arg5.view.loc (c : Thread nD τ) ↦[arg5.view.set]{fullShare} g)) ∗ (arg6.view.loc (c : Thread nD τ) ↦[arg6.view.set]{fullShare} arg6.view.writes (Elt F) f6 L) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))
                ∗ (∃ f, slabP c 0 f) ∗ (∃ f, slabP c 1 f) ∗ (∃ f, slabP c 2 f) ∗ (∃ f, slabP c 3 f) ∗ (∃ f, slabP c 4 f) ∗ (∃ f, slabP c 5 f) ∗ (∃ f, slabP c 6 f) ∗ (∃ f, slabP c 7 f) ∗ (∃ f, slabP c 8 f) ∗ (∃ f, slabP c 9 f) ∗ (∃ f, slabP c 10 f) ∗ (∃ f, slabP c 11 f)
                ∗ homeP c XA 0 ∗ homeP c XA 1 ∗ homeP c XA 2 ∗ homeP c XA 3 ∗ homeP c XA 4 ∗ homeP c XA 5 ∗ homeP c XA 6 ∗ homeP c XA 7 ∗ homeP c XA 8 ∗ homeP c XA 9 ∗ homeP c XA 10 ∗ homeP c XA 11
                ∗ cellP c 0 ∗ cellP c 1 ∗ cellP c 2 ∗ cellP c 3 ∗ cellP c 4 ∗ cellP c 5 ∗ cellP c 6 ∗ cellP c 7 ∗ cellP c 8 ∗ cellP c 9 ∗ cellP c 10 ∗ cellP c 11
                ∗ (∃ W, owes (c : Thread nD τ) 0 W)) -∗ K ⟨⟩))
          ⊢ wp frame (wpE (defs₀ (F := F)) Variants.none c none) Set.univ
              (cc0_nsa_joint_compression arg0 harg0 arg1 harg1 wM (Memref.isWhole_whole _) arg3 harg3 arg4 harg4 arg5 harg5 arg6 harg6 ringM (Memref.isWhole_whole _) arg8 harg8 arg9 harg9 arg10 harg10 cc0_scratch4) K } := by
  refine ⟨?_, ?_, ?_, ?run⟩
  case run =>
    intro W K f5 f6 f8 f9 f10 fs
    simp only [cc0_nsa_joint_compression_eq_skeleton]; unfold cc0_nsa_joint_compression_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f3, %hf3, H3⟩, ⟨%f4, %hf4, H4⟩, H5, H6, H8, H9, H10, Hs0, Hs1, Hs2, Hs3, Hs4, Hs5, Hs6, Hs7, Hs8, Hs9, Hs10, Hs11, Hh0, Hh1, Hh2, Hh3, Hh4, Hh5, Hh6, Hh7, Hh8, Hh9, Hh10, Hh11, Hc0, Hc1, Hc2, Hc3, Hc4, Hc5, Hc6, Hc7, Hc8, Hc9, Hc10, Hc11, HW, Hk⟩
    obtain rfl := harg0.eq_unread hf0; obtain rfl := harg1.eq_unread hf1; obtain rfl := harg3.eq_unread hf3; obtain rfl := harg4.eq_unread hf4
    sl_exec
    iapply (loop_run c arg0 harg0 arg1 harg1 arg3 harg3 arg4 harg4 arg5 harg5 arg6 harg6 arg8 harg8 arg9 harg9 arg10 harg10 XA x3 x4 _ _ fs) $$ [H3 H4 H5 H8 H10 Hc0 Hc1 Hc2 Hc3 Hc4 Hc5 Hc6 Hc7 Hc8 Hc9 Hc10 Hc11 HW]
    · unfold inv
      rw [slots_first]
      isplitl [H3]; · iexact H3
      isplitl [H4]; · iexact H4
      isplitl [H8]; · iexact H8
      isplitl [H10]; · iexact H10
      isplitl [H5]
      · iexists f5; isplitr
        · ipureintro; exact fun y hy => absurd hy (Nat.not_lt_zero _)
        iexact H5
      isplitl [Hc0 Hc1 Hc2 Hc3 Hc4 Hc5 Hc6 Hc7 Hc8 Hc9 Hc10 Hc11]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        isplitl [Hc7]; · iexact Hc7
        isplitl [Hc8]; · iexact Hc8
        isplitl [Hc9]; · iexact Hc9
        isplitl [Hc10]; · iexact Hc10
        iexact Hc11
      iexists _; iexact HW
    iintro %acc HI
    ihave HI' := (inv_last c arg3 harg3 arg4 harg4 arg5 arg8 arg10 XA x3 x4 _ _ fs acc) $$ HI
    icases HI' with ⟨H3, H4, H8, H10, ⟨%g, %hg, H5⟩, ⟨⟨Hs0, Hh0, Hc0⟩, ⟨Hs1, Hh1, Hc1⟩, ⟨Hs2, Hh2, Hc2⟩, ⟨Hs3, Hh3, Hc3⟩, ⟨Hs4, Hh4, Hc4⟩, ⟨Hs5, Hh5, Hc5⟩, ⟨Hs6, Hh6, Hc6⟩, ⟨Hs7, Hh7, Hc7⟩, ⟨Hs8, Hh8, Hc8⟩, ⟨Hs9, Hh9, Hc9⟩, ⟨Hs10, Hh10, Hc10⟩, ⟨Hs11, Hh11, Hc11⟩⟩, ⟨%W', HW⟩⟩
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]
    · iexists g; isplitr; · ipureintro; exact hg
      iexact H5
    isplitl [H6]; · iexact H6
    isplitl [H8]; · iexists _; iexact H8
    isplitl [H9]; · iexists _; iexact H9
    isplitl [H10]; · iexists _; iexact H10
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    isplitl [Hs9]; · iexists _; iexact Hs9
    isplitl [Hs10]; · iexists _; iexact Hs10
    isplitl [Hs11]; · iexists _; iexact Hs11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    iexists _; iexact HW

end Cert.Proof.OfKernel

end
-- ==== Proof.Kernel.Pieces.lean ====
/-
  The pieces the body leaves in the output's buffer, tile by tile.
-/
module

public import proofs.«01_k».proof.Proof.Kernel.Body
public import Idealize.ShloMosaic.Lib.Pipeline.Value

@[expose] public section

set_option maxRecDepth 16384

noncomputable section

namespace Cert.Proof.OfKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## One tile of the hidden layer -/

/-- The hidden layer's tile for one tile `w` of the weight: the codes times the tile, scaled by row and by column, the bias added, through SiLU. -/
def hidT (la : Vec F S768x8192 .fp8e4m3) (w : Vec F S8192x256 .fp8e4m3) (sc : Vec F S768x128 .f32) (s b : Vec F S1x256 .f32) : FVec F S1x768x256 .f32 :=
  have z : FVec F S768x256 .f32 := addf (mulf (mulf
    (matmul dot_S768x8192_S8192x256_S768x256_1_0_0_1_n_n none la w (constant S768x256 .f32 0x00000000#32))
    (concatenate S768x256 1 [⟨S768x128, sc⟩, ⟨S768x128, sc⟩] concatenates_S768x128_S768x128_S768x256_d1))
    (broadcastTo S768x256 (shapeCast S1x256 s shapeCasts_S1x256_S1x256) broadcasts_S1x256_S768x256))
    (broadcastTo S768x256 (shapeCast S1x256 b shapeCasts_S1x256_S1x256) broadcasts_S1x256_S768x256)
  shapeCast S1x768x256 (mulf z (logistic z)) shapeCasts_S768x256_S1x768x256

abbrev outOff (k : Fin 12) : Fin 3 → Nat := ![k.val, 0, 0]
theorem outOff_inb (k : Fin 12) : ∀ a, outOff k a + S1x768x256.size a ≤ S12x768x256.size a := by
  have := k.isLt; intro a; fin_cases a
  · show k.val + 1 ≤ 12; omega
  · show 0 + 768 ≤ 768; omega
  · show 0 + 256 ≤ 256; omega
/-- Block `k` of the output. -/
abbrev outR (k : Fin 12) : Rect S12x768x256 := Rect.unit (outOff k) S1x768x256.size (outOff_inb k)

/-- The first rows of the codes, the others, and their scales. -/
abbrev codesA (x0 : Vec F S992x8192 .fp8e4m3) : Vec F S224x8192 .fp8e4m3 := k0_pay5 (View.ld x0 (Rect.unit (s := S992x8192) ![0, 0] S224x8192.size inb_S992x8192_S224x8192_0_0))
abbrev codesB (x0 : Vec F S992x8192 .fp8e4m3) : Vec F S768x8192 .fp8e4m3 := k0_pay6 (View.ld x0 (Rect.unit (s := S992x8192) ![224, 0] S768x8192.size inb_S992x8192_S768x8192_224_0))
abbrev scalesA (x1 : Vec F S992x1 .f32) : Vec F S224x128 .f32 := View.ld (k0_pay7 x1) (Rect.unit (s := S992x128) ![0, 0] S224x128.size inb_S992x128_S224x128_0_0)
abbrev scalesB (x1 : Vec F S992x1 .f32) : Vec F S768x128 .f32 := View.ld (k0_pay7 x1) (Rect.unit (s := S992x128) ![224, 0] S768x128.size inb_S992x128_S768x128_224_0)

/-- What the body writes into block `k` of the output. -/
def payT (c : Dev nD) (x0 : Vec F S992x8192 .fp8e4m3) (x1 : Vec F S992x1 .f32) (x3 : Vec F S1x3072 .f32) (x4 : Vec F S1x3072 .f32)
    (XA : Buf (Elt F) (wM.view.loc (c : Thread nD τ))) (k : Fin 12) : FVec F S1x768x256 .f32 :=
  hidT (codesB x0) (View.read (Elt F) (tile k).view XA) (scalesB x1) (View.ld x3 (colR k)) (View.ld x4 (colR k))

/-! ## What the body's loads read -/

/-- A load through a whole memref holding `x` reads `x`'s elements under the rectangle. -/
theorem ldR {s : Shape} {e : EltTy} (arg : Memref sig .tc .vmem s e) (h : arg.IsWhole) (x : Vec F s e) (r : Rect s) :
    View.readAt (Elt F) arg.view r.toLoadRect (h.unread x) = View.ld x r :=
  funext fun j => by rw [View.readAt_apply, h.read_unread]
/-- The scales, whole. -/
theorem ldQ (x : Vec F S992x1 .f32) (inb : ∀ a, (![0, 0] : Fin 2 → Nat) a + S992x1.size a ≤ S992x1.size a) : View.ld x (Rect.unit (s := S992x1) ![0, 0] S992x1.size inb) = x :=
  funext fun j => congrArg x (funext fun a => Fin.ext (by
    fin_cases a
    · show 0 + 1 * (j 0).val = (j 0).val; omega
    · show 0 + 1 * (j 1).val = (j 1).val; omega))
/-- Scales stored whole read back. -/
theorem sc_read (v : View sig .tc .vmem S992x128 .f32) (f : v.ty.Contents (Elt F)) (inb : ∀ a, (![0, 0] : Fin 2 → Nat) a + S992x128.size a ≤ S992x128.size a) (w : Vec F S992x128 .f32) :
    v.read (Elt F) (v.writes (Elt F) f [⟨Rect.unit (s := S992x128) ![0, 0] S992x128.size inb, w⟩]) = w :=
  funext fun y => View.read_writes_apply_of_pieces (v := v) (f := f) w _
    (fun p hp x => by
      obtain rfl := List.mem_singleton.mp hp
      refine congrArg w (funext fun a => Fin.ext ?_)
      fin_cases a
      · show (x 0).val = 0 + 1 * (x 0).val; omega
      · show (x 1).val = 0 + 1 * (x 1).val; omega) y
    ⟨_, List.mem_singleton.mpr rfl, by
      rw [Rect.mem_set_unit]; intro a
      have h0 : (y 0).val < 992 := (y 0).isLt
      have h1 : (y 1).val < 128 := (y 1).isLt
      fin_cases a
      · show 0 ≤ (y 0).val ∧ (y 0).val < 0 + 992; omega
      · show 0 ≤ (y 1).val ∧ (y 1).val < 0 + 128; omega⟩

theorem payT_of (c : Dev nD) (x0 : Vec F S992x8192 .fp8e4m3) (x1 : Vec F S992x1 .f32) (x3 : Vec F S1x3072 .f32) (x4 : Vec F S1x3072 .f32)
    (XA : Buf (Elt F) (wM.view.loc (c : Thread nD τ))) (k : Fin 12) {la : Vec F S768x8192 .fp8e4m3} {w : Vec F S8192x256 .fp8e4m3} {sc : Vec F S768x128 .f32} {s b : Vec F S1x256 .f32}
    (hla : la = codesB x0) (hw : w = View.read (Elt F) (tile k).view XA) (hsc : sc = scalesB x1) (hs : s = View.ld x3 (colR k)) (hb : b = View.ld x4 (colR k)) :
    hidT la w sc s b = payT c x0 x1 x3 x4 XA k := by subst hla hw hsc hs hb; rfl

theorem piece_cons {r r' : Rect S12x768x256} {w : r.shape.Idx → Elt F .f32} {w' : r'.shape.Idx → Elt F .f32} {L L' : List (View.Piece (Elt F) S12x768x256 .f32)} (e : r = r') (h : HEq w w') (h' : L = L') :
    ((⟨r, w⟩ : View.Piece (Elt F) S12x768x256 .f32) :: L) = ⟨r', w'⟩ :: L' := by subst e h'; cases h; rfl

/-- A block written at literal offsets is block `k`. -/
theorem piece_lit (k : Fin 12) {off : Fin 3 → Nat} (e : off = outOff k) (inb : ∀ a, off a + S1x768x256.size a ≤ S12x768x256.size a) {w w' : Vec F S1x768x256 .f32} (h : w = w') :
    (⟨Rect.unit (s := S12x768x256) off S1x768x256.size inb, w⟩ : View.Piece (Elt F) S12x768x256 .f32) = ⟨outR k, w'⟩ := by subst e h; rfl

theorem form0 (a : Vec F S768x8192 .fp8e4m3) (v : Vec F S1x8192x256 .fp8e4m3) (q : Vec F S768x128 .f32) (s b : Vec F S1x256 .f32) : k0_pay13 a v q s b = hidT a (shapeCast S8192x256 v shapeCasts_S1x8192x256_S8192x256) q s b := rfl
theorem form1 (a : Vec F S768x8192 .fp8e4m3) (v : Vec F S1x8192x256 .fp8e4m3) (q : Vec F S768x128 .f32) (s b : Vec F S1x256 .f32) : k0_pay15 (k0_pay14 a v) q s b = hidT a (shapeCast S8192x256 v shapeCasts_S1x8192x256_S8192x256) q s b := rfl
theorem form2 (a : Vec F S768x8192 .fp8e4m3) (v : Vec F S1x8192x256 .fp8e4m3) (q : Vec F S768x128 .f32) (s b : Vec F S1x256 .f32) : k0_pay16 a v q s b = hidT a (shapeCast S8192x256 v shapeCasts_S1x8192x256_S8192x256) q s b := rfl
theorem form3 (a : Vec F S768x8192 .fp8e4m3) (v : Vec F S1x8192x256 .fp8e4m3) (q : Vec F S768x128 .f32) (s b : Vec F S1x256 .f32) : k0_pay17 a v q s b = hidT a (shapeCast S8192x256 v shapeCasts_S1x8192x256_S8192x256) q s b := rfl
theorem form4 (a : Vec F S768x8192 .fp8e4m3) (v : Vec F S1x8192x256 .fp8e4m3) (q : Vec F S768x128 .f32) (s b : Vec F S1x256 .f32) : k0_pay20 (k0_pay18 a v q s) (k0_pay19 b) = hidT a (shapeCast S8192x256 v shapeCasts_S1x8192x256_S8192x256) q s b := rfl
theorem form5 (a : Vec F S768x8192 .fp8e4m3) (v : Vec F S1x8192x256 .fp8e4m3) (q : Vec F S768x128 .f32) (s b : Vec F S1x256 .f32) : k0_pay21 a v q s b = hidT a (shapeCast S8192x256 v shapeCasts_S1x8192x256_S8192x256) q s b := rfl
theorem form6 (a : Vec F S768x8192 .fp8e4m3) (v : Vec F S1x8192x256 .fp8e4m3) (q : Vec F S768x128 .f32) (s b : Vec F S1x256 .f32) : k0_pay23 (k0_pay22 a v) q s b = hidT a (shapeCast S8192x256 v shapeCasts_S1x8192x256_S8192x256) q s b := rfl
theorem form7 (a : Vec F S768x8192 .fp8e4m3) (v : Vec F S1x8192x256 .fp8e4m3) (q : Vec F S768x128 .f32) (s b : Vec F S1x256 .f32) : k0_pay24 a v q s b = hidT a (shapeCast S8192x256 v shapeCasts_S1x8192x256_S8192x256) q s b := rfl
theorem form8 (a : Vec F S768x8192 .fp8e4m3) (v : Vec F S1x8192x256 .fp8e4m3) (q : Vec F S768x128 .f32) (s b : Vec F S1x256 .f32) : k0_pay25 a v q s b = hidT a (shapeCast S8192x256 v shapeCasts_S1x8192x256_S8192x256) q s b := rfl
theorem form9 (a : Vec F S768x8192 .fp8e4m3) (v : Vec F S1x8192x256 .fp8e4m3) (q : Vec F S768x128 .f32) (s b : Vec F S1x256 .f32) : k0_pay28 (k0_pay26 a v q s) (k0_pay27 b) = hidT a (shapeCast S8192x256 v shapeCasts_S1x8192x256_S8192x256) q s b := rfl
theorem form10 (a : Vec F S768x8192 .fp8e4m3) (v : Vec F S1x8192x256 .fp8e4m3) (q : Vec F S768x128 .f32) (s b : Vec F S1x256 .f32) : k0_pay29 a v q s b = hidT a (shapeCast S8192x256 v shapeCasts_S1x8192x256_S8192x256) q s b := rfl
theorem form11 (a : Vec F S768x8192 .fp8e4m3) (v : Vec F S1x8192x256 .fp8e4m3) (q : Vec F S768x128 .f32) (s b : Vec F S1x256 .f32) : k0_pay1 (k0_pay30 a v) q s b = hidT a (shapeCast S8192x256 v shapeCasts_S1x8192x256_S8192x256) q s b := rfl

section
variable (c : Dev nD) (arg0 : Memref sig .tc .vmem S992x8192 .fp8e4m3) (harg0 : arg0.IsWhole) (arg1 : Memref sig .tc .vmem S992x1 .f32) (harg1 : arg1.IsWhole)
    (arg3 : Memref sig .tc .vmem S1x3072 .f32) (harg3 : arg3.IsWhole) (arg4 : Memref sig .tc .vmem S1x3072 .f32) (harg4 : arg4.IsWhole)
    (arg8 : Memref sig .tc .vmem S224x8192 .fp8e4m3) (harg8 : arg8.IsWhole) (arg9 : Memref sig .tc .vmem S768x8192 .fp8e4m3) (harg9 : arg9.IsWhole) (arg10 : Memref sig .tc .vmem S992x128 .f32) (harg10 : arg10.IsWhole)
    (x0 : Vec F S992x8192 .fp8e4m3) (x1 : Vec F S992x1 .f32) (x3 : Vec F S1x3072 .f32) (x4 : Vec F S1x3072 .f32)
    (XA : Buf (Elt F) (wM.view.loc (c : Thread nD τ)))

theorem la_eq : bodyRun.sl.v87 c arg0 harg0 arg9 x0 = codesB x0 := by
  unfold bodyRun.sl.v87 bodyRun.sl.H9_1
  exact (View.readCov_cons_toLoadRect arg9.view _ _ _).trans (congrArg k0_pay6 (ldR arg0 harg0 x0 _))
theorem sc_eq : bodyRun.sl.v91 c arg1 harg1 arg10 x1 = scalesB x1 := by
  unfold bodyRun.sl.v91 bodyRun.sl.H10_1
  rw [ldR arg1 harg1 x1, ldQ]
  exact funext fun j => (View.readAt_apply ..).trans (congrFun (sc_read arg10.view _ _ _) _)

theorem w_eq0 : shapeCast S8192x256 (bodyRun.sl.v88 c XA) shapeCasts_S1x8192x256_S8192x256 = View.read (Elt F) (tile 0).view XA := by
  unfold bodyRun.sl.v88
  exact landed 0 (by decide) _ _ _
theorem w_eq1 : shapeCast S8192x256 (bodyRun.sl.v108 c XA) shapeCasts_S1x8192x256_S8192x256 = View.read (Elt F) (tile 1).view XA := by
  unfold bodyRun.sl.v108
  exact landed 1 (by decide) _ _ _
theorem w_eq2 : shapeCast S8192x256 (bodyRun.sl.v128 c XA) shapeCasts_S1x8192x256_S8192x256 = View.read (Elt F) (tile 2).view XA := by
  unfold bodyRun.sl.v128
  exact landed 2 (by decide) _ _ _
theorem w_eq3 : shapeCast S8192x256 (bodyRun.sl.v148 c XA) shapeCasts_S1x8192x256_S8192x256 = View.read (Elt F) (tile 3).view XA := by
  unfold bodyRun.sl.v148
  exact landed 3 (by decide) _ _ _
theorem w_eq4 : shapeCast S8192x256 (bodyRun.sl.v168 c XA) shapeCasts_S1x8192x256_S8192x256 = View.read (Elt F) (tile 4).view XA := by
  unfold bodyRun.sl.v168
  exact landed 4 (by decide) _ _ _
theorem w_eq5 : shapeCast S8192x256 (bodyRun.sl.v188 c XA) shapeCasts_S1x8192x256_S8192x256 = View.read (Elt F) (tile 5).view XA := by
  unfold bodyRun.sl.v188
  exact landed 5 (by decide) _ _ _
theorem w_eq6 : shapeCast S8192x256 (bodyRun.sl.v208 c XA) shapeCasts_S1x8192x256_S8192x256 = View.read (Elt F) (tile 6).view XA := by
  unfold bodyRun.sl.v208
  exact landed 6 (by decide) _ _ _
theorem w_eq7 : shapeCast S8192x256 (bodyRun.sl.v228 c XA) shapeCasts_S1x8192x256_S8192x256 = View.read (Elt F) (tile 7).view XA := by
  unfold bodyRun.sl.v228
  exact landed 7 (by decide) _ _ _
theorem w_eq8 : shapeCast S8192x256 (bodyRun.sl.v248 c XA) shapeCasts_S1x8192x256_S8192x256 = View.read (Elt F) (tile 8).view XA := by
  unfold bodyRun.sl.v248
  exact landed 8 (by decide) _ _ _
theorem w_eq9 : shapeCast S8192x256 (bodyRun.sl.v268 c XA) shapeCasts_S1x8192x256_S8192x256 = View.read (Elt F) (tile 9).view XA := by
  unfold bodyRun.sl.v268
  exact landed 9 (by decide) _ _ _
theorem w_eq10 : shapeCast S8192x256 (bodyRun.sl.v288 c XA) shapeCasts_S1x8192x256_S8192x256 = View.read (Elt F) (tile 10).view XA := by
  unfold bodyRun.sl.v288
  exact landed 10 (by decide) _ _ _
theorem w_eq11 : shapeCast S8192x256 (bodyRun.sl.v308 c XA) shapeCasts_S1x8192x256_S8192x256 = View.read (Elt F) (tile 11).view XA := by
  unfold bodyRun.sl.v308
  exact landed 11 (by decide) _ _ _

theorem pieces_eq (arg5 : Memref sig .tc .vmem S12x224x256 .f32) (harg5 : arg5.IsWhole) (arg6 : Memref sig .tc .vmem S12x768x256 .f32) (harg6 : arg6.IsWhole) :
    (bodyRun c arg0 harg0 arg1 harg1 arg3 harg3 arg4 harg4 arg5 harg5 arg6 harg6 arg8 harg8 arg9 harg9 arg10 harg10 x0 x1 x3 x4 XA).2.2.1 = [⟨outR 11, payT c x0 x1 x3 x4 XA 11⟩, ⟨outR 10, payT c x0 x1 x3 x4 XA 10⟩, ⟨outR 9, payT c x0 x1 x3 x4 XA 9⟩, ⟨outR 8, payT c x0 x1 x3 x4 XA 8⟩, ⟨outR 7, payT c x0 x1 x3 x4 XA 7⟩, ⟨outR 6, payT c x0 x1 x3 x4 XA 6⟩, ⟨outR 5, payT c x0 x1 x3 x4 XA 5⟩, ⟨outR 4, payT c x0 x1 x3 x4 XA 4⟩, ⟨outR 3, payT c x0 x1 x3 x4 XA 3⟩, ⟨outR 2, payT c x0 x1 x3 x4 XA 2⟩, ⟨outR 1, payT c x0 x1 x3 x4 XA 1⟩, ⟨outR 0, payT c x0 x1 x3 x4 XA 0⟩] := by
  unfold bodyRun
  dsimp only
  unfold bodyRun.sl.r bodyRun.sl.r_1 bodyRun.sl.r_2 bodyRun.sl.r_3 bodyRun.sl.r_4 bodyRun.sl.r_5 bodyRun.sl.r_6
  refine congrArg₂ List.cons (piece_lit 11 (by decide) _ ((form11 _ _ _ _ _).trans (payT_of c x0 x1 x3 x4 XA 11
    (la_eq c arg0 harg0 arg9 x0) (w_eq11 c XA) (sc_eq c arg1 harg1 arg10 x1) (ldS arg3 harg3 x3 11 (by decide) _) (ldS arg4 harg4 x4 11 (by decide) _)))) ?_
  refine congrArg₂ List.cons (piece_lit 10 (by decide) _ ((form10 _ _ _ _ _).trans (payT_of c x0 x1 x3 x4 XA 10
    (la_eq c arg0 harg0 arg9 x0) (w_eq10 c XA) (sc_eq c arg1 harg1 arg10 x1) (ldS arg3 harg3 x3 10 (by decide) _) (ldS arg4 harg4 x4 10 (by decide) _)))) ?_
  refine congrArg₂ List.cons (piece_lit 9 (by decide) _ ((form9 _ _ _ _ _).trans (payT_of c x0 x1 x3 x4 XA 9
    (la_eq c arg0 harg0 arg9 x0) (w_eq9 c XA) (sc_eq c arg1 harg1 arg10 x1) (ldS arg3 harg3 x3 9 (by decide) _) (ldS arg4 harg4 x4 9 (by decide) _)))) ?_
  refine congrArg₂ List.cons (piece_lit 8 (by decide) _ ((form8 _ _ _ _ _).trans (payT_of c x0 x1 x3 x4 XA 8
    (la_eq c arg0 harg0 arg9 x0) (w_eq8 c XA) (sc_eq c arg1 harg1 arg10 x1) (ldS arg3 harg3 x3 8 (by decide) _) (ldS arg4 harg4 x4 8 (by decide) _)))) ?_
  refine congrArg₂ List.cons (piece_lit 7 (by decide) _ ((form7 _ _ _ _ _).trans (payT_of c x0 x1 x3 x4 XA 7
    (la_eq c arg0 harg0 arg9 x0) (w_eq7 c XA) (sc_eq c arg1 harg1 arg10 x1) (ldS arg3 harg3 x3 7 (by decide) _) (ldS arg4 harg4 x4 7 (by decide) _)))) ?_
  refine congrArg₂ List.cons (piece_lit 6 (by decide) _ ((form6 _ _ _ _ _).trans (payT_of c x0 x1 x3 x4 XA 6
    (la_eq c arg0 harg0 arg9 x0) (w_eq6 c XA) (sc_eq c arg1 harg1 arg10 x1) (ldS arg3 harg3 x3 6 (by decide) _) (ldS arg4 harg4 x4 6 (by decide) _)))) ?_
  refine congrArg₂ List.cons (piece_lit 5 (by decide) _ ((form5 _ _ _ _ _).trans (payT_of c x0 x1 x3 x4 XA 5
    (la_eq c arg0 harg0 arg9 x0) (w_eq5 c XA) (sc_eq c arg1 harg1 arg10 x1) (ldS arg3 harg3 x3 5 (by decide) _) (ldS arg4 harg4 x4 5 (by decide) _)))) ?_
  refine congrArg₂ List.cons (piece_lit 4 (by decide) _ ((form4 _ _ _ _ _).trans (payT_of c x0 x1 x3 x4 XA 4
    (la_eq c arg0 harg0 arg9 x0) (w_eq4 c XA) (sc_eq c arg1 harg1 arg10 x1) (ldS arg3 harg3 x3 4 (by decide) _) (ldS arg4 harg4 x4 4 (by decide) _)))) ?_
  refine congrArg₂ List.cons (piece_lit 3 (by decide) _ ((form3 _ _ _ _ _).trans (payT_of c x0 x1 x3 x4 XA 3
    (la_eq c arg0 harg0 arg9 x0) (w_eq3 c XA) (sc_eq c arg1 harg1 arg10 x1) (ldS arg3 harg3 x3 3 (by decide) _) (ldS arg4 harg4 x4 3 (by decide) _)))) ?_
  refine congrArg₂ List.cons (piece_lit 2 (by decide) _ ((form2 _ _ _ _ _).trans (payT_of c x0 x1 x3 x4 XA 2
    (la_eq c arg0 harg0 arg9 x0) (w_eq2 c XA) (sc_eq c arg1 harg1 arg10 x1) (ldS arg3 harg3 x3 2 (by decide) _) (ldS arg4 harg4 x4 2 (by decide) _)))) ?_
  refine congrArg₂ List.cons (piece_lit 1 (by decide) _ ((form1 _ _ _ _ _).trans (payT_of c x0 x1 x3 x4 XA 1
    (la_eq c arg0 harg0 arg9 x0) (w_eq1 c XA) (sc_eq c arg1 harg1 arg10 x1) (ldS arg3 harg3 x3 1 (by decide) _) (ldS arg4 harg4 x4 1 (by decide) _)))) ?_
  refine congrArg₂ List.cons (piece_lit 0 (by decide) _ ((form0 _ _ _ _ _).trans (payT_of c x0 x1 x3 x4 XA 0
    (la_eq c arg0 harg0 arg9 x0) (w_eq0 c XA) (sc_eq c arg1 harg1 arg10 x1) (ldS arg3 harg3 x3 0 (by decide) _) (ldS arg4 harg4 x4 0 (by decide) _)))) ?_
  rfl

/-- The codes that the loop reads are the first rows' codes, -/
theorem codesA_eq (arg5 : Memref sig .tc .vmem S12x224x256 .f32) (harg5 : arg5.IsWhole) (arg6 : Memref sig .tc .vmem S12x768x256 .f32) (harg6 : arg6.IsWhole) :
    laOf c arg8 (bodyRun c arg0 harg0 arg1 harg1 arg3 harg3 arg4 harg4 arg5 harg5 arg6 harg6 arg8 harg8 arg9 harg9 arg10 harg10 x0 x1 x3 x4 XA).1 = codesA x0 := by
  unfold bodyRun
  dsimp only
  unfold bodyRun.sl.H8_1
  rw [ldR arg0 harg0 x0]
  exact View.readCov_cons_toLoadRect arg8.view _ _ _
/-- and the scales their scales. -/
theorem scalesA_eq (arg5 : Memref sig .tc .vmem S12x224x256 .f32) (harg5 : arg5.IsWhole) (arg6 : Memref sig .tc .vmem S12x768x256 .f32) (harg6 : arg6.IsWhole) :
    scOf c arg10 (bodyRun c arg0 harg0 arg1 harg1 arg3 harg3 arg4 harg4 arg5 harg5 arg6 harg6 arg8 harg8 arg9 harg9 arg10 harg10 x0 x1 x3 x4 XA).2.1 = scalesA x1 := by
  unfold bodyRun
  dsimp only
  unfold bodyRun.sl.H10_1
  rw [ldR arg1 harg1 x1, ldQ]
  exact funext fun j => (View.readAt_apply ..).trans (congrFun (sc_read arg10.view _ _ _) _)

/-- The body's run, with what it leaves in both outputs named. -/
theorem body_run (arg5 : Memref sig .tc .vmem S12x224x256 .f32) (harg5 : arg5.IsWhole) (arg6 : Memref sig .tc .vmem S12x768x256 .f32) (harg6 : arg6.IsWhole) :
      ∀ (W : Waits sig Unit) (K : PUnit → sProp 𝕄) (f5 : Buf (Elt F) (arg5.view.loc (c : Thread nD τ))) (f6 : Buf (Elt F) (arg6.view.loc (c : Thread nD τ)))
        (f8 : Buf (Elt F) (arg8.view.loc (c : Thread nD τ))) (f9 : Buf (Elt F) (arg9.view.loc (c : Thread nD τ))) (f10 : Buf (Elt F) (arg10.view.loc (c : Thread nD τ))) (fs : (s : Fin 12) → Buf (Elt F) ((slab s).view.loc (c : Thread nD τ))),
        iprop(owns (c : Thread nD τ) arg0 fullShare x0 ∗ owns (c : Thread nD τ) arg1 fullShare x1 ∗ owns (c : Thread nD τ) arg3 fullShare x3 ∗ owns (c : Thread nD τ) arg4 fullShare x4
            ∗ (arg5.view.loc (c : Thread nD τ) ↦[arg5.view.set]{fullShare} f5) ∗ (arg6.view.loc (c : Thread nD τ) ↦[arg6.view.set]{fullShare} f6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
            ∗ slabP c 0 (fs 0) ∗ slabP c 1 (fs 1) ∗ slabP c 2 (fs 2) ∗ slabP c 3 (fs 3) ∗ slabP c 4 (fs 4) ∗ slabP c 5 (fs 5) ∗ slabP c 6 (fs 6) ∗ slabP c 7 (fs 7) ∗ slabP c 8 (fs 8) ∗ slabP c 9 (fs 9) ∗ slabP c 10 (fs 10) ∗ slabP c 11 (fs 11)
            ∗ homeP c XA 0 ∗ homeP c XA 1 ∗ homeP c XA 2 ∗ homeP c XA 3 ∗ homeP c XA 4 ∗ homeP c XA 5 ∗ homeP c XA 6 ∗ homeP c XA 7 ∗ homeP c XA 8 ∗ homeP c XA 9 ∗ homeP c XA 10 ∗ homeP c XA 11
            ∗ cellP c 0 ∗ cellP c 1 ∗ cellP c 2 ∗ cellP c 3 ∗ cellP c 4 ∗ cellP c 5 ∗ cellP c 6 ∗ cellP c 7 ∗ cellP c 8 ∗ cellP c 9 ∗ cellP c 10 ∗ cellP c 11
            ∗ owes (c : Thread nD τ) 0 W
            ∗ (iprop(owns (c : Thread nD τ) arg0 fullShare x0 ∗ owns (c : Thread nD τ) arg1 fullShare x1 ∗ owns (c : Thread nD τ) arg3 fullShare x3 ∗ owns (c : Thread nD τ) arg4 fullShare x4
                ∗ (∃ g : Buf (Elt F) (arg5.view.loc (c : Thread nD τ)), ⌜arg5.view.read (Elt F) g = outA c (codesA x0) (scalesA x1) x3 x4 XA⌝ ∗ (arg5.view.loc (c : Thread nD τ) ↦[arg5.view.set]{fullShare} g)) ∗ (arg6.view.loc (c : Thread nD τ) ↦[arg6.view.set]{fullShare} arg6.view.writes (Elt F) f6 ([⟨outR 11, payT c x0 x1 x3 x4 XA 11⟩, ⟨outR 10, payT c x0 x1 x3 x4 XA 10⟩, ⟨outR 9, payT c x0 x1 x3 x4 XA 9⟩, ⟨outR 8, payT c x0 x1 x3 x4 XA 8⟩, ⟨outR 7, payT c x0 x1 x3 x4 XA 7⟩, ⟨outR 6, payT c x0 x1 x3 x4 XA 6⟩, ⟨outR 5, payT c x0 x1 x3 x4 XA 5⟩, ⟨outR 4, payT c x0 x1 x3 x4 XA 4⟩, ⟨outR 3, payT c x0 x1 x3 x4 XA 3⟩, ⟨outR 2, payT c x0 x1 x3 x4 XA 2⟩, ⟨outR 1, payT c x0 x1 x3 x4 XA 1⟩, ⟨outR 0, payT c x0 x1 x3 x4 XA 0⟩])) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))
                ∗ (∃ f, slabP c 0 f) ∗ (∃ f, slabP c 1 f) ∗ (∃ f, slabP c 2 f) ∗ (∃ f, slabP c 3 f) ∗ (∃ f, slabP c 4 f) ∗ (∃ f, slabP c 5 f) ∗ (∃ f, slabP c 6 f) ∗ (∃ f, slabP c 7 f) ∗ (∃ f, slabP c 8 f) ∗ (∃ f, slabP c 9 f) ∗ (∃ f, slabP c 10 f) ∗ (∃ f, slabP c 11 f)
                ∗ homeP c XA 0 ∗ homeP c XA 1 ∗ homeP c XA 2 ∗ homeP c XA 3 ∗ homeP c XA 4 ∗ homeP c XA 5 ∗ homeP c XA 6 ∗ homeP c XA 7 ∗ homeP c XA 8 ∗ homeP c XA 9 ∗ homeP c XA 10 ∗ homeP c XA 11
                ∗ cellP c 0 ∗ cellP c 1 ∗ cellP c 2 ∗ cellP c 3 ∗ cellP c 4 ∗ cellP c 5 ∗ cellP c 6 ∗ cellP c 7 ∗ cellP c 8 ∗ cellP c 9 ∗ cellP c 10 ∗ cellP c 11
                ∗ (∃ W, owes (c : Thread nD τ) 0 W)) -∗ K ⟨⟩))
          ⊢ wp Idealize.ShloMosaic.frame (wpE (defs₀ (F := F)) Variants.none c none) Set.univ
              (cc0_nsa_joint_compression arg0 harg0 arg1 harg1 wM (Memref.isWhole_whole _) arg3 harg3 arg4 harg4 arg5 harg5 arg6 harg6 ringM (Memref.isWhole_whole _) arg8 harg8 arg9 harg9 arg10 harg10 cc0_scratch4) K := by
  have hp := pieces_eq c arg0 harg0 arg1 harg1 arg3 harg3 arg4 harg4 arg8 harg8 arg9 harg9 arg10 harg10 x0 x1 x3 x4 XA arg5 harg5 arg6 harg6
  have ha := codesA_eq c arg0 harg0 arg1 harg1 arg3 harg3 arg4 harg4 arg8 harg8 arg9 harg9 arg10 harg10 x0 x1 x3 x4 XA arg5 harg5 arg6 harg6
  have hq := scalesA_eq c arg0 harg0 arg1 harg1 arg3 harg3 arg4 harg4 arg8 harg8 arg9 harg9 arg10 harg10 x0 x1 x3 x4 XA arg5 harg5 arg6 harg6
  revert hp ha hq
  generalize (bodyRun c arg0 harg0 arg1 harg1 arg3 harg3 arg4 harg4 arg5 harg5 arg6 harg6 arg8 harg8 arg9 harg9 arg10 harg10 x0 x1 x3 x4 XA) = R
  obtain ⟨g8, g10, L, hrun⟩ := R
  intro hp ha hq
  dsimp only at hp ha hq
  subst hp
  rw [ha, hq] at hrun
  exact hrun

end

end Cert.Proof.OfKernel

end
-- ==== Proof.Kernel.Launch.lean ====
/-
  The launch: the body at its one grid point, the run of the whole program, what it leaves in the result and in the arguments.
-/
module

public import proofs.«01_k».proof.Proof.Kernel.Pieces
public import Idealize.ShloMosaic.Lib.Pipeline.Value
public import Idealize.ShloMosaic.Lib.Claim

@[expose] public section

set_option maxRecDepth 16384

noncomputable section

namespace Cert.Proof.OfKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The output, element by element -/

section Out
variable (c : Dev nD) (x0 : Vec F S992x8192 .fp8e4m3) (x1 : Vec F S992x1 .f32) (x3 : Vec F S1x3072 .f32) (x4 : Vec F S1x3072 .f32)
    (XA : Buf (Elt F) (wM.view.loc (c : Thread nD τ)))

/-- The index of an output element within its block. -/
def inner (y : S12x768x256.Idx) : S1x768x256.Idx := fun a => match a with
  | ⟨0, _⟩ => (⟨0, Nat.one_pos⟩ : Fin 1)
  | ⟨1, _⟩ => y 1
  | ⟨2, _⟩ => y 2
/-- The block of an output element. -/
def blkOf (y : S12x768x256.Idx) : Fin 12 := y 0

/-- What the body leaves in the output. -/
def outV : Vec F S12x768x256 .f32 := fun y => payT c x0 x1 x3 x4 XA (blkOf y) (inner y)

/-- Its stores, last first. -/
def outL : List (View.Piece (Elt F) S12x768x256 .f32) := [⟨outR 11, payT c x0 x1 x3 x4 XA 11⟩, ⟨outR 10, payT c x0 x1 x3 x4 XA 10⟩, ⟨outR 9, payT c x0 x1 x3 x4 XA 9⟩, ⟨outR 8, payT c x0 x1 x3 x4 XA 8⟩, ⟨outR 7, payT c x0 x1 x3 x4 XA 7⟩, ⟨outR 6, payT c x0 x1 x3 x4 XA 6⟩, ⟨outR 5, payT c x0 x1 x3 x4 XA 5⟩, ⟨outR 4, payT c x0 x1 x3 x4 XA 4⟩, ⟨outR 3, payT c x0 x1 x3 x4 XA 3⟩, ⟨outR 2, payT c x0 x1 x3 x4 XA 2⟩, ⟨outR 1, payT c x0 x1 x3 x4 XA 1⟩, ⟨outR 0, payT c x0 x1 x3 x4 XA 0⟩]

theorem mem_outL (k : Fin 12) : (⟨outR k, payT c x0 x1 x3 x4 XA k⟩ : View.Piece (Elt F) S12x768x256 .f32) ∈ outL c x0 x1 x3 x4 XA := by
  unfold outL; fin_cases k
  · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))
  · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))
  · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))
  · exact (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))
  · exact (List.mem_cons_of_mem _ (List.mem_cons_of_mem _ (List.mem_cons_of_mem _ (List.mem_cons_of_mem _ (List.mem_cons_of_mem _ (List.mem_cons_of_mem _ (List.mem_cons_of_mem _ List.mem_cons_self)))))))
  · exact (List.mem_cons_of_mem _ (List.mem_cons_of_mem _ (List.mem_cons_of_mem _ (List.mem_cons_of_mem _ (List.mem_cons_of_mem _ (List.mem_cons_of_mem _ List.mem_cons_self))))))
  · exact (List.mem_cons_of_mem _ (List.mem_cons_of_mem _ (List.mem_cons_of_mem _ (List.mem_cons_of_mem _ (List.mem_cons_of_mem _ List.mem_cons_self)))))
  · exact (List.mem_cons_of_mem _ (List.mem_cons_of_mem _ (List.mem_cons_of_mem _ (List.mem_cons_of_mem _ List.mem_cons_self))))
  · exact (List.mem_cons_of_mem _ (List.mem_cons_of_mem _ (List.mem_cons_of_mem _ List.mem_cons_self)))
  · exact (List.mem_cons_of_mem _ (List.mem_cons_of_mem _ List.mem_cons_self))
  · exact (List.mem_cons_of_mem _ List.mem_cons_self)
  · exact List.mem_cons_self
theorem of_mem_outL (p : View.Piece (Elt F) S12x768x256 .f32) (hp : p ∈ outL c x0 x1 x3 x4 XA) :
    ∃ k : Fin 12, p = ⟨outR k, payT c x0 x1 x3 x4 XA k⟩ := by
  simp only [outL, List.mem_cons, List.mem_nil_iff, or_false] at hp
  rcases hp with h | h | h | h | h | h | h | h | h | h | h | h
  · exact ⟨11, h⟩
  · exact ⟨10, h⟩
  · exact ⟨9, h⟩
  · exact ⟨8, h⟩
  · exact ⟨7, h⟩
  · exact ⟨6, h⟩
  · exact ⟨5, h⟩
  · exact ⟨4, h⟩
  · exact ⟨3, h⟩
  · exact ⟨2, h⟩
  · exact ⟨1, h⟩
  · exact ⟨0, h⟩

theorem outV_emb (k : Fin 12) (x : (outR k).shape.Idx) : payT c x0 x1 x3 x4 XA k x = outV c x0 x1 x3 x4 XA ((outR k).emb x) := by
  have e0 : (x 0).val = 0 := by have := (x 0).isLt; exact Nat.lt_one_iff.mp this
  have hk : blkOf ((outR k).emb x) = k := Fin.ext (by show k.val + 1 * (x 0).val = k.val; omega)
  have hi : inner ((outR k).emb x) = x := funext fun a => Fin.ext (by
    match a with
    | ⟨0, _⟩ => exact e0.symm
    | ⟨1, _⟩ => show 0 + 1 * (x 1).val = (x 1).val; omega
    | ⟨2, _⟩ => show 0 + 1 * (x 2).val = (x 2).val; omega)
  unfold outV; rw [hk, hi]

theorem outL_cover (y : S12x768x256.Idx) : ∃ p ∈ outL c x0 x1 x3 x4 XA, y ∈ p.1.set := by
  refine ⟨_, mem_outL c x0 x1 x3 x4 XA (blkOf y), ?_⟩
  have h1 : (y 1).val < 768 := (y 1).isLt
  have h2 : (y 2).val < 256 := (y 2).isLt
  show y ∈ (outR (blkOf y)).set
  rw [Rect.mem_set_unit]; intro a; fin_cases a
  · show (y 0).val ≤ (y 0).val ∧ (y 0).val < (y 0).val + 1; omega
  · show 0 ≤ (y 1).val ∧ (y 1).val < 0 + 768; omega
  · show 0 ≤ (y 2).val ∧ (y 2).val < 0 + 256; omega

/-- Read back, the body's stores are `outV`. -/
theorem read_outL (v : View sig .tc .vmem S12x768x256 .f32) (f : v.ty.Contents (Elt F)) :
    v.read (Elt F) (v.writes (Elt F) f (outL c x0 x1 x3 x4 XA)) = outV c x0 x1 x3 x4 XA :=
  funext fun y => View.read_writes_apply_of_pieces (v := v) (f := f) (outV c x0 x1 x3 x4 XA) (outL c x0 x1 x3 x4 XA)
    (fun p hp => by obtain ⟨k, rfl⟩ := of_mem_outL c x0 x1 x3 x4 XA p hp; exact outV_emb c x0 x1 x3 x4 XA k) y (outL_cover c x0 x1 x3 x4 XA y)

end Out

/-! ## The pipeline's proof data -/

/-- The arrays as the region finds them; after the body each input's buffer at its block and the outputs' at `outA` and `outV`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outA c (codesA (iblk m c 0 t)) (scalesA (iblk m c 1 t)) (iblk m c 2 t) (iblk m c 3 t) (V m c main_arg2)
    | ⟨5, _⟩ => outV c (iblk m c 0 t) (iblk m c 1 t) (iblk m c 2 t) (iblk m c 3 t) (V m c main_arg2)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outA c (codesA (iblk m c 0 t)) (scalesA (iblk m c 1 t)) (iblk m c 2 t) (iblk m c 3 t) (V m c main_arg2) := by dsimp only [dats]
theorem after0_5 (c : Dev nD) (t : Fin cfg0.N) : (dats m 0 c).after 5 t = outV c (iblk m c 0 t) (iblk m c 1 t) (iblk m c 2 t) (iblk m c 3 t) (V m c main_arg2) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- The buffer at some contents is its twelve slabs at some contents, -/
theorem ring_open (c : Dev nD) : (iprop(∃ d, owns (c : Thread nD τ) scM0_0 fullShare d) : sProp 𝕄)
    ⊢ iprop(∃ fs : (s : Fin 12) → Buf (Elt F) ((slab s).view.loc (c : Thread nD τ)), slabP c 0 (fs 0) ∗ slabP c 1 (fs 1) ∗ slabP c 2 (fs 2) ∗ slabP c 3 (fs 3) ∗ slabP c 4 (fs 4) ∗ slabP c 5 (fs 5) ∗ slabP c 6 (fs 6) ∗ slabP c 7 (fs 7) ∗ slabP c 8 (fs 8) ∗ slabP c 9 (fs 9) ∗ slabP c 10 (fs 10) ∗ slabP c 11 (fs 11)) := by
  iintro ⟨%d, H⟩
  ihave H' := (entails_of_eq ((owns_whole _ _ _ _).trans ((ring_eq c d).trans (bigSep_fin12 _)))) $$ H
  iexists (fun _ => d); iexact H'
/-- and back. -/
theorem ring_close (c : Dev nD) : (iprop((∃ f, slabP c 0 f) ∗ (∃ f, slabP c 1 f) ∗ (∃ f, slabP c 2 f) ∗ (∃ f, slabP c 3 f) ∗ (∃ f, slabP c 4 f) ∗ (∃ f, slabP c 5 f) ∗ (∃ f, slabP c 6 f) ∗ (∃ f, slabP c 7 f) ∗ (∃ f, slabP c 8 f) ∗ (∃ f, slabP c 9 f) ∗ (∃ f, slabP c 10 f) ∗ (∃ f, slabP c 11 f)) : sProp 𝕄)
    ⊢ iprop(∃ d, owns (c : Thread nD τ) scM0_0 fullShare d) := by
  iintro H
  ihave H' := (entails_of_eq (bigSep_fin12 (fun s => iprop(∃ f, slabP c s f))).symm) $$ H
  ihave H'' := (ring_join c) $$ H'
  icases H'' with ⟨%f, H⟩
  iexists f
  iapply (entails_of_eq (owns_whole (c : Thread nD τ) cc0_scratch0 fullShare f).symm)
  iexact H
theorem cells_list (c : Dev nD) : (Pipeline.ownSems0 (Ix := Unit) (Name := ℕ) (U := Pipeline.UD sig nD τ) (Lvl := ℕ) (Val := Elt F) (τ := τ) osem0 c : sProp 𝕄)
    = iprop(cellP c 0 ∗ cellP c 1 ∗ cellP c 2 ∗ cellP c 3 ∗ cellP c 4 ∗ cellP c 5 ∗ cellP c 6 ∗ cellP c 7 ∗ cellP c 8 ∗ cellP c 9 ∗ cellP c 10 ∗ cellP c 11) := (cells_eq c).trans (bigSep_fin12 _)
theorem home_list (c : Dev nD) : (bigSep H0 (fun b => ((c : Thread nD τ).loc b) ↦{fullShare} V m c b) : sProp 𝕄)
    = iprop(homeP c (V m c main_arg2) 0 ∗ homeP c (V m c main_arg2) 1 ∗ homeP c (V m c main_arg2) 2 ∗ homeP c (V m c main_arg2) 3 ∗ homeP c (V m c main_arg2) 4 ∗ homeP c (V m c main_arg2) 5 ∗ homeP c (V m c main_arg2) 6 ∗ homeP c (V m c main_arg2) 7 ∗ homeP c (V m c main_arg2) 8 ∗ homeP c (V m c main_arg2) 9 ∗ homeP c (V m c main_arg2) 10 ∗ homeP c (V m c main_arg2) 11) := (hbmPts0_eq m c).trans ((w_eq c _).trans (bigSep_fin12 _))
/-- The invariant, in the pieces the body is run on. -/
theorem Phi_list (c : Dev nD) : (Pipeline.ΦD osem0 spec0 H0 (V m) c : sProp 𝕄)
    = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)
      ∗ iprop(cellP c 0 ∗ cellP c 1 ∗ cellP c 2 ∗ cellP c 3 ∗ cellP c 4 ∗ cellP c 5 ∗ cellP c 6 ∗ cellP c 7 ∗ cellP c 8 ∗ cellP c 9 ∗ cellP c 10 ∗ cellP c 11)
      ∗ iprop(homeP c (V m c main_arg2) 0 ∗ homeP c (V m c main_arg2) 1 ∗ homeP c (V m c main_arg2) 2 ∗ homeP c (V m c main_arg2) 3 ∗ homeP c (V m c main_arg2) 4 ∗ homeP c (V m c main_arg2) 5 ∗ homeP c (V m c main_arg2) 6 ∗ homeP c (V m c main_arg2) 7 ∗ homeP c (V m c main_arg2) 8 ∗ homeP c (V m c main_arg2) 9 ∗ homeP c (V m c main_arg2) 10 ∗ homeP c (V m c main_arg2) 11)) := by
  rw [Pipeline.ΦD_eq, scopedRest0_eq, cells_list, home_list]; simp only [scM0_0, scM0_1, scM0_2, scM0_3, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl, after0_0, after0_1, after0_2, after0_3, after0_4, after0_5]
  rw [show (dats m 0 c).Φ t.castSucc = Pipeline.ΦD osem0 spec0 H0 (V m) c from rfl, Phi_list]
  unfold Dat.owesAt Pipeline.owesWithin
  rw [show (dats m 0 c).owed t.castSucc = 0 from rfl, show (dats m 0 c).owed t.succ = 0 from rfl]
  have hrun := body_run c (ms0_0 t) (hs0_0 t) (ms0_1 t) (hs0_1 t) (ms0_2 t) (hs0_2 t) (ms0_3 t) (hs0_3 t) scM0_1 (Memref.isWhole_whole _) scM0_2 (Memref.isWhole_whole _) scM0_3 (Memref.isWhole_whole _)
    (iblk m c 0 t) (iblk m c 1 t) (iblk m c 2 t) (iblk m c 3 t) (V m c main_arg2) (ms0_4 t) (hs0_4 t) (ms0_5 t) (hs0_5 t)
  iintro ⟨⟨⟨HS0, ⟨%d8, HS1⟩, ⟨%d9, HS2⟩, ⟨%d10, HS3⟩⟩, Hg, ⟨Hq0, Hq1, Hq2, Hq3, Hq4, Hq5, Hq6, Hq7, Hq8, Hq9, Hq10, Hq11⟩, ⟨Hh0, Hh1, Hh2, Hh3, Hh4, Hh5, Hh6, Hh7, Hh8, Hh9, Hh10, Hh11⟩⟩, ⟨%W, -, HW⟩, ⟨%d0, H0⟩, ⟨%d1, H1⟩, ⟨%d2, H2⟩, ⟨%d3, H3⟩, ⟨%d4, H4⟩, ⟨%d5, H5⟩⟩
  ihave HR := (ring_open c) $$ HS0
  icases HR with ⟨%fs, Hs0, Hs1, Hs2, Hs3, Hs4, Hs5, Hs6, Hs7, Hs8, Hs9, Hs10, Hs11⟩
  unfold owns
  icases HS1 with ⟨%f8, -, HS1⟩
  icases HS2 with ⟨%f9, -, HS2⟩
  icases HS3 with ⟨%f10, -, HS3⟩
  icases H4 with ⟨%f4, -, H4⟩
  icases H5 with ⟨%f5, -, H5⟩
  iapply (hrun W _ f4 f5 f8 f9 f10 fs)
  unfold owns
  isplitl [H0]; · iexact H0
  isplitl [H1]; · iexact H1
  isplitl [H2]; · iexact H2
  isplitl [H3]; · iexact H3
  isplitl [H4]; · iexact H4
  isplitl [H5]; · iexact H5
  isplitl [HS1]; · iexact HS1
  isplitl [HS2]; · iexact HS2
  isplitl [HS3]; · iexact HS3
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [HW]; · iexact HW
  iintro ⟨H0, H1, H2, H3, ⟨%g, %hg, H4⟩, H5, HS1, HS2, HS3, Hs0, Hs1, Hs2, Hs3, Hs4, Hs5, Hs6, Hs7, Hs8, Hs9, Hs10, Hs11, Hh0, Hh1, Hh2, Hh3, Hh4, Hh5, Hh6, Hh7, Hh8, Hh9, Hh10, Hh11, Hq0, Hq1, Hq2, Hq3, Hq4, Hq5, Hq6, Hq7, Hq8, Hq9, Hq10, Hq11, ⟨%W', HW'⟩⟩
  isplitl [HS1 HS2 HS3 Hg Hs0 Hs1 Hs2 Hs3 Hs4 Hs5 Hs6 Hs7 Hs8 Hs9 Hs10 Hs11 Hh0 Hh1 Hh2 Hh3 Hh4 Hh5 Hh6 Hh7 Hh8 Hh9 Hh10 Hh11 Hq0 Hq1 Hq2 Hq3 Hq4 Hq5 Hq6 Hq7 Hq8 Hq9 Hq10 Hq11]
  · isplitl [HS1 HS2 HS3 Hs0 Hs1 Hs2 Hs3 Hs4 Hs5 Hs6 Hs7 Hs8 Hs9 Hs10 Hs11]
    · isplitl [Hs0 Hs1 Hs2 Hs3 Hs4 Hs5 Hs6 Hs7 Hs8 Hs9 Hs10 Hs11]
      · iapply (ring_close c)
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        isplitl [Hs7]; · iexact Hs7
        isplitl [Hs8]; · iexact Hs8
        isplitl [Hs9]; · iexact Hs9
        isplitl [Hs10]; · iexact Hs10
        iexact Hs11
      isplitl [HS1]
      · icases HS1 with ⟨%f, H⟩
        iexists _; iexists f; isplitr; · ipureintro; rfl
        iexact H
      isplitl [HS2]
      · icases HS2 with ⟨%f, H⟩
        iexists _; iexists f; isplitr; · ipureintro; rfl
        iexact H
      · icases HS3 with ⟨%f, H⟩
        iexists _; iexists f; isplitr; · ipureintro; rfl
        iexact H
    isplitl [Hg]
    · iexact Hg
    isplitl [Hq0 Hq1 Hq2 Hq3 Hq4 Hq5 Hq6 Hq7 Hq8 Hq9 Hq10 Hq11]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      iexact Hq11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    iexact Hh11
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · iexists g; isplitr
    · ipureintro; exact hg
    iexact H4
  iexists _; isplitr
  · ipureintro; exact read_outL c _ _ _ _ _ _ f5
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The arguments are unchanged, every semaphore at zero, and the results hold what the pipeline's write-back leaves. -/
theorem run_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = (fun _ => 0)
      ∧ ∀ c : Dev nD, r.2.mem ((c.tc : Thread nD τ).loc main_v2_0) = (dats m 0 c).arrAt 4 cfg0.N
        ∧ r.2.mem ((c.tc : Thread nD τ).loc main_v2_1) = (dats m 0 c).arrAt 5 cfg0.N) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩,
    h.2, fun c => ⟨(h.1 c).1 4, (h.1 c).1 5⟩⟩) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨h.1, h.2.1⟩) (run_all m ρ)

end Cert.Proof.OfKernel

end
-- ==== Proof.KernelIdeal.Kit.lean ====
/-
  What the proof of `KernelIdeal` is stated over: the contents of its buffers when the kernel is entered, the blocks its windows
  show, and the memrefs, semaphores and the array left in HBM that its body is given.
-/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.OfKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (t : Fin cfg0.N) : Memref sig .tc .vmem S992x8192 .fp8e4m3 := win0_0.stage (cfg0.slots t 0)
abbrev hs0_0 (t : Fin cfg0.N) : (ms0_0 t).IsWhole := hstage0_0 0
abbrev ms0_1 (t : Fin cfg0.N) : Memref sig .tc .vmem S992x1 .f32 := win0_1.stage (cfg0.slots t 1)
abbrev hs0_1 (t : Fin cfg0.N) : (ms0_1 t).IsWhole := hstage0_1 0
abbrev ms0_2 (t : Fin cfg0.N) : Memref sig .tc .vmem S1x3072 .f32 := win0_2.stage (cfg0.slots t 2)
abbrev hs0_2 (t : Fin cfg0.N) : (ms0_2 t).IsWhole := hstage0_2 0
abbrev ms0_3 (t : Fin cfg0.N) : Memref sig .tc .vmem S1x3072 .f32 := win0_3.stage (cfg0.slots t 3)
abbrev hs0_3 (t : Fin cfg0.N) : (ms0_3 t).IsWhole := hstage0_3 0
abbrev ms0_4 (t : Fin cfg0.N) : Memref sig .tc .vmem S12x224x256 .f32 := win0_4.stage (cfg0.slots t 4)
abbrev hs0_4 (t : Fin cfg0.N) : (ms0_4 t).IsWhole := hstage0_4 0
abbrev ms0_5 (t : Fin cfg0.N) : Memref sig .tc .vmem S12x768x256 .f32 := win0_5.stage (cfg0.slots t 5)
abbrev hs0_5 (t : Fin cfg0.N) : (ms0_5 t).IsWhole := hstage0_5 0
/-- The scratch operands: whole scoped buffers of the kernel's own, passed beside the windows. -/
abbrev scM0_0 : Memref sig .tc .vmem S12x8192x256 .fp8e4m3 := Memref.whole cc0_scratch0
abbrev scM0_1 : Memref sig .tc .vmem S224x8192 .fp8e4m3 := Memref.whole cc0_scratch1
abbrev scM0_2 : Memref sig .tc .vmem S768x8192 .fp8e4m3 := Memref.whole cc0_scratch2
abbrev scM0_3 : Memref sig .tc .vmem S992x128 .f32 := Memref.whole cc0_scratch3
/-- The operands left in HBM that the body copies into scratch itself, whole. -/
abbrev hbM0_0 : Memref sig .tc .hbm S8192x3072 .fp8e4m3 := Memref.whole main_arg2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 12 → SemLoc sig := fun j => (![SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17] : Fin 12 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [Pipeline.ownSems0_eq_of_list c osem0 [0, 1, 2, 3, 4, 5, 6, 7, 8, 9, 10, 11] (by decide) (by decide)]; rfl
/-- The HBM operands the body moves, as references: unscoped, no window's array (`Pipeline.restRefs`). -/
def H0 : Finset (Ref sig .tc) := {main_arg2}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt0 c hbM0_0 (V m c main_arg2))) := by
  rw [Pipeline.ΦD_eq, scopedRest0_eq, ownSems00_eq, hbmPts0_eq]; simp only [scM0_0, scM0_1, scM0_2, scM0_3, owns_whole]; try rfl

end Cert.Proof.OfKernelIdeal

end
-- ==== Proof.KernelIdeal.Tiles.lean ====
/-
  The weight's twelve tiles: their slices of the array in HBM, the twelve slabs of the buffer they are copied into and the
  twelve semaphores of those copies, each under one name; the array and the buffer held whole are their parts held apart.
-/
module

public import proofs.«01_k».proof.Proof.KernelIdeal.Kit

@[expose] public section

set_option maxRecDepth 16384

noncomputable section

namespace Cert.Proof.OfKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev wM : Memref sig .tc .hbm S8192x3072 .fp8e4m3 := Memref.whole main_arg2
abbrev ringM : Memref sig .tc .vmem S12x8192x256 .fp8e4m3 := Memref.whole cc0_scratch0

/-! ## Names -/

abbrev tileOff (b : Fin 12) : Fin 2 → Nat := ![0, 256 * b.val]
theorem tileOff_inb (b : Fin 12) : ∀ a, tileOff b a + S8192x256.size a ≤ S8192x3072.size a := by
  have := b.isLt; intro a; fin_cases a
  · show 0 + 8192 ≤ 8192; omega
  · show 256 * b.val + 256 ≤ 3072; omega
abbrev slabOff (s : Fin 12) : Fin 3 → Nat := ![s.val, 0, 0]
theorem slabOff_inb (s : Fin 12) : ∀ a, slabOff s a + S1x8192x256.size a ≤ S12x8192x256.size a := by
  have := s.isLt; intro a; fin_cases a
  · show s.val + 1 ≤ 12; omega
  · show 0 + 8192 ≤ 8192; omega
  · show 0 + 256 ≤ 256; omega
abbrev semOff (s : Fin 12) : Fin 1 → Nat := ![s.val]
theorem semOff_inb (s : Fin 12) : ∀ a, semOff s a + S1.size a ≤ S12.size a := by
  have := s.isLt; intro a; fin_cases a; show s.val + 1 ≤ 12; omega

/-- Tile `b` of the weight: its columns `256 b` to `256 b + 255`. -/
def tile (b : Fin 12) : Memref sig .tc .hbm S8192x256 .fp8e4m3 :=
  wM.slice (Rect.unit (s := S8192x3072) (tileOff b) S8192x256.size (tileOff_inb b)) (fun _ => rfl)
/-- Slab `s` of the buffer. -/
def slab (s : Fin 12) : Memref sig .tc .vmem S8192x256 .fp8e4m3 :=
  (ringM.slice (Rect.unit (s := S12x8192x256) (slabOff s) S1x8192x256.size (slabOff_inb s)) (fun _ => rfl)).squeeze S8192x256 squeezes_S1x8192x256_S8192x256
/-- Slab `s`'s semaphore. -/
def csm (s : Fin 12) : DmaSems sig S_ := (cc0_scratch4.slice (Rect.unit (s := S12) (semOff s) S1.size (semOff_inb s))).squeeze S_ squeezes_S1_S_

instance (s : Fin 12) : ClosedOff (slabOff s) := ⟨slabOff s, rfl⟩
instance (b : Fin 12) : ClosedOff (tileOff b) := ⟨tileOff b, rfl⟩

theorem csm_congr {off : Fin 1 → Nat} {s : Fin 12} (e : off = semOff s) (hh) :
    (cc0_scratch4.slice (Rect.unit (s := S12) off S1.size hh)).squeeze S_ squeezes_S1_S_ = csm s :=
  congrArg (fun A : DmaSems sig S1 => A.squeeze S_ squeezes_S1_S_) (SemArray.slice_unit_congr _ e _ _)
theorem slab_congr {off : Fin 3 → Nat} {s : Fin 12} (e : off = slabOff s) (hh hs) :
    (ringM.slice (Rect.unit (s := S12x8192x256) off S1x8192x256.size hh) hs).squeeze S8192x256 squeezes_S1x8192x256_S8192x256 = slab s :=
  congrArg (fun M : Memref sig .tc .vmem S1x8192x256 .fp8e4m3 => M.squeeze S8192x256 squeezes_S1x8192x256_S8192x256) (Memref.slice_unit_congr _ e _ _ _ _)
theorem tile_congr {off : Fin 2 → Nat} {b : Fin 12} (e : off = tileOff b) (hh hs) :
    wM.slice (Rect.unit (s := S8192x3072) off S8192x256.size hh) hs = tile b := Memref.slice_unit_congr _ e _ _ _ (fun _ => rfl)

/-! ## The body's literal slices under those names -/

@[sl_canon] theorem semL0 (hh) : (cc0_scratch4.slice (Rect.unit (s := S12) ![0] S1.size hh)).squeeze S_ squeezes_S1_S_ = csm 0 := csm_congr (by decide) _
@[sl_canon] theorem slabL0 (hh hs) : (ringM.slice (Rect.unit (s := S12x8192x256) ![0, 0, 0] S1x8192x256.size hh) hs).squeeze S8192x256 squeezes_S1x8192x256_S8192x256 = slab 0 := slab_congr (by decide) _ _
@[sl_canon] theorem tileL0 (hh hs) : wM.slice (Rect.unit (s := S8192x3072) ![0, 0] S8192x256.size hh) hs = tile 0 := tile_congr (by decide) _ _
@[sl_canon] theorem semL1 (hh) : (cc0_scratch4.slice (Rect.unit (s := S12) ![1] S1.size hh)).squeeze S_ squeezes_S1_S_ = csm 1 := csm_congr (by decide) _
@[sl_canon] theorem slabL1 (hh hs) : (ringM.slice (Rect.unit (s := S12x8192x256) ![1, 0, 0] S1x8192x256.size hh) hs).squeeze S8192x256 squeezes_S1x8192x256_S8192x256 = slab 1 := slab_congr (by decide) _ _
@[sl_canon] theorem tileL1 (hh hs) : wM.slice (Rect.unit (s := S8192x3072) ![0, 256] S8192x256.size hh) hs = tile 1 := tile_congr (by decide) _ _
@[sl_canon] theorem semL2 (hh) : (cc0_scratch4.slice (Rect.unit (s := S12) ![2] S1.size hh)).squeeze S_ squeezes_S1_S_ = csm 2 := csm_congr (by decide) _
@[sl_canon] theorem slabL2 (hh hs) : (ringM.slice (Rect.unit (s := S12x8192x256) ![2, 0, 0] S1x8192x256.size hh) hs).squeeze S8192x256 squeezes_S1x8192x256_S8192x256 = slab 2 := slab_congr (by decide) _ _
@[sl_canon] theorem tileL2 (hh hs) : wM.slice (Rect.unit (s := S8192x3072) ![0, 512] S8192x256.size hh) hs = tile 2 := tile_congr (by decide) _ _
@[sl_canon] theorem semL3 (hh) : (cc0_scratch4.slice (Rect.unit (s := S12) ![3] S1.size hh)).squeeze S_ squeezes_S1_S_ = csm 3 := csm_congr (by decide) _
@[sl_canon] theorem slabL3 (hh hs) : (ringM.slice (Rect.unit (s := S12x8192x256) ![3, 0, 0] S1x8192x256.size hh) hs).squeeze S8192x256 squeezes_S1x8192x256_S8192x256 = slab 3 := slab_congr (by decide) _ _
@[sl_canon] theorem tileL3 (hh hs) : wM.slice (Rect.unit (s := S8192x3072) ![0, 768] S8192x256.size hh) hs = tile 3 := tile_congr (by decide) _ _
@[sl_canon] theorem semL4 (hh) : (cc0_scratch4.slice (Rect.unit (s := S12) ![4] S1.size hh)).squeeze S_ squeezes_S1_S_ = csm 4 := csm_congr (by decide) _
@[sl_canon] theorem slabL4 (hh hs) : (ringM.slice (Rect.unit (s := S12x8192x256) ![4, 0, 0] S1x8192x256.size hh) hs).squeeze S8192x256 squeezes_S1x8192x256_S8192x256 = slab 4 := slab_congr (by decide) _ _
@[sl_canon] theorem tileL4 (hh hs) : wM.slice (Rect.unit (s := S8192x3072) ![0, 1024] S8192x256.size hh) hs = tile 4 := tile_congr (by decide) _ _
@[sl_canon] theorem semL5 (hh) : (cc0_scratch4.slice (Rect.unit (s := S12) ![5] S1.size hh)).squeeze S_ squeezes_S1_S_ = csm 5 := csm_congr (by decide) _
@[sl_canon] theorem slabL5 (hh hs) : (ringM.slice (Rect.unit (s := S12x8192x256) ![5, 0, 0] S1x8192x256.size hh) hs).squeeze S8192x256 squeezes_S1x8192x256_S8192x256 = slab 5 := slab_congr (by decide) _ _
@[sl_canon] theorem tileL5 (hh hs) : wM.slice (Rect.unit (s := S8192x3072) ![0, 1280] S8192x256.size hh) hs = tile 5 := tile_congr (by decide) _ _
@[sl_canon] theorem semL6 (hh) : (cc0_scratch4.slice (Rect.unit (s := S12) ![6] S1.size hh)).squeeze S_ squeezes_S1_S_ = csm 6 := csm_congr (by decide) _
@[sl_canon] theorem slabL6 (hh hs) : (ringM.slice (Rect.unit (s := S12x8192x256) ![6, 0, 0] S1x8192x256.size hh) hs).squeeze S8192x256 squeezes_S1x8192x256_S8192x256 = slab 6 := slab_congr (by decide) _ _
@[sl_canon] theorem tileL6 (hh hs) : wM.slice (Rect.unit (s := S8192x3072) ![0, 1536] S8192x256.size hh) hs = tile 6 := tile_congr (by decide) _ _
@[sl_canon] theorem semL7 (hh) : (cc0_scratch4.slice (Rect.unit (s := S12) ![7] S1.size hh)).squeeze S_ squeezes_S1_S_ = csm 7 := csm_congr (by decide) _
@[sl_canon] theorem slabL7 (hh hs) : (ringM.slice (Rect.unit (s := S12x8192x256) ![7, 0, 0] S1x8192x256.size hh) hs).squeeze S8192x256 squeezes_S1x8192x256_S8192x256 = slab 7 := slab_congr (by decide) _ _
@[sl_canon] theorem tileL7 (hh hs) : wM.slice (Rect.unit (s := S8192x3072) ![0, 1792] S8192x256.size hh) hs = tile 7 := tile_congr (by decide) _ _
@[sl_canon] theorem semL8 (hh) : (cc0_scratch4.slice (Rect.unit (s := S12) ![8] S1.size hh)).squeeze S_ squeezes_S1_S_ = csm 8 := csm_congr (by decide) _
@[sl_canon] theorem slabL8 (hh hs) : (ringM.slice (Rect.unit (s := S12x8192x256) ![8, 0, 0] S1x8192x256.size hh) hs).squeeze S8192x256 squeezes_S1x8192x256_S8192x256 = slab 8 := slab_congr (by decide) _ _
@[sl_canon] theorem tileL8 (hh hs) : wM.slice (Rect.unit (s := S8192x3072) ![0, 2048] S8192x256.size hh) hs = tile 8 := tile_congr (by decide) _ _
@[sl_canon] theorem semL9 (hh) : (cc0_scratch4.slice (Rect.unit (s := S12) ![9] S1.size hh)).squeeze S_ squeezes_S1_S_ = csm 9 := csm_congr (by decide) _
@[sl_canon] theorem slabL9 (hh hs) : (ringM.slice (Rect.unit (s := S12x8192x256) ![9, 0, 0] S1x8192x256.size hh) hs).squeeze S8192x256 squeezes_S1x8192x256_S8192x256 = slab 9 := slab_congr (by decide) _ _
@[sl_canon] theorem tileL9 (hh hs) : wM.slice (Rect.unit (s := S8192x3072) ![0, 2304] S8192x256.size hh) hs = tile 9 := tile_congr (by decide) _ _
@[sl_canon] theorem semL10 (hh) : (cc0_scratch4.slice (Rect.unit (s := S12) ![10] S1.size hh)).squeeze S_ squeezes_S1_S_ = csm 10 := csm_congr (by decide) _
@[sl_canon] theorem slabL10 (hh hs) : (ringM.slice (Rect.unit (s := S12x8192x256) ![10, 0, 0] S1x8192x256.size hh) hs).squeeze S8192x256 squeezes_S1x8192x256_S8192x256 = slab 10 := slab_congr (by decide) _ _
@[sl_canon] theorem tileL10 (hh hs) : wM.slice (Rect.unit (s := S8192x3072) ![0, 2560] S8192x256.size hh) hs = tile 10 := tile_congr (by decide) _ _
@[sl_canon] theorem semL11 (hh) : (cc0_scratch4.slice (Rect.unit (s := S12) ![11] S1.size hh)).squeeze S_ squeezes_S1_S_ = csm 11 := csm_congr (by decide) _
@[sl_canon] theorem slabL11 (hh hs) : (ringM.slice (Rect.unit (s := S12x8192x256) ![11, 0, 0] S1x8192x256.size hh) hs).squeeze S8192x256 squeezes_S1x8192x256_S8192x256 = slab 11 := slab_congr (by decide) _ _
@[sl_canon] theorem tileL11 (hh hs) : wM.slice (Rect.unit (s := S8192x3072) ![0, 2816] S8192x256.size hh) hs = tile 11 := tile_congr (by decide) _ _

/-! ## The loop's slices, at trip `k` -/

theorem trips_eq : k0_t1_loop.trips = 12 := by decide +kernel
/-- Trip `k` as the tile it works on. -/
abbrev kk (k : Fin k0_t1_loop.trips) : Fin 12 := ⟨k.val, trips_eq ▸ k.isLt⟩
@[sl_canon] theorem semK (k : Fin k0_t1_loop.trips) (hh) : (cc0_scratch4.slice (Rect.unit (s := S12) (k0_off1 k) S1.size hh)).squeeze S_ squeezes_S1_S_ = csm (kk k) := csm_congr (k0_off1_eq k) _
@[sl_canon] theorem slabK (k : Fin k0_t1_loop.trips) (hh hs) : (ringM.slice (Rect.unit (s := S12x8192x256) (k0_off2 k) S1x8192x256.size hh) hs).squeeze S8192x256 squeezes_S1x8192x256_S8192x256 = slab (kk k) := slab_congr (k0_off2_eq k) _ _
@[sl_canon] theorem tileK (k : Fin k0_t1_loop.trips) (hh hs) : wM.slice (Rect.unit (s := S8192x3072) (k0_off3 k) S8192x256.size hh) hs = tile (kk k) := tile_congr (k0_off3_eq k) _ _

/-! ## The pieces: a tile at home, a slab held, a slab's semaphore at zero -/

section Pieces
variable (c : Dev nD) (XA : Buf (Elt F) (wM.view.loc (c : Thread nD τ)))

abbrev cellP (s : Fin 12) : sProp 𝕄 := semVal ((c : Thread nD τ), SemLoc.dma (csm s).sem) 0
abbrev slabP (s : Fin 12) (f : Buf (Elt F) ((slab s).view.loc (c : Thread nD τ))) : sProp 𝕄 :=
  (slab s).view.loc (c : Thread nD τ) ↦[(slab s).view.set]{fullShare} f
/-- Tile `b` at home: held on its elements at the weight's contents. -/
abbrev homeP (b : Fin 12) : sProp 𝕄 := (tile b).view.loc (c : Thread nD τ) ↦[(tile b).view.set]{fullShare} XA

end Pieces

/-! ## Element sets: the twelve tiles, the twelve slabs -/

abbrev TS (b : Fin 12) : Finset S8192x3072.Idx := (Rect.unit (s := S8192x3072) (tileOff b) S8192x256.size (tileOff_inb b)).set
abbrev SS (s : Fin 12) : Finset S12x8192x256.Idx := (Rect.unit (s := S12x8192x256) (slabOff s) S1x8192x256.size (slabOff_inb s)).set

theorem tile_set (b : Fin 12) : (tile b : Memref sig .tc .hbm _ _).view.set = TS b := View.set_slice_whole _ _
theorem slab_set (s : Fin 12) : (slab s : Memref sig .tc .vmem _ _).view.set = SS s := (View.set_reshape _ _).trans (View.set_slice_whole _ _)

theorem mem_TS (b : Fin 12) (y : S8192x3072.Idx) : y ∈ TS b ↔ 256 * b.val ≤ (y 1).val ∧ (y 1).val < 256 * b.val + 256 := by
  rw [Rect.mem_set_unit]
  have h0 : (y 0).val < 8192 := (y 0).isLt
  constructor
  · intro H; exact H 1
  · intro H i; fin_cases i
    · show 0 ≤ (y 0).val ∧ (y 0).val < 0 + 8192; omega
    · exact H
theorem mem_SS (s : Fin 12) (y : S12x8192x256.Idx) : y ∈ SS s ↔ (y 0).val = s.val := by
  rw [Rect.mem_set_unit]
  have h1 : (y 1).val < 8192 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 8192; omega
    · show 0 ≤ (y 2).val ∧ (y 2).val < 0 + 256; omega
theorem TS_disjoint : ∀ b b' : Fin 12, b ≠ b' → Disjoint (TS b) (TS b') := by
  intro b b' hne; rw [Finset.disjoint_left]; intro y hy hy'; rw [mem_TS] at hy hy'; exact hne (Fin.ext (by omega))
theorem TS_cover : (Finset.univ : Finset (Fin 12)).biUnion TS = Finset.univ := by
  ext y; simp only [Finset.mem_biUnion, Finset.mem_univ, true_and, iff_true]
  have h1 : (y 1).val < 3072 := (y 1).isLt
  exact ⟨⟨(y 1).val / 256, by omega⟩, by rw [mem_TS]; dsimp only; omega⟩
theorem SS_disjoint : ∀ s s' : Fin 12, s ≠ s' → Disjoint (SS s) (SS s') := by
  intro s s' hne; rw [Finset.disjoint_left]; intro y hy hy'; rw [mem_SS] at hy hy'; exact hne (Fin.ext (hy.symm.trans hy'))
theorem SS_cover : (Finset.univ : Finset (Fin 12)).biUnion SS = Finset.univ := by
  ext y; simp only [Finset.mem_biUnion, Finset.mem_univ, true_and, iff_true]; exact ⟨(y 0).cast (by decide), by rw [mem_SS]; rfl⟩

theorem entails_of_eq {P Q : sProp 𝕄} (e : P = Q) : P ⊢ Q := e ▸ .rfl

/-- The weight whole is its twelve tiles at home. -/
theorem w_eq (c : Dev nD) (XA : Buf (Elt F) (wM.view.loc (c : Thread nD τ))) :
    (hbPt0 c hbM0_0 XA : sProp 𝕄) = bigSep Finset.univ (homeP c XA) := by
  rw [hbPt0, Ring.pointsTo_blocks (ℓ := (c : Thread nD τ).loc main_arg2) TS TS_disjoint TS_cover]
  exact bigSep_congr fun b _ => by rw [← tile_set]; rfl

/-- The buffer whole is its twelve slabs. -/
theorem ring_eq (c : Dev nD) (f : Buf (Elt F) ((c : Thread nD τ).loc cc0_scratch0)) :
    (((c : Thread nD τ).loc cc0_scratch0) ↦{fullShare} f : sProp 𝕄) = bigSep Finset.univ (fun s => slabP c s f) := by
  rw [Ring.pointsTo_blocks (ℓ := (c : Thread nD τ).loc cc0_scratch0) SS SS_disjoint SS_cover]
  exact bigSep_congr fun s _ => by rw [← slab_set]; rfl
/-- Its twelve slabs, each at some contents, are the buffer at some contents. -/
theorem ring_join (c : Dev nD) :
    bigSep Finset.univ (fun s => iprop(∃ f, slabP c s f))
      ⊢ (iprop(∃ f : Buf (Elt F) ((c : Thread nD τ).loc cc0_scratch0), ((c : Thread nD τ).loc cc0_scratch0) ↦{fullShare} f) : sProp 𝕄) := by
  refine BIBase.Entails.trans ?_ (Ring.pointsTo_blocks_join_exists (ℓ := (c : Thread nD τ).loc cc0_scratch0) SS SS_disjoint SS_cover (fun _ => Classical.arbitrary _))
  exact entails_of_eq (bigSep_congr fun s _ => by rw [← slab_set]; rfl)

/-- A family over the twelve, spelt out. -/
theorem bigSep_fin12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [(0 : Fin 12), 1, 2, 3, 4, 5, 6, 7, 8, 9, 10, 11] (by decide) (by decide) Φ

/-- The copies' semaphores at zero, as the launch lists them. -/
theorem cells_eq (c : Dev nD) :
    (Pipeline.ownSems0 (Ix := Unit) (Name := ℕ) (U := Pipeline.UD sig nD τ) (Lvl := ℕ) (Val := Elt F) (τ := τ) osem0 c : sProp 𝕄)
      = bigSep Finset.univ (cellP c) := by
  rw [ownSems00_eq, bigSep_fin12]; rfl

end Cert.Proof.OfKernelIdeal

end
-- ==== Proof.KernelIdeal.Trip.lean ====
/-
  One trip of the loop over the first rows: the wait for its tile, the product with it, the seven blocks stored.
-/
module

public import proofs.«01_k».proof.Proof.KernelIdeal.Tiles
public import Idealize.ShloMosaic.Lib.Pipeline.Value
public import Idealize.ShloMosaic.Lib.ValueIdx

@[expose] public section

set_option maxRecDepth 16384

noncomputable section

namespace Cert.Proof.OfKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Tile `s` once it has landed in slab `s`, over contents `f`. -/
abbrev landF (c : Dev nD) (XA : Buf (Elt F) (wM.view.loc (c : Thread nD τ))) (s : Fin 12) (f : Buf (Elt F) ((slab s).view.loc (c : Thread nD τ))) : Buf (Elt F) ((slab s).view.loc (c : Thread nD τ)) :=
  (slab s).view.writes (Elt F) f [⟨Rect.whole S8192x256, View.read (Elt F) (tile s).view XA⟩]

/-- Slab `s` in flight: the copy of tile `s` into it, its semaphore and the tile lent to it. -/
abbrev flightP (c : Dev nD) (XA : Buf (Elt F) (wM.view.loc (c : Thread nD τ))) (s : Fin 12) (f : Buf (Elt F) ((slab s).view.loc (c : Thread nD τ))) : sProp 𝕄 :=
  Transfers.Flight countersEmb (c : Thread nD τ) (SemLoc.dma (csm s).sem) default 65536
    iprop(slabP c s (landF c XA s f) ∗ homeP c XA s)

/-- The trip's load of its slab lies in the slab. -/
theorem trip_sub (k : Fin k0_t1_loop.trips) :
    (ringM.access (Rect.unit (s := S12x8192x256) (k0_off4 k) S1x8192x256.size (k0_off4_inb k))).set ⊆ (slab (kk k)).view.set := by
  rw [slab_set]
  have e : Rect.unit (s := S12x8192x256) (k0_off4 k) S1x8192x256.size (k0_off4_inb k) = Rect.unit (s := S12x8192x256) (slabOff (kk k)) S1x8192x256.size (slabOff_inb (kk k)) :=
    Rect.unit_congr (k0_off4_eq k) _ _
  rw [e]
  exact (View.set_slice_whole _ _).le

set_option maxHeartbeats 1000000 in
/-- A trip's run, the pieces it leaves in the output's buffer to be found. -/
@[irreducible] def trip (c : Dev nD) (arg0 : Memref sig .tc .vmem S992x8192 .fp8e4m3) (harg0 : arg0.IsWhole) (arg1 : Memref sig .tc .vmem S992x1 .f32) (harg1 : arg1.IsWhole)
    (arg3 : Memref sig .tc .vmem S1x3072 .f32) (harg3 : arg3.IsWhole) (arg4 : Memref sig .tc .vmem S1x3072 .f32) (harg4 : arg4.IsWhole)
    (arg5 : Memref sig .tc .vmem S12x224x256 .f32) (harg5 : arg5.IsWhole) (arg6 : Memref sig .tc .vmem S12x768x256 .f32) (harg6 : arg6.IsWhole)
    (arg8 : Memref sig .tc .vmem S224x8192 .fp8e4m3) (harg8 : arg8.IsWhole) (arg9 : Memref sig .tc .vmem S768x8192 .fp8e4m3) (harg9 : arg9.IsWhole) (arg10 : Memref sig .tc .vmem S992x128 .f32) (harg10 : arg10.IsWhole)
    (XA : Buf (Elt F) (wM.view.loc (c : Thread nD τ))) (f3 : Buf (Elt F) (arg3.view.loc (c : Thread nD τ))) (f4 : Buf (Elt F) (arg4.view.loc (c : Thread nD τ)))
    (f8 : Buf (Elt F) (arg8.view.loc (c : Thread nD τ))) (f10 : Buf (Elt F) (arg10.view.loc (c : Thread nD τ))) (k : Fin k0_t1_loop.trips) :
    { L : List (View.Piece (Elt F) S12x224x256 .f32) //
      ∀ (W : Waits sig Unit) (K : Unit → sProp 𝕄) (f5 : Buf (Elt F) (arg5.view.loc (c : Thread nD τ))) (fs : Buf (Elt F) ((slab (kk k)).view.loc (c : Thread nD τ))),
        (iprop((arg3.view.loc (c : Thread nD τ) ↦[arg3.view.set]{fullShare} f3) ∗ (arg4.view.loc (c : Thread nD τ) ↦[arg4.view.set]{fullShare} f4)
          ∗ (arg8.view.loc (c : Thread nD τ) ↦[arg8.view.set]{fullShare} f8) ∗ (arg10.view.loc (c : Thread nD τ) ↦[arg10.view.set]{fullShare} f10)
          ∗ (arg5.view.loc (c : Thread nD τ) ↦[arg5.view.set]{fullShare} f5) ∗ flightP c XA (kk k) fs ∗ owes (c : Thread nD τ) 0 W
          ∗ (iprop((arg3.view.loc (c : Thread nD τ) ↦[arg3.view.set]{fullShare} f3) ∗ (arg4.view.loc (c : Thread nD τ) ↦[arg4.view.set]{fullShare} f4)
          ∗ (arg8.view.loc (c : Thread nD τ) ↦[arg8.view.set]{fullShare} f8) ∗ (arg10.view.loc (c : Thread nD τ) ↦[arg10.view.set]{fullShare} f10)
          ∗ (arg5.view.loc (c : Thread nD τ) ↦[arg5.view.set]{fullShare} arg5.view.writes (Elt F) f5 L) ∗ slabP c (kk k) (landF c XA (kk k) (slab (kk k)).view.junk) ∗ homeP c XA (kk k) ∗ cellP c (kk k)
          ∗ (∃ W, owes (c : Thread nD τ) 0 W)) -∗ K ())) : sProp 𝕄)
          ⊢ wp frame (wpE (defs₀ (F := F)) Variants.none c none) Set.univ
              (k0_t1_body arg0 harg0 arg1 harg1 wM (Memref.isWhole_whole _) arg3 harg3 arg4 harg4 arg5 harg5 arg6 harg6 ringM (Memref.isWhole_whole _) arg8 harg8 arg9 harg9 arg10 harg10 cc0_scratch4 k ())
              K } := by
  refine ⟨?_, ?run⟩
  case run =>
    intro W K f5 fs
    unfold k0_t1_body
    simp only [k0_part1_eq_skeleton]
    have hS := trip_sub k
    iintro ⟨H3, H4, H8, H10, H5, Hc, HW, Hk⟩
    sl_exec
    sl_step
    iapply Hk
    isplitl [H3]; · iexact H3
    isplitl [H4]; · iexact H4
    isplitl [H8]; · iexact H8
    isplitl [H10]; · iexact H10
    isplitl [H5]; · iexact H5
    isplitl [Hc_dst]; · iexact Hc_dst
    isplitl [Hc_src]; · iexact Hc_src
    isplitl [Hc]; · iexact Hc
    iexists _; iexact HW

/-! ## What a trip leaves in the output -/

/-- The hidden layer's first rows for one tile `w` of the weight: the codes times the tile, scaled by row and by column, the bias added, through SiLU. -/
def hidA (la : Vec F S224x8192 .fp8e4m3) (w : Vec F S8192x256 .fp8e4m3) (sc : Vec F S224x128 .f32) (s b : Vec F S1x256 .f32) : FVec F S224x256 .f32 :=
  have z : FVec F S224x256 .f32 := addf (mulf (mulf
    (matmul dot_S224x8192_S8192x256_S224x256_1_0_0_1_n_n none la w (constant S224x256 .f32 0x00000000#32))
    (concatenate S224x256 1 [⟨S224x128, sc⟩, ⟨S224x128, sc⟩] concatenates_S224x128_S224x128_S224x256_d1))
    (broadcastTo S224x256 (shapeCast S1x256 s shapeCasts_S1x256_S1x256) broadcasts_S1x256_S224x256))
    (broadcastTo S224x256 (shapeCast S1x256 b shapeCasts_S1x256_S1x256) broadcasts_S1x256_S224x256)
  mulf z (logistic z)

theorem formA (a : Vec F S224x8192 .fp8e4m3) (v : Vec F S1x8192x256 .fp8e4m3) (q : Vec F S224x128 .f32) (s b : Vec F S1x256 .f32) :
    k0_pay2 a v q s b = hidA a (shapeCast S8192x256 v shapeCasts_S1x8192x256_S8192x256) q s b := rfl

abbrev colOff (k : Fin 12) : Fin 2 → Nat := ![0, 256 * k.val]
theorem colOff_inb (k : Fin 12) : ∀ a, colOff k a + S1x256.size a ≤ S1x3072.size a := by
  have := k.isLt; intro a; fin_cases a
  · show 0 + 1 ≤ 1; omega
  · show 256 * k.val + 256 ≤ 3072; omega
/-- Columns `256 k` to `256 k + 255` of a row of scales or biases. -/
abbrev colR (k : Fin 12) : Rect S1x3072 := Rect.unit (colOff k) S1x256.size (colOff_inb k)

theorem ldS (arg : Memref sig .tc .vmem S1x3072 .f32) (h : arg.IsWhole) (x : Vec F S1x3072 .f32) (k : Fin 12) {off : Fin 2 → Nat} (e : off = colOff k) (inb : ∀ a, off a + S1x256.size a ≤ S1x3072.size a) :
    View.readAt (Elt F) arg.view (Rect.unit (s := S1x3072) off S1x256.size inb).toLoadRect (h.unread x) = View.ld x (colR k) := by
  subst e; exact funext fun j => by rw [View.readAt_apply, h.read_unread]

/-- A load of slab `k` once tile `x` has landed there reads `x`. -/
theorem landed (k : Fin 12) {off : Fin 3 → Nat} (e : off = slabOff k) (inb : ∀ a, off a + S1x8192x256.size a ≤ S12x8192x256.size a) (f : (slab k).view.ty.Contents (Elt F)) (x : Vec F S8192x256 .fp8e4m3) :
    shapeCast S8192x256 (View.readAt (Elt F) ringM.view (Rect.unit (s := S12x8192x256) off S1x8192x256.size inb).toLoadRect
      ((slab k).view.writes (Elt F) f [⟨Rect.whole S8192x256, x⟩])) shapeCasts_S1x8192x256_S8192x256 = x := by
  subst e
  exact (Memref.read_squeeze_slice ringM (Rect.unit (s := S12x8192x256) (slabOff k) S1x8192x256.size (slabOff_inb k)) (fun _ => rfl) squeezes_S1x8192x256_S8192x256 shapeCasts_S1x8192x256_S8192x256 _).symm.trans
    (View.read_writes_whole (slab k).view f x)

abbrev rbOff (k : Fin 12) (rb : Fin 7) : Fin 3 → Nat := ![k.val, 32 * rb.val, 0]
theorem rbOff_inb (k : Fin 12) (rb : Fin 7) : ∀ a, rbOff k rb a + S1x32x256.size a ≤ S12x224x256.size a := by
  have := k.isLt; have := rb.isLt; intro a; fin_cases a
  · show k.val + 1 ≤ 12; omega
  · show 32 * rb.val + 32 ≤ 224; omega
  · show 0 + 256 ≤ 256; omega
/-- Rows `32 rb` to `32 rb + 31` of block `k` of the output. -/
abbrev rbR (k : Fin 12) (rb : Fin 7) : Rect S12x224x256 := Rect.unit (rbOff k rb) S1x32x256.size (rbOff_inb k rb)
theorem rb_slices (rb : Fin 7) : S224x256.Slices ![32 * rb.val, 0] S32x256 := by
  have := rb.isLt
  refine ⟨rfl, fun a => ?_⟩
  fin_cases a
  · show 32 * rb.val + 32 ≤ 224; omega
  · show 0 + 256 ≤ 256; omega
/-- Rows `32 rb` to `32 rb + 31` of the hidden layer's tile `h`. -/
def rbV (rb : Fin 7) (h : FVec F S224x256 .f32) : FVec F S1x32x256 .f32 :=
  shapeCast S1x32x256 (extractStridedSlice S32x256 ![32 * rb.val, 0] h (rb_slices rb)) shapeCasts_S32x256_S1x32x256

theorem rbV_apply (rb : Fin 7) (h : FVec F S224x256 .f32) (x : S1x32x256.Idx) (y : S224x256.Idx) (e0 : (y 0).val = 32 * rb.val + (x 1).val) (e1 : (y 1).val = (x 2).val) :
    rbV rb h x = h y := by
  unfold rbV
  refine (shapeCast_addUnit_apply ![32, 256] _ shapeCasts_S32x256_S1x32x256 x).trans ?_
  refine extractStridedSlice_apply _ h (rb_slices rb) _ y fun a => ?_
  fin_cases a
  · exact e0
  · show (y 1).val = 0 + (x 2).val; omega

/-- A trip's stores, last first. -/
def tripL (k : Fin 12) (h : FVec F S224x256 .f32) : List (View.Piece (Elt F) S12x224x256 .f32) :=
  [⟨rbR k 6, rbV 6 h⟩, ⟨rbR k 5, rbV 5 h⟩, ⟨rbR k 4, rbV 4 h⟩, ⟨rbR k 3, rbV 3 h⟩, ⟨rbR k 2, rbV 2 h⟩, ⟨rbR k 1, rbV 1 h⟩, ⟨rbR k 0, rbV 0 h⟩]

theorem rb_lit (k : Fin 12) (rb : Fin 7) {off : Fin 3 → Nat} (e : off = rbOff k rb) (inb : ∀ a, off a + S1x32x256.size a ≤ S12x224x256.size a) {w w' : Vec F S1x32x256 .f32} (h : w = w') :
    (⟨Rect.unit (s := S12x224x256) off S1x32x256.size inb, w⟩ : View.Piece (Elt F) S12x224x256 .f32) = ⟨rbR k rb, w'⟩ := by subst e h; rfl

theorem of_mem_tripL (k : Fin 12) (h : FVec F S224x256 .f32) (p : View.Piece (Elt F) S12x224x256 .f32) (hp : p ∈ tripL k h) : ∃ rb : Fin 7, p = ⟨rbR k rb, rbV rb h⟩ := by
  simp only [tripL, List.mem_cons, List.mem_nil_iff, or_false] at hp
  rcases hp with h | h | h | h | h | h | h
  · exact ⟨6, h⟩
  · exact ⟨5, h⟩
  · exact ⟨4, h⟩
  · exact ⟨3, h⟩
  · exact ⟨2, h⟩
  · exact ⟨1, h⟩
  · exact ⟨0, h⟩
theorem mem_tripL (k : Fin 12) (h : FVec F S224x256 .f32) (rb : Fin 7) : (⟨rbR k rb, rbV rb h⟩ : View.Piece (Elt F) S12x224x256 .f32) ∈ tripL k h := by
  unfold tripL
  fin_cases rb <;> simp only [List.mem_cons, true_or, or_true] <;> simp
theorem mem_rbR (k : Fin 12) (rb : Fin 7) (y : S12x224x256.Idx) : y ∈ (rbR k rb).set ↔ (y 0).val = k.val ∧ 32 * rb.val ≤ (y 1).val ∧ (y 1).val < 32 * rb.val + 32 := by
  have h2 : (y 2).val < 256 := (y 2).isLt
  rw [Rect.mem_set_unit]
  constructor
  · intro H
    have a0 : k.val ≤ (y 0).val ∧ (y 0).val < k.val + 1 := H 0
    exact ⟨by omega, H 1⟩
  · rintro ⟨e, H⟩ a; fin_cases a
    · show k.val ≤ (y 0).val ∧ (y 0).val < k.val + 1; omega
    · exact H
    · show 0 ≤ (y 2).val ∧ (y 2).val < 0 + 256; omega

/-- What the loop leaves in the output, element by element: block `k` is the hidden layer's first rows for tile `k`. -/
def outA (c : Dev nD) (la : Vec F S224x8192 .fp8e4m3) (sc : Vec F S224x128 .f32) (x3 x4 : Vec F S1x3072 .f32) (XA : Buf (Elt F) (wM.view.loc (c : Thread nD τ))) : Vec F S12x224x256 .f32 :=
  fun y => hidA la (View.read (Elt F) (tile (y 0)).view XA) sc (View.ld x3 (colR (y 0))) (View.ld x4 (colR (y 0))) (ValueIdx.ix2 (y 1) (y 2))

/-- A trip's stores leave the other blocks as they were, -/
theorem read_tripL_ne (k : Fin 12) (h : FVec F S224x256 .f32) (v : View sig .tc .vmem S12x224x256 .f32) (f : v.ty.Contents (Elt F)) (y : S12x224x256.Idx) (hy : (y 0).val ≠ k.val) :
    v.read (Elt F) (v.writes (Elt F) f (tripL k h)) y = v.read (Elt F) f y :=
  View.read_writes_apply_of_forall_not_mem (v := v) (f := f) y (tripL k h) fun p hp => by
    obtain ⟨rb, rfl⟩ := of_mem_tripL k h p hp
    rw [mem_rbR]; exact fun H => hy H.1
/-- and block `k` at the tile's rows. -/
theorem read_tripL_eq (k : Fin 12) (h : FVec F S224x256 .f32) (v : View sig .tc .vmem S12x224x256 .f32) (f : v.ty.Contents (Elt F)) (y : S12x224x256.Idx) (hy : (y 0).val = k.val) :
    v.read (Elt F) (v.writes (Elt F) f (tripL k h)) y = h (ValueIdx.ix2 (y 1) (y 2)) :=
  View.read_writes_apply_of_pieces (v := v) (f := f) (fun y => h (ValueIdx.ix2 (y 1) (y 2))) (tripL k h)
    (fun p hp x => by
      obtain ⟨rb, rfl⟩ := of_mem_tripL k h p hp
      refine rbV_apply rb h x _ ?_ ?_
      · show 32 * rb.val + 1 * (x 1).val = _; omega
      · show 0 + 1 * (x 2).val = _; omega) y
    (by
      have h1 : (y 1).val < 224 := (y 1).isLt
      refine ⟨_, mem_tripL k h ⟨(y 1).val / 32, by omega⟩, ?_⟩
      rw [mem_rbR]; dsimp only; omega)

section
variable (c : Dev nD) (arg0 : Memref sig .tc .vmem S992x8192 .fp8e4m3) (harg0 : arg0.IsWhole) (arg1 : Memref sig .tc .vmem S992x1 .f32) (harg1 : arg1.IsWhole)
    (arg3 : Memref sig .tc .vmem S1x3072 .f32) (harg3 : arg3.IsWhole) (arg4 : Memref sig .tc .vmem S1x3072 .f32) (harg4 : arg4.IsWhole)
    (arg5 : Memref sig .tc .vmem S12x224x256 .f32) (harg5 : arg5.IsWhole) (arg6 : Memref sig .tc .vmem S12x768x256 .f32) (harg6 : arg6.IsWhole)
    (arg8 : Memref sig .tc .vmem S224x8192 .fp8e4m3) (harg8 : arg8.IsWhole) (arg9 : Memref sig .tc .vmem S768x8192 .fp8e4m3) (harg9 : arg9.IsWhole) (arg10 : Memref sig .tc .vmem S992x128 .f32) (harg10 : arg10.IsWhole)
    (XA : Buf (Elt F) (wM.view.loc (c : Thread nD τ))) (x3 x4 : Vec F S1x3072 .f32)
    (f8 : Buf (Elt F) (arg8.view.loc (c : Thread nD τ))) (f10 : Buf (Elt F) (arg10.view.loc (c : Thread nD τ)))

/-- The first rows' codes, as a trip loads them, -/
abbrev laOf : Vec F S224x8192 .fp8e4m3 := View.readAt (Elt F) arg8.view (Rect.unit (s := S224x8192) ![0, 0] S224x8192.size inb_S224x8192_S224x8192_0_0).toLoadRect f8
/-- and their scales. -/
abbrev scOf : Vec F S224x128 .f32 := View.readAt (Elt F) arg10.view (Rect.unit (s := S992x128) ![0, 0] S224x128.size inb_S992x128_S224x128_0_0).toLoadRect f10

theorem trip_w (k : Fin k0_t1_loop.trips) : shapeCast S8192x256 (trip.sl.v336 c XA k) shapeCasts_S1x8192x256_S8192x256 = View.read (Elt F) (tile (kk k)).view XA := by
  unfold trip.sl.v336
  exact landed (kk k) (k0_off4_eq k) _ _ _

theorem trip_h (k : Fin k0_t1_loop.trips) : trip.sl.r c arg3 arg4 arg8 arg10 XA (harg3.unread x3) (harg4.unread x4) f8 f10 k
    = hidA (laOf c arg8 f8) (View.read (Elt F) (tile (kk k)).view XA) (scOf c arg10 f10) (View.ld x3 (colR (kk k))) (View.ld x4 (colR (kk k))) := by
  unfold trip.sl.r
  rw [formA, trip_w, ldS arg3 harg3 x3 (kk k) (k0_off5_eq k), ldS arg4 harg4 x4 (kk k) (k0_off5_eq k)]

theorem trip_val (k : Fin k0_t1_loop.trips) :
    (trip c arg0 harg0 arg1 harg1 arg3 harg3 arg4 harg4 arg5 harg5 arg6 harg6 arg8 harg8 arg9 harg9 arg10 harg10 XA (harg3.unread x3) (harg4.unread x4) f8 f10 k).1
      = tripL (kk k) (hidA (laOf c arg8 f8) (View.read (Elt F) (tile (kk k)).view XA) (scOf c arg10 f10) (View.ld x3 (colR (kk k))) (View.ld x4 (colR (kk k)))) := by
  rw [← trip_h c arg3 harg3 arg4 harg4 arg8 arg10 XA x3 x4 f8 f10 k]
  unfold trip tripL
  dsimp only
  refine congrArg₂ List.cons (rb_lit (kk k) 6 (k0_off12_eq k) _ rfl) ?_
  refine congrArg₂ List.cons (rb_lit (kk k) 5 (k0_off11_eq k) _ rfl) ?_
  refine congrArg₂ List.cons (rb_lit (kk k) 4 (k0_off10_eq k) _ rfl) ?_
  refine congrArg₂ List.cons (rb_lit (kk k) 3 (k0_off9_eq k) _ rfl) ?_
  refine congrArg₂ List.cons (rb_lit (kk k) 2 (k0_off8_eq k) _ rfl) ?_
  refine congrArg₂ List.cons (rb_lit (kk k) 1 (k0_off7_eq k) _ (by unfold trip.sl.r_1 trip.sl.r; rfl)) ?_
  refine congrArg₂ List.cons (rb_lit (kk k) 0 (k0_off6_eq k) _ (by unfold trip.sl.r; rfl)) ?_
  rfl

end

end Cert.Proof.OfKernelIdeal

end
-- ==== Proof.KernelIdeal.Loop.lean ====
/-
  The loop over the first rows: its invariant, and the loop from it.
-/
module

public import proofs.«01_k».proof.Proof.KernelIdeal.Trip

@[expose] public section

set_option maxRecDepth 16384

noncomputable section

namespace Cert.Proof.OfKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section
variable (c : Dev nD) (arg0 : Memref sig .tc .vmem S992x8192 .fp8e4m3) (harg0 : arg0.IsWhole) (arg1 : Memref sig .tc .vmem S992x1 .f32) (harg1 : arg1.IsWhole)
    (arg3 : Memref sig .tc .vmem S1x3072 .f32) (harg3 : arg3.IsWhole) (arg4 : Memref sig .tc .vmem S1x3072 .f32) (harg4 : arg4.IsWhole)
    (arg5 : Memref sig .tc .vmem S12x224x256 .f32) (harg5 : arg5.IsWhole) (arg6 : Memref sig .tc .vmem S12x768x256 .f32) (harg6 : arg6.IsWhole)
    (arg8 : Memref sig .tc .vmem S224x8192 .fp8e4m3) (harg8 : arg8.IsWhole) (arg9 : Memref sig .tc .vmem S768x8192 .fp8e4m3) (harg9 : arg9.IsWhole) (arg10 : Memref sig .tc .vmem S992x128 .f32) (harg10 : arg10.IsWhole)
    (XA : Buf (Elt F) (wM.view.loc (c : Thread nD τ))) (x3 x4 : Vec F S1x3072 .f32)
    (f8 : Buf (Elt F) (arg8.view.loc (c : Thread nD τ))) (f10 : Buf (Elt F) (arg10.view.loc (c : Thread nD τ)))
    (fs : (s : Fin 12) → Buf (Elt F) ((slab s).view.loc (c : Thread nD τ)))

/-- Slab `s` once waited for: the tile landed in it, the tile at home, its semaphore at zero. -/
abbrev doneP (s : Fin 12) : sProp 𝕄 :=
  iprop(slabP c s (landF c XA s (slab s).view.junk) ∗ homeP c XA s ∗ cellP c s)
/-- Slab `s` before trip `k`: waited for if its trip has been, in flight if not. -/
def slotP (k : Nat) (s : Fin 12) : sProp 𝕄 := if s.val < k then doneP c XA s else flightP c XA s (fs s)

/-- Before trip `k`: the first `k` blocks of the output written. -/
def inv (k : Nat) (_ : Unit) : sProp 𝕄 :=
  iprop((arg3.view.loc (c : Thread nD τ) ↦[arg3.view.set]{fullShare} harg3.unread x3) ∗ (arg4.view.loc (c : Thread nD τ) ↦[arg4.view.set]{fullShare} harg4.unread x4)
    ∗ (arg8.view.loc (c : Thread nD τ) ↦[arg8.view.set]{fullShare} f8) ∗ (arg10.view.loc (c : Thread nD τ) ↦[arg10.view.set]{fullShare} f10)
    ∗ (∃ g : Buf (Elt F) (arg5.view.loc (c : Thread nD τ)), ⌜∀ y : S12x224x256.Idx, (y 0).val < k → arg5.view.read (Elt F) g y = outA c (laOf c arg8 f8) (scOf c arg10 f10) x3 x4 XA y⌝
        ∗ (arg5.view.loc (c : Thread nD τ) ↦[arg5.view.set]{fullShare} g))
    ∗ bigSep Finset.univ (slotP c XA fs k) ∗ (∃ W, owes (c : Thread nD τ) 0 W))

theorem slot_here (k : Fin 12) : slotP c XA fs k.val k = flightP c XA k (fs k) := if_neg (Nat.lt_irrefl _)
theorem slot_next (k : Fin 12) : slotP c XA fs (k.val + 1) k = doneP c XA k := if_pos (Nat.lt_succ_self _)
theorem slots_rest (k : Fin 12) : bigSep (Finset.univ.erase k) (slotP c XA fs k.val) = bigSep (Finset.univ.erase k) (slotP c XA fs (k.val + 1)) :=
  bigSep_congr fun s hs => by
    have hne : s.val ≠ k.val := fun e => (Finset.ne_of_mem_erase hs) (Fin.ext e)
    unfold slotP
    by_cases h : s.val < k.val
    · rw [if_pos h, if_pos (by omega)]
    · rw [if_neg h, if_neg (by omega)]

theorem slots_cut (k : Fin 12) {Φ : Fin 12 → sProp 𝕄} : bigSep Finset.univ Φ = iprop(Φ k ∗ bigSep (Finset.univ.erase k) Φ) := bigSep_erase (Finset.mem_univ k)

theorem inv_step (k : Fin k0_t1_loop.trips) (acc : Unit) :
    inv c arg3 harg3 arg4 harg4 arg5 arg8 arg10 XA x3 x4 f8 f10 fs k.val acc
      ⊢ wp frame (wpE (defs₀ (F := F)) Variants.none c none) Set.univ
          (k0_t1_body arg0 harg0 arg1 harg1 wM (Memref.isWhole_whole _) arg3 harg3 arg4 harg4 arg5 harg5 arg6 harg6 ringM (Memref.isWhole_whole _) arg8 harg8 arg9 harg9 arg10 harg10 cc0_scratch4 k acc)
          (inv c arg3 harg3 arg4 harg4 arg5 arg8 arg10 XA x3 x4 f8 f10 fs (k.val + 1)) := by
  have hv := trip_val c arg0 harg0 arg1 harg1 arg3 harg3 arg4 harg4 arg5 harg5 arg6 harg6 arg8 harg8 arg9 harg9 arg10 harg10 XA x3 x4 f8 f10 k
  have ht := (trip c arg0 harg0 arg1 harg1 arg3 harg3 arg4 harg4 arg5 harg5 arg6 harg6 arg8 harg8 arg9 harg9 arg10 harg10 XA (harg3.unread x3) (harg4.unread x4) f8 f10 k).2
  rw [hv] at ht
  unfold inv
  rw [slots_cut (kk k), slots_cut (kk k), slot_here c XA fs (kk k), slot_next c XA fs (kk k), slots_rest c XA fs (kk k)]
  iintro ⟨H3, H4, H8, H10, ⟨%g, %hg, H5⟩, ⟨Hc, Hr⟩, ⟨%W, HW⟩⟩
  iapply (ht W _ g (fs (kk k)))
  isplitl [H3]; · iexact H3
  isplitl [H4]; · iexact H4
  isplitl [H8]; · iexact H8
  isplitl [H10]; · iexact H10
  isplitl [H5]; · iexact H5
  isplitl [Hc]; · iexact Hc
  isplitl [HW]; · iexact HW
  iintro ⟨H3, H4, H8, H10, H5, Hs, Hh, Hq, HW⟩
  isplitl [H3]; · iexact H3
  isplitl [H4]; · iexact H4
  isplitl [H8]; · iexact H8
  isplitl [H10]; · iexact H10
  isplitl [H5]
  · iexists _; isplitr
    rotate_left
    · iexact H5
    ipureintro
    intro y hy
    by_cases e : (y 0).val = k.val
    · refine (read_tripL_eq (kk k) _ arg5.view g y e).trans ?_
      have e' : kk k = y 0 := Fin.ext e.symm
      rw [e']; rfl
    · exact (read_tripL_ne (kk k) _ arg5.view g y e).trans (hg y (by omega))
  isplitl [Hs Hh Hq Hr]
  · isplitl [Hs Hh Hq]
    · isplitl [Hs]; · iexact Hs
      isplitl [Hh]; · iexact Hh
      iexact Hq
    iexact Hr
  iexact HW

/-- The loop, from its invariant before the first trip to the twelve slabs waited for and the output at `outA`. -/
theorem loop_run {β : Type} {kk : Unit → Prog (TpuEff nD τ sig (Elt F) Λ₀ .tc) β} {Q : β → sProp 𝕄} :
    inv c arg3 harg3 arg4 harg4 arg5 arg8 arg10 XA x3 x4 f8 f10 fs 0 ()
      ⊢ iprop((∀ acc, inv c arg3 harg3 arg4 harg4 arg5 arg8 arg10 XA x3 x4 f8 f10 fs k0_t1_loop.trips acc -∗ wp frame (wpE (defs₀ (F := F)) Variants.none c none) Set.univ (kk acc) Q)
        -∗ wp frame (wpE (defs₀ (F := F)) Variants.none c none) Set.univ (k0_t1_loop.for k0_t1_ok () (k0_t1_body arg0 harg0 arg1 harg1 wM (Memref.isWhole_whole _) arg3 harg3 arg4 harg4 arg5 harg5 arg6 harg6 ringM (Memref.isWhole_whole _) arg8 harg8 arg9 harg9 arg10 harg10 cc0_scratch4) >>= kk) Q) :=
  Scf.wp_for_bind frame (wpE (defs₀ (F := F)) Variants.none c none) Set.univ k0_t1_loop.lb k0_t1_loop.ub k0_t1_loop.st k0_t1_ok () _ _
    (inv_step c arg0 harg0 arg1 harg1 arg3 harg3 arg4 harg4 arg5 harg5 arg6 harg6 arg8 harg8 arg9 harg9 arg10 harg10 XA x3 x4 f8 f10 fs)

/-- Before the first trip every slab is in flight, -/
theorem slots_first : bigSep Finset.univ (slotP c XA fs 0) = iprop(flightP c XA 0 (fs 0) ∗ flightP c XA 1 (fs 1) ∗ flightP c XA 2 (fs 2) ∗ flightP c XA 3 (fs 3) ∗ flightP c XA 4 (fs 4) ∗ flightP c XA 5 (fs 5) ∗ flightP c XA 6 (fs 6) ∗ flightP c XA 7 (fs 7) ∗ flightP c XA 8 (fs 8) ∗ flightP c XA 9 (fs 9) ∗ flightP c XA 10 (fs 10) ∗ flightP c XA 11 (fs 11)) :=
  (bigSep_fin12 _).trans rfl
/-- and after the last every one is waited for. -/
theorem slots_last : bigSep Finset.univ (slotP c XA fs k0_t1_loop.trips) = iprop(doneP c XA 0 ∗ doneP c XA 1 ∗ doneP c XA 2 ∗ doneP c XA 3 ∗ doneP c XA 4 ∗ doneP c XA 5 ∗ doneP c XA 6 ∗ doneP c XA 7 ∗ doneP c XA 8 ∗ doneP c XA 9 ∗ doneP c XA 10 ∗ doneP c XA 11) := by
  rw [trips_eq]; exact (bigSep_fin12 _).trans rfl

/-- What the loop leaves, in the pieces the rest of the body is run on. -/
theorem inv_last (acc : Unit) : inv c arg3 harg3 arg4 harg4 arg5 arg8 arg10 XA x3 x4 f8 f10 fs k0_t1_loop.trips acc
    ⊢ iprop((arg3.view.loc (c : Thread nD τ) ↦[arg3.view.set]{fullShare} harg3.unread x3) ∗ (arg4.view.loc (c : Thread nD τ) ↦[arg4.view.set]{fullShare} harg4.unread x4)
    ∗ (arg8.view.loc (c : Thread nD τ) ↦[arg8.view.set]{fullShare} f8) ∗ (arg10.view.loc (c : Thread nD τ) ↦[arg10.view.set]{fullShare} f10)
    ∗ (∃ g : Buf (Elt F) (arg5.view.loc (c : Thread nD τ)), ⌜arg5.view.read (Elt F) g = outA c (laOf c arg8 f8) (scOf c arg10 f10) x3 x4 XA⌝
        ∗ (arg5.view.loc (c : Thread nD τ) ↦[arg5.view.set]{fullShare} g))
    ∗ (doneP c XA 0 ∗ doneP c XA 1 ∗ doneP c XA 2 ∗ doneP c XA 3 ∗ doneP c XA 4 ∗ doneP c XA 5 ∗ doneP c XA 6 ∗ doneP c XA 7 ∗ doneP c XA 8 ∗ doneP c XA 9 ∗ doneP c XA 10 ∗ doneP c XA 11) ∗ (∃ W, owes (c : Thread nD τ) 0 W)) := by
  unfold inv
  rw [slots_last]
  iintro ⟨H3, H4, H8, H10, ⟨%g, %hg, H5⟩, Hd, HW⟩
  isplitl [H3]; · iexact H3
  isplitl [H4]; · iexact H4
  isplitl [H8]; · iexact H8
  isplitl [H10]; · iexact H10
  isplitl [H5]
  · iexists g; isplitr
    · ipureintro
      exact funext fun y => hg y (trips_eq ▸ (y 0).isLt)
    iexact H5
  isplitl [Hd]; · iexact Hd
  iexact HW

end

end Cert.Proof.OfKernelIdeal

end
-- ==== Proof.KernelIdeal.Body.lean ====
/-
  The kernel's body on any staging buffers: the twelve copies issued, the loop that waits for them one by one, then the steps
  over the tiles for the other rows: the product with the
  copied tile and the hidden activation stored; what it leaves in the output's buffer is found by the run.
-/
module

public import proofs.«01_k».proof.Proof.KernelIdeal.Loop

@[expose] public section

set_option maxRecDepth 16384

noncomputable section

namespace Cert.Proof.OfKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body's run, the pieces it leaves in the output's buffer to be found. -/
@[irreducible] def bodyRun (c : Dev nD) (arg0 : Memref sig .tc .vmem S992x8192 .fp8e4m3) (harg0 : arg0.IsWhole) (arg1 : Memref sig .tc .vmem S992x1 .f32) (harg1 : arg1.IsWhole)
    (arg3 : Memref sig .tc .vmem S1x3072 .f32) (harg3 : arg3.IsWhole) (arg4 : Memref sig .tc .vmem S1x3072 .f32) (harg4 : arg4.IsWhole)
    (arg5 : Memref sig .tc .vmem S12x224x256 .f32) (harg5 : arg5.IsWhole) (arg6 : Memref sig .tc .vmem S12x768x256 .f32) (harg6 : arg6.IsWhole)
    (arg8 : Memref sig .tc .vmem S224x8192 .fp8e4m3) (harg8 : arg8.IsWhole) (arg9 : Memref sig .tc .vmem S768x8192 .fp8e4m3) (harg9 : arg9.IsWhole) (arg10 : Memref sig .tc .vmem S992x128 .f32) (harg10 : arg10.IsWhole)
    (x0 : Vec F S992x8192 .fp8e4m3) (x1 : Vec F S992x1 .f32) (x3 : Vec F S1x3072 .f32) (x4 : Vec F S1x3072 .f32)
    (XA : Buf (Elt F) (wM.view.loc (c : Thread nD τ))) :
    (g8 : Buf (Elt F) (arg8.view.loc (c : Thread nD τ))) ×' (g10 : Buf (Elt F) (arg10.view.loc (c : Thread nD τ))) ×' { L : List (View.Piece (Elt F) S12x768x256 .f32) //
      ∀ (W : Waits sig Unit) (K : PUnit → sProp 𝕄) (f5 : Buf (Elt F) (arg5.view.loc (c : Thread nD τ))) (f6 : Buf (Elt F) (arg6.view.loc (c : Thread nD τ)))
        (f8 : Buf (Elt F) (arg8.view.loc (c : Thread nD τ))) (f9 : Buf (Elt F) (arg9.view.loc (c : Thread nD τ))) (f10 : Buf (Elt F) (arg10.view.loc (c : Thread nD τ))) (fs : (s : Fin 12) → Buf (Elt F) ((slab s).view.loc (c : Thread nD τ))),
        iprop(owns (c : Thread nD τ) arg0 fullShare x0 ∗ owns (c : Thread nD τ) arg1 fullShare x1 ∗ owns (c : Thread nD τ) arg3 fullShare x3 ∗ owns (c : Thread nD τ) arg4 fullShare x4
            ∗ (arg5.view.loc (c : Thread nD τ) ↦[arg5.view.set]{fullShare} f5) ∗ (arg6.view.loc (c : Thread nD τ) ↦[arg6.view.set]{fullShare} f6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
            ∗ slabP c 0 (fs 0) ∗ slabP c 1 (fs 1) ∗ slabP c 2 (fs 2) ∗ slabP c 3 (fs 3) ∗ slabP c 4 (fs 4) ∗ slabP c 5 (fs 5) ∗ slabP c 6 (fs 6) ∗ slabP c 7 (fs 7) ∗ slabP c 8 (fs 8) ∗ slabP c 9 (fs 9) ∗ slabP c 10 (fs 10) ∗ slabP c 11 (fs 11)
            ∗ homeP c XA 0 ∗ homeP c XA 1 ∗ homeP c XA 2 ∗ homeP c XA 3 ∗ homeP c XA 4 ∗ homeP c XA 5 ∗ homeP c XA 6 ∗ homeP c XA 7 ∗ homeP c XA 8 ∗ homeP c XA 9 ∗ homeP c XA 10 ∗ homeP c XA 11
            ∗ cellP c 0 ∗ cellP c 1 ∗ cellP c 2 ∗ cellP c 3 ∗ cellP c 4 ∗ cellP c 5 ∗ cellP c 6 ∗ cellP c 7 ∗ cellP c 8 ∗ cellP c 9 ∗ cellP c 10 ∗ cellP c 11
            ∗ owes (c : Thread nD τ) 0 W
            ∗ (iprop(owns (c : Thread nD τ) arg0 fullShare x0 ∗ owns (c : Thread nD τ) arg1 fullShare x1 ∗ owns (c : Thread nD τ) arg3 fullShare x3 ∗ owns (c : Thread nD τ) arg4 fullShare x4
                ∗ (∃ g : Buf (Elt F) (arg5.view.loc (c : Thread nD τ)), ⌜arg5.view.read (Elt F) g = outA c (laOf c arg8 g8) (scOf c arg10 g10) x3 x4 XA⌝ ∗ (arg5.view.loc (c : Thread nD τ) ↦[arg5.view.set]{fullShare} g)) ∗ (arg6.view.loc (c : Thread nD τ) ↦[arg6.view.set]{fullShare} arg6.view.writes (Elt F) f6 L) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))
                ∗ (∃ f, slabP c 0 f) ∗ (∃ f, slabP c 1 f) ∗ (∃ f, slabP c 2 f) ∗ (∃ f, slabP c 3 f) ∗ (∃ f, slabP c 4 f) ∗ (∃ f, slabP c 5 f) ∗ (∃ f, slabP c 6 f) ∗ (∃ f, slabP c 7 f) ∗ (∃ f, slabP c 8 f) ∗ (∃ f, slabP c 9 f) ∗ (∃ f, slabP c 10 f) ∗ (∃ f, slabP c 11 f)
                ∗ homeP c XA 0 ∗ homeP c XA 1 ∗ homeP c XA 2 ∗ homeP c XA 3 ∗ homeP c XA 4 ∗ homeP c XA 5 ∗ homeP c XA 6 ∗ homeP c XA 7 ∗ homeP c XA 8 ∗ homeP c XA 9 ∗ homeP c XA 10 ∗ homeP c XA 11
                ∗ cellP c 0 ∗ cellP c 1 ∗ cellP c 2 ∗ cellP c 3 ∗ cellP c 4 ∗ cellP c 5 ∗ cellP c 6 ∗ cellP c 7 ∗ cellP c 8 ∗ cellP c 9 ∗ cellP c 10 ∗ cellP c 11
                ∗ (∃ W, owes (c : Thread nD τ) 0 W)) -∗ K ⟨⟩))
          ⊢ wp frame (wpE (defs₀ (F := F)) Variants.none c none) Set.univ
              (cc0_nsa_joint_compression arg0 harg0 arg1 harg1 wM (Memref.isWhole_whole _) arg3 harg3 arg4 harg4 arg5 harg5 arg6 harg6 ringM (Memref.isWhole_whole _) arg8 harg8 arg9 harg9 arg10 harg10 cc0_scratch4) K } := by
  refine ⟨?_, ?_, ?_, ?run⟩
  case run =>
    intro W K f5 f6 f8 f9 f10 fs
    simp only [cc0_nsa_joint_compression_eq_skeleton]; unfold cc0_nsa_joint_compression_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f3, %hf3, H3⟩, ⟨%f4, %hf4, H4⟩, H5, H6, H8, H9, H10, Hs0, Hs1, Hs2, Hs3, Hs4, Hs5, Hs6, Hs7, Hs8, Hs9, Hs10, Hs11, Hh0, Hh1, Hh2, Hh3, Hh4, Hh5, Hh6, Hh7, Hh8, Hh9, Hh10, Hh11, Hc0, Hc1, Hc2, Hc3, Hc4, Hc5, Hc6, Hc7, Hc8, Hc9, Hc10, Hc11, HW, Hk⟩
    obtain rfl := harg0.eq_unread hf0; obtain rfl := harg1.eq_unread hf1; obtain rfl := harg3.eq_unread hf3; obtain rfl := harg4.eq_unread hf4
    sl_exec
    iapply (loop_run c arg0 harg0 arg1 harg1 arg3 harg3 arg4 harg4 arg5 harg5 arg6 harg6 arg8 harg8 arg9 harg9 arg10 harg10 XA x3 x4 _ _ fs) $$ [H3 H4 H5 H8 H10 Hc0 Hc1 Hc2 Hc3 Hc4 Hc5 Hc6 Hc7 Hc8 Hc9 Hc10 Hc11 HW]
    · unfold inv
      rw [slots_first]
      isplitl [H3]; · iexact H3
      isplitl [H4]; · iexact H4
      isplitl [H8]; · iexact H8
      isplitl [H10]; · iexact H10
      isplitl [H5]
      · iexists f5; isplitr
        · ipureintro; exact fun y hy => absurd hy (Nat.not_lt_zero _)
        iexact H5
      isplitl [Hc0 Hc1 Hc2 Hc3 Hc4 Hc5 Hc6 Hc7 Hc8 Hc9 Hc10 Hc11]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        isplitl [Hc7]; · iexact Hc7
        isplitl [Hc8]; · iexact Hc8
        isplitl [Hc9]; · iexact Hc9
        isplitl [Hc10]; · iexact Hc10
        iexact Hc11
      iexists _; iexact HW
    iintro %acc HI
    ihave HI' := (inv_last c arg3 harg3 arg4 harg4 arg5 arg8 arg10 XA x3 x4 _ _ fs acc) $$ HI
    icases HI' with ⟨H3, H4, H8, H10, ⟨%g, %hg, H5⟩, ⟨⟨Hs0, Hh0, Hc0⟩, ⟨Hs1, Hh1, Hc1⟩, ⟨Hs2, Hh2, Hc2⟩, ⟨Hs3, Hh3, Hc3⟩, ⟨Hs4, Hh4, Hc4⟩, ⟨Hs5, Hh5, Hc5⟩, ⟨Hs6, Hh6, Hc6⟩, ⟨Hs7, Hh7, Hc7⟩, ⟨Hs8, Hh8, Hc8⟩, ⟨Hs9, Hh9, Hc9⟩, ⟨Hs10, Hh10, Hc10⟩, ⟨Hs11, Hh11, Hc11⟩⟩, ⟨%W', HW⟩⟩
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]
    · iexists g; isplitr; · ipureintro; exact hg
      iexact H5
    isplitl [H6]; · iexact H6
    isplitl [H8]; · iexists _; iexact H8
    isplitl [H9]; · iexists _; iexact H9
    isplitl [H10]; · iexists _; iexact H10
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    isplitl [Hs9]; · iexists _; iexact Hs9
    isplitl [Hs10]; · iexists _; iexact Hs10
    isplitl [Hs11]; · iexists _; iexact Hs11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    iexists _; iexact HW

end Cert.Proof.OfKernelIdeal

end
-- ==== Proof.KernelIdeal.Pieces.lean ====
/-
  The pieces the body leaves in the output's buffer, tile by tile.
-/
module

public import proofs.«01_k».proof.Proof.KernelIdeal.Body
public import Idealize.ShloMosaic.Lib.Pipeline.Value

@[expose] public section

set_option maxRecDepth 16384

noncomputable section

namespace Cert.Proof.OfKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## One tile of the hidden layer -/

/-- The hidden layer's tile for one tile `w` of the weight: the codes times the tile, scaled by row and by column, the bias added, through SiLU. -/
def hidT (la : Vec F S768x8192 .fp8e4m3) (w : Vec F S8192x256 .fp8e4m3) (sc : Vec F S768x128 .f32) (s b : Vec F S1x256 .f32) : FVec F S1x768x256 .f32 :=
  have z : FVec F S768x256 .f32 := addf (mulf (mulf
    (matmul dot_S768x8192_S8192x256_S768x256_1_0_0_1_n_n none la w (constant S768x256 .f32 0x00000000#32))
    (concatenate S768x256 1 [⟨S768x128, sc⟩, ⟨S768x128, sc⟩] concatenates_S768x128_S768x128_S768x256_d1))
    (broadcastTo S768x256 (shapeCast S1x256 s shapeCasts_S1x256_S1x256) broadcasts_S1x256_S768x256))
    (broadcastTo S768x256 (shapeCast S1x256 b shapeCasts_S1x256_S1x256) broadcasts_S1x256_S768x256)
  shapeCast S1x768x256 (mulf z (logistic z)) shapeCasts_S768x256_S1x768x256

abbrev outOff (k : Fin 12) : Fin 3 → Nat := ![k.val, 0, 0]
theorem outOff_inb (k : Fin 12) : ∀ a, outOff k a + S1x768x256.size a ≤ S12x768x256.size a := by
  have := k.isLt; intro a; fin_cases a
  · show k.val + 1 ≤ 12; omega
  · show 0 + 768 ≤ 768; omega
  · show 0 + 256 ≤ 256; omega
/-- Block `k` of the output. -/
abbrev outR (k : Fin 12) : Rect S12x768x256 := Rect.unit (outOff k) S1x768x256.size (outOff_inb k)

/-- The first rows of the codes, the others, and their scales. -/
abbrev codesA (x0 : Vec F S992x8192 .fp8e4m3) : Vec F S224x8192 .fp8e4m3 := k0_pay5 (View.ld x0 (Rect.unit (s := S992x8192) ![0, 0] S224x8192.size inb_S992x8192_S224x8192_0_0))
abbrev codesB (x0 : Vec F S992x8192 .fp8e4m3) : Vec F S768x8192 .fp8e4m3 := k0_pay6 (View.ld x0 (Rect.unit (s := S992x8192) ![224, 0] S768x8192.size inb_S992x8192_S768x8192_224_0))
abbrev scalesA (x1 : Vec F S992x1 .f32) : Vec F S224x128 .f32 := View.ld (k0_pay7 x1) (Rect.unit (s := S992x128) ![0, 0] S224x128.size inb_S992x128_S224x128_0_0)
abbrev scalesB (x1 : Vec F S992x1 .f32) : Vec F S768x128 .f32 := View.ld (k0_pay7 x1) (Rect.unit (s := S992x128) ![224, 0] S768x128.size inb_S992x128_S768x128_224_0)

/-- What the body writes into block `k` of the output. -/
def payT (c : Dev nD) (x0 : Vec F S992x8192 .fp8e4m3) (x1 : Vec F S992x1 .f32) (x3 : Vec F S1x3072 .f32) (x4 : Vec F S1x3072 .f32)
    (XA : Buf (Elt F) (wM.view.loc (c : Thread nD τ))) (k : Fin 12) : FVec F S1x768x256 .f32 :=
  hidT (codesB x0) (View.read (Elt F) (tile k).view XA) (scalesB x1) (View.ld x3 (colR k)) (View.ld x4 (colR k))

/-! ## What the body's loads read -/

/-- A load through a whole memref holding `x` reads `x`'s elements under the rectangle. -/
theorem ldR {s : Shape} {e : EltTy} (arg : Memref sig .tc .vmem s e) (h : arg.IsWhole) (x : Vec F s e) (r : Rect s) :
    View.readAt (Elt F) arg.view r.toLoadRect (h.unread x) = View.ld x r :=
  funext fun j => by rw [View.readAt_apply, h.read_unread]
/-- The scales, whole. -/
theorem ldQ (x : Vec F S992x1 .f32) (inb : ∀ a, (![0, 0] : Fin 2 → Nat) a + S992x1.size a ≤ S992x1.size a) : View.ld x (Rect.unit (s := S992x1) ![0, 0] S992x1.size inb) = x :=
  funext fun j => congrArg x (funext fun a => Fin.ext (by
    fin_cases a
    · show 0 + 1 * (j 0).val = (j 0).val; omega
    · show 0 + 1 * (j 1).val = (j 1).val; omega))
/-- Scales stored whole read back. -/
theorem sc_read (v : View sig .tc .vmem S992x128 .f32) (f : v.ty.Contents (Elt F)) (inb : ∀ a, (![0, 0] : Fin 2 → Nat) a + S992x128.size a ≤ S992x128.size a) (w : Vec F S992x128 .f32) :
    v.read (Elt F) (v.writes (Elt F) f [⟨Rect.unit (s := S992x128) ![0, 0] S992x128.size inb, w⟩]) = w :=
  funext fun y => View.read_writes_apply_of_pieces (v := v) (f := f) w _
    (fun p hp x => by
      obtain rfl := List.mem_singleton.mp hp
      refine congrArg w (funext fun a => Fin.ext ?_)
      fin_cases a
      · show (x 0).val = 0 + 1 * (x 0).val; omega
      · show (x 1).val = 0 + 1 * (x 1).val; omega) y
    ⟨_, List.mem_singleton.mpr rfl, by
      rw [Rect.mem_set_unit]; intro a
      have h0 : (y 0).val < 992 := (y 0).isLt
      have h1 : (y 1).val < 128 := (y 1).isLt
      fin_cases a
      · show 0 ≤ (y 0).val ∧ (y 0).val < 0 + 992; omega
      · show 0 ≤ (y 1).val ∧ (y 1).val < 0 + 128; omega⟩

theorem payT_of (c : Dev nD) (x0 : Vec F S992x8192 .fp8e4m3) (x1 : Vec F S992x1 .f32) (x3 : Vec F S1x3072 .f32) (x4 : Vec F S1x3072 .f32)
    (XA : Buf (Elt F) (wM.view.loc (c : Thread nD τ))) (k : Fin 12) {la : Vec F S768x8192 .fp8e4m3} {w : Vec F S8192x256 .fp8e4m3} {sc : Vec F S768x128 .f32} {s b : Vec F S1x256 .f32}
    (hla : la = codesB x0) (hw : w = View.read (Elt F) (tile k).view XA) (hsc : sc = scalesB x1) (hs : s = View.ld x3 (colR k)) (hb : b = View.ld x4 (colR k)) :
    hidT la w sc s b = payT c x0 x1 x3 x4 XA k := by subst hla hw hsc hs hb; rfl

theorem piece_cons {r r' : Rect S12x768x256} {w : r.shape.Idx → Elt F .f32} {w' : r'.shape.Idx → Elt F .f32} {L L' : List (View.Piece (Elt F) S12x768x256 .f32)} (e : r = r') (h : HEq w w') (h' : L = L') :
    ((⟨r, w⟩ : View.Piece (Elt F) S12x768x256 .f32) :: L) = ⟨r', w'⟩ :: L' := by subst e h'; cases h; rfl

/-- A block written at literal offsets is block `k`. -/
theorem piece_lit (k : Fin 12) {off : Fin 3 → Nat} (e : off = outOff k) (inb : ∀ a, off a + S1x768x256.size a ≤ S12x768x256.size a) {w w' : Vec F S1x768x256 .f32} (h : w = w') :
    (⟨Rect.unit (s := S12x768x256) off S1x768x256.size inb, w⟩ : View.Piece (Elt F) S12x768x256 .f32) = ⟨outR k, w'⟩ := by subst e h; rfl

theorem form0 (a : Vec F S768x8192 .fp8e4m3) (v : Vec F S1x8192x256 .fp8e4m3) (q : Vec F S768x128 .f32) (s b : Vec F S1x256 .f32) : k0_pay13 a v q s b = hidT a (shapeCast S8192x256 v shapeCasts_S1x8192x256_S8192x256) q s b := rfl
theorem form1 (a : Vec F S768x8192 .fp8e4m3) (v : Vec F S1x8192x256 .fp8e4m3) (q : Vec F S768x128 .f32) (s b : Vec F S1x256 .f32) : k0_pay15 (k0_pay14 a v) q s b = hidT a (shapeCast S8192x256 v shapeCasts_S1x8192x256_S8192x256) q s b := rfl
theorem form2 (a : Vec F S768x8192 .fp8e4m3) (v : Vec F S1x8192x256 .fp8e4m3) (q : Vec F S768x128 .f32) (s b : Vec F S1x256 .f32) : k0_pay16 a v q s b = hidT a (shapeCast S8192x256 v shapeCasts_S1x8192x256_S8192x256) q s b := rfl
theorem form3 (a : Vec F S768x8192 .fp8e4m3) (v : Vec F S1x8192x256 .fp8e4m3) (q : Vec F S768x128 .f32) (s b : Vec F S1x256 .f32) : k0_pay17 a v q s b = hidT a (shapeCast S8192x256 v shapeCasts_S1x8192x256_S8192x256) q s b := rfl
theorem form4 (a : Vec F S768x8192 .fp8e4m3) (v : Vec F S1x8192x256 .fp8e4m3) (q : Vec F S768x128 .f32) (s b : Vec F S1x256 .f32) : k0_pay20 (k0_pay18 a v q s) (k0_pay19 b) = hidT a (shapeCast S8192x256 v shapeCasts_S1x8192x256_S8192x256) q s b := rfl
theorem form5 (a : Vec F S768x8192 .fp8e4m3) (v : Vec F S1x8192x256 .fp8e4m3) (q : Vec F S768x128 .f32) (s b : Vec F S1x256 .f32) : k0_pay21 a v q s b = hidT a (shapeCast S8192x256 v shapeCasts_S1x8192x256_S8192x256) q s b := rfl
theorem form6 (a : Vec F S768x8192 .fp8e4m3) (v : Vec F S1x8192x256 .fp8e4m3) (q : Vec F S768x128 .f32) (s b : Vec F S1x256 .f32) : k0_pay23 (k0_pay22 a v) q s b = hidT a (shapeCast S8192x256 v shapeCasts_S1x8192x256_S8192x256) q s b := rfl
theorem form7 (a : Vec F S768x8192 .fp8e4m3) (v : Vec F S1x8192x256 .fp8e4m3) (q : Vec F S768x128 .f32) (s b : Vec F S1x256 .f32) : k0_pay24 a v q s b = hidT a (shapeCast S8192x256 v shapeCasts_S1x8192x256_S8192x256) q s b := rfl
theorem form8 (a : Vec F S768x8192 .fp8e4m3) (v : Vec F S1x8192x256 .fp8e4m3) (q : Vec F S768x128 .f32) (s b : Vec F S1x256 .f32) : k0_pay25 a v q s b = hidT a (shapeCast S8192x256 v shapeCasts_S1x8192x256_S8192x256) q s b := rfl
theorem form9 (a : Vec F S768x8192 .fp8e4m3) (v : Vec F S1x8192x256 .fp8e4m3) (q : Vec F S768x128 .f32) (s b : Vec F S1x256 .f32) : k0_pay28 (k0_pay26 a v q s) (k0_pay27 b) = hidT a (shapeCast S8192x256 v shapeCasts_S1x8192x256_S8192x256) q s b := rfl
theorem form10 (a : Vec F S768x8192 .fp8e4m3) (v : Vec F S1x8192x256 .fp8e4m3) (q : Vec F S768x128 .f32) (s b : Vec F S1x256 .f32) : k0_pay29 a v q s b = hidT a (shapeCast S8192x256 v shapeCasts_S1x8192x256_S8192x256) q s b := rfl
theorem form11 (a : Vec F S768x8192 .fp8e4m3) (v : Vec F S1x8192x256 .fp8e4m3) (q : Vec F S768x128 .f32) (s b : Vec F S1x256 .f32) : k0_pay1 (k0_pay30 a v) q s b = hidT a (shapeCast S8192x256 v shapeCasts_S1x8192x256_S8192x256) q s b := rfl

section
variable (c : Dev nD) (arg0 : Memref sig .tc .vmem S992x8192 .fp8e4m3) (harg0 : arg0.IsWhole) (arg1 : Memref sig .tc .vmem S992x1 .f32) (harg1 : arg1.IsWhole)
    (arg3 : Memref sig .tc .vmem S1x3072 .f32) (harg3 : arg3.IsWhole) (arg4 : Memref sig .tc .vmem S1x3072 .f32) (harg4 : arg4.IsWhole)
    (arg8 : Memref sig .tc .vmem S224x8192 .fp8e4m3) (harg8 : arg8.IsWhole) (arg9 : Memref sig .tc .vmem S768x8192 .fp8e4m3) (harg9 : arg9.IsWhole) (arg10 : Memref sig .tc .vmem S992x128 .f32) (harg10 : arg10.IsWhole)
    (x0 : Vec F S992x8192 .fp8e4m3) (x1 : Vec F S992x1 .f32) (x3 : Vec F S1x3072 .f32) (x4 : Vec F S1x3072 .f32)
    (XA : Buf (Elt F) (wM.view.loc (c : Thread nD τ)))

theorem la_eq : bodyRun.sl.v87 c arg0 harg0 arg9 x0 = codesB x0 := by
  unfold bodyRun.sl.v87 bodyRun.sl.H9_1
  exact (View.readCov_cons_toLoadRect arg9.view _ _ _).trans (congrArg k0_pay6 (ldR arg0 harg0 x0 _))
theorem sc_eq : bodyRun.sl.v91 c arg1 harg1 arg10 x1 = scalesB x1 := by
  unfold bodyRun.sl.v91 bodyRun.sl.H10_1
  rw [ldR arg1 harg1 x1, ldQ]
  exact funext fun j => (View.readAt_apply ..).trans (congrFun (sc_read arg10.view _ _ _) _)

theorem w_eq0 : shapeCast S8192x256 (bodyRun.sl.v88 c XA) shapeCasts_S1x8192x256_S8192x256 = View.read (Elt F) (tile 0).view XA := by
  unfold bodyRun.sl.v88
  exact landed 0 (by decide) _ _ _
theorem w_eq1 : shapeCast S8192x256 (bodyRun.sl.v108 c XA) shapeCasts_S1x8192x256_S8192x256 = View.read (Elt F) (tile 1).view XA := by
  unfold bodyRun.sl.v108
  exact landed 1 (by decide) _ _ _
theorem w_eq2 : shapeCast S8192x256 (bodyRun.sl.v128 c XA) shapeCasts_S1x8192x256_S8192x256 = View.read (Elt F) (tile 2).view XA := by
  unfold bodyRun.sl.v128
  exact landed 2 (by decide) _ _ _
theorem w_eq3 : shapeCast S8192x256 (bodyRun.sl.v148 c XA) shapeCasts_S1x8192x256_S8192x256 = View.read (Elt F) (tile 3).view XA := by
  unfold bodyRun.sl.v148
  exact landed 3 (by decide) _ _ _
theorem w_eq4 : shapeCast S8192x256 (bodyRun.sl.v168 c XA) shapeCasts_S1x8192x256_S8192x256 = View.read (Elt F) (tile 4).view XA := by
  unfold bodyRun.sl.v168
  exact landed 4 (by decide) _ _ _
theorem w_eq5 : shapeCast S8192x256 (bodyRun.sl.v188 c XA) shapeCasts_S1x8192x256_S8192x256 = View.read (Elt F) (tile 5).view XA := by
  unfold bodyRun.sl.v188
  exact landed 5 (by decide) _ _ _
theorem w_eq6 : shapeCast S8192x256 (bodyRun.sl.v208 c XA) shapeCasts_S1x8192x256_S8192x256 = View.read (Elt F) (tile 6).view XA := by
  unfold bodyRun.sl.v208
  exact landed 6 (by decide) _ _ _
theorem w_eq7 : shapeCast S8192x256 (bodyRun.sl.v228 c XA) shapeCasts_S1x8192x256_S8192x256 = View.read (Elt F) (tile 7).view XA := by
  unfold bodyRun.sl.v228
  exact landed 7 (by decide) _ _ _
theorem w_eq8 : shapeCast S8192x256 (bodyRun.sl.v248 c XA) shapeCasts_S1x8192x256_S8192x256 = View.read (Elt F) (tile 8).view XA := by
  unfold bodyRun.sl.v248
  exact landed 8 (by decide) _ _ _
theorem w_eq9 : shapeCast S8192x256 (bodyRun.sl.v268 c XA) shapeCasts_S1x8192x256_S8192x256 = View.read (Elt F) (tile 9).view XA := by
  unfold bodyRun.sl.v268
  exact landed 9 (by decide) _ _ _
theorem w_eq10 : shapeCast S8192x256 (bodyRun.sl.v288 c XA) shapeCasts_S1x8192x256_S8192x256 = View.read (Elt F) (tile 10).view XA := by
  unfold bodyRun.sl.v288
  exact landed 10 (by decide) _ _ _
theorem w_eq11 : shapeCast S8192x256 (bodyRun.sl.v308 c XA) shapeCasts_S1x8192x256_S8192x256 = View.read (Elt F) (tile 11).view XA := by
  unfold bodyRun.sl.v308
  exact landed 11 (by decide) _ _ _

theorem pieces_eq (arg5 : Memref sig .tc .vmem S12x224x256 .f32) (harg5 : arg5.IsWhole) (arg6 : Memref sig .tc .vmem S12x768x256 .f32) (harg6 : arg6.IsWhole) :
    (bodyRun c arg0 harg0 arg1 harg1 arg3 harg3 arg4 harg4 arg5 harg5 arg6 harg6 arg8 harg8 arg9 harg9 arg10 harg10 x0 x1 x3 x4 XA).2.2.1 = [⟨outR 11, payT c x0 x1 x3 x4 XA 11⟩, ⟨outR 10, payT c x0 x1 x3 x4 XA 10⟩, ⟨outR 9, payT c x0 x1 x3 x4 XA 9⟩, ⟨outR 8, payT c x0 x1 x3 x4 XA 8⟩, ⟨outR 7, payT c x0 x1 x3 x4 XA 7⟩, ⟨outR 6, payT c x0 x1 x3 x4 XA 6⟩, ⟨outR 5, payT c x0 x1 x3 x4 XA 5⟩, ⟨outR 4, payT c x0 x1 x3 x4 XA 4⟩, ⟨outR 3, payT c x0 x1 x3 x4 XA 3⟩, ⟨outR 2, payT c x0 x1 x3 x4 XA 2⟩, ⟨outR 1, payT c x0 x1 x3 x4 XA 1⟩, ⟨outR 0, payT c x0 x1 x3 x4 XA 0⟩] := by
  unfold bodyRun
  dsimp only
  unfold bodyRun.sl.r bodyRun.sl.r_1 bodyRun.sl.r_2 bodyRun.sl.r_3 bodyRun.sl.r_4 bodyRun.sl.r_5 bodyRun.sl.r_6
  refine congrArg₂ List.cons (piece_lit 11 (by decide) _ ((form11 _ _ _ _ _).trans (payT_of c x0 x1 x3 x4 XA 11
    (la_eq c arg0 harg0 arg9 x0) (w_eq11 c XA) (sc_eq c arg1 harg1 arg10 x1) (ldS arg3 harg3 x3 11 (by decide) _) (ldS arg4 harg4 x4 11 (by decide) _)))) ?_
  refine congrArg₂ List.cons (piece_lit 10 (by decide) _ ((form10 _ _ _ _ _).trans (payT_of c x0 x1 x3 x4 XA 10
    (la_eq c arg0 harg0 arg9 x0) (w_eq10 c XA) (sc_eq c arg1 harg1 arg10 x1) (ldS arg3 harg3 x3 10 (by decide) _) (ldS arg4 harg4 x4 10 (by decide) _)))) ?_
  refine congrArg₂ List.cons (piece_lit 9 (by decide) _ ((form9 _ _ _ _ _).trans (payT_of c x0 x1 x3 x4 XA 9
    (la_eq c arg0 harg0 arg9 x0) (w_eq9 c XA) (sc_eq c arg1 harg1 arg10 x1) (ldS arg3 harg3 x3 9 (by decide) _) (ldS arg4 harg4 x4 9 (by decide) _)))) ?_
  refine congrArg₂ List.cons (piece_lit 8 (by decide) _ ((form8 _ _ _ _ _).trans (payT_of c x0 x1 x3 x4 XA 8
    (la_eq c arg0 harg0 arg9 x0) (w_eq8 c XA) (sc_eq c arg1 harg1 arg10 x1) (ldS arg3 harg3 x3 8 (by decide) _) (ldS arg4 harg4 x4 8 (by decide) _)))) ?_
  refine congrArg₂ List.cons (piece_lit 7 (by decide) _ ((form7 _ _ _ _ _).trans (payT_of c x0 x1 x3 x4 XA 7
    (la_eq c arg0 harg0 arg9 x0) (w_eq7 c XA) (sc_eq c arg1 harg1 arg10 x1) (ldS arg3 harg3 x3 7 (by decide) _) (ldS arg4 harg4 x4 7 (by decide) _)))) ?_
  refine congrArg₂ List.cons (piece_lit 6 (by decide) _ ((form6 _ _ _ _ _).trans (payT_of c x0 x1 x3 x4 XA 6
    (la_eq c arg0 harg0 arg9 x0) (w_eq6 c XA) (sc_eq c arg1 harg1 arg10 x1) (ldS arg3 harg3 x3 6 (by decide) _) (ldS arg4 harg4 x4 6 (by decide) _)))) ?_
  refine congrArg₂ List.cons (piece_lit 5 (by decide) _ ((form5 _ _ _ _ _).trans (payT_of c x0 x1 x3 x4 XA 5
    (la_eq c arg0 harg0 arg9 x0) (w_eq5 c XA) (sc_eq c arg1 harg1 arg10 x1) (ldS arg3 harg3 x3 5 (by decide) _) (ldS arg4 harg4 x4 5 (by decide) _)))) ?_
  refine congrArg₂ List.cons (piece_lit 4 (by decide) _ ((form4 _ _ _ _ _).trans (payT_of c x0 x1 x3 x4 XA 4
    (la_eq c arg0 harg0 arg9 x0) (w_eq4 c XA) (sc_eq c arg1 harg1 arg10 x1) (ldS arg3 harg3 x3 4 (by decide) _) (ldS arg4 harg4 x4 4 (by decide) _)))) ?_
  refine congrArg₂ List.cons (piece_lit 3 (by decide) _ ((form3 _ _ _ _ _).trans (payT_of c x0 x1 x3 x4 XA 3
    (la_eq c arg0 harg0 arg9 x0) (w_eq3 c XA) (sc_eq c arg1 harg1 arg10 x1) (ldS arg3 harg3 x3 3 (by decide) _) (ldS arg4 harg4 x4 3 (by decide) _)))) ?_
  refine congrArg₂ List.cons (piece_lit 2 (by decide) _ ((form2 _ _ _ _ _).trans (payT_of c x0 x1 x3 x4 XA 2
    (la_eq c arg0 harg0 arg9 x0) (w_eq2 c XA) (sc_eq c arg1 harg1 arg10 x1) (ldS arg3 harg3 x3 2 (by decide) _) (ldS arg4 harg4 x4 2 (by decide) _)))) ?_
  refine congrArg₂ List.cons (piece_lit 1 (by decide) _ ((form1 _ _ _ _ _).trans (payT_of c x0 x1 x3 x4 XA 1
    (la_eq c arg0 harg0 arg9 x0) (w_eq1 c XA) (sc_eq c arg1 harg1 arg10 x1) (ldS arg3 harg3 x3 1 (by decide) _) (ldS arg4 harg4 x4 1 (by decide) _)))) ?_
  refine congrArg₂ List.cons (piece_lit 0 (by decide) _ ((form0 _ _ _ _ _).trans (payT_of c x0 x1 x3 x4 XA 0
    (la_eq c arg0 harg0 arg9 x0) (w_eq0 c XA) (sc_eq c arg1 harg1 arg10 x1) (ldS arg3 harg3 x3 0 (by decide) _) (ldS arg4 harg4 x4 0 (by decide) _)))) ?_
  rfl

/-- The codes that the loop reads are the first rows' codes, -/
theorem codesA_eq (arg5 : Memref sig .tc .vmem S12x224x256 .f32) (harg5 : arg5.IsWhole) (arg6 : Memref sig .tc .vmem S12x768x256 .f32) (harg6 : arg6.IsWhole) :
    laOf c arg8 (bodyRun c arg0 harg0 arg1 harg1 arg3 harg3 arg4 harg4 arg5 harg5 arg6 harg6 arg8 harg8 arg9 harg9 arg10 harg10 x0 x1 x3 x4 XA).1 = codesA x0 := by
  unfold bodyRun
  dsimp only
  unfold bodyRun.sl.H8_1
  rw [ldR arg0 harg0 x0]
  exact View.readCov_cons_toLoadRect arg8.view _ _ _
/-- and the scales their scales. -/
theorem scalesA_eq (arg5 : Memref sig .tc .vmem S12x224x256 .f32) (harg5 : arg5.IsWhole) (arg6 : Memref sig .tc .vmem S12x768x256 .f32) (harg6 : arg6.IsWhole) :
    scOf c arg10 (bodyRun c arg0 harg0 arg1 harg1 arg3 harg3 arg4 harg4 arg5 harg5 arg6 harg6 arg8 harg8 arg9 harg9 arg10 harg10 x0 x1 x3 x4 XA).2.1 = scalesA x1 := by
  unfold bodyRun
  dsimp only
  unfold bodyRun.sl.H10_1
  rw [ldR arg1 harg1 x1, ldQ]
  exact funext fun j => (View.readAt_apply ..).trans (congrFun (sc_read arg10.view _ _ _) _)

/-- The body's run, with what it leaves in both outputs named. -/
theorem body_run (arg5 : Memref sig .tc .vmem S12x224x256 .f32) (harg5 : arg5.IsWhole) (arg6 : Memref sig .tc .vmem S12x768x256 .f32) (harg6 : arg6.IsWhole) :
      ∀ (W : Waits sig Unit) (K : PUnit → sProp 𝕄) (f5 : Buf (Elt F) (arg5.view.loc (c : Thread nD τ))) (f6 : Buf (Elt F) (arg6.view.loc (c : Thread nD τ)))
        (f8 : Buf (Elt F) (arg8.view.loc (c : Thread nD τ))) (f9 : Buf (Elt F) (arg9.view.loc (c : Thread nD τ))) (f10 : Buf (Elt F) (arg10.view.loc (c : Thread nD τ))) (fs : (s : Fin 12) → Buf (Elt F) ((slab s).view.loc (c : Thread nD τ))),
        iprop(owns (c : Thread nD τ) arg0 fullShare x0 ∗ owns (c : Thread nD τ) arg1 fullShare x1 ∗ owns (c : Thread nD τ) arg3 fullShare x3 ∗ owns (c : Thread nD τ) arg4 fullShare x4
            ∗ (arg5.view.loc (c : Thread nD τ) ↦[arg5.view.set]{fullShare} f5) ∗ (arg6.view.loc (c : Thread nD τ) ↦[arg6.view.set]{fullShare} f6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
            ∗ slabP c 0 (fs 0) ∗ slabP c 1 (fs 1) ∗ slabP c 2 (fs 2) ∗ slabP c 3 (fs 3) ∗ slabP c 4 (fs 4) ∗ slabP c 5 (fs 5) ∗ slabP c 6 (fs 6) ∗ slabP c 7 (fs 7) ∗ slabP c 8 (fs 8) ∗ slabP c 9 (fs 9) ∗ slabP c 10 (fs 10) ∗ slabP c 11 (fs 11)
            ∗ homeP c XA 0 ∗ homeP c XA 1 ∗ homeP c XA 2 ∗ homeP c XA 3 ∗ homeP c XA 4 ∗ homeP c XA 5 ∗ homeP c XA 6 ∗ homeP c XA 7 ∗ homeP c XA 8 ∗ homeP c XA 9 ∗ homeP c XA 10 ∗ homeP c XA 11
            ∗ cellP c 0 ∗ cellP c 1 ∗ cellP c 2 ∗ cellP c 3 ∗ cellP c 4 ∗ cellP c 5 ∗ cellP c 6 ∗ cellP c 7 ∗ cellP c 8 ∗ cellP c 9 ∗ cellP c 10 ∗ cellP c 11
            ∗ owes (c : Thread nD τ) 0 W
            ∗ (iprop(owns (c : Thread nD τ) arg0 fullShare x0 ∗ owns (c : Thread nD τ) arg1 fullShare x1 ∗ owns (c : Thread nD τ) arg3 fullShare x3 ∗ owns (c : Thread nD τ) arg4 fullShare x4
                ∗ (∃ g : Buf (Elt F) (arg5.view.loc (c : Thread nD τ)), ⌜arg5.view.read (Elt F) g = outA c (codesA x0) (scalesA x1) x3 x4 XA⌝ ∗ (arg5.view.loc (c : Thread nD τ) ↦[arg5.view.set]{fullShare} g)) ∗ (arg6.view.loc (c : Thread nD τ) ↦[arg6.view.set]{fullShare} arg6.view.writes (Elt F) f6 ([⟨outR 11, payT c x0 x1 x3 x4 XA 11⟩, ⟨outR 10, payT c x0 x1 x3 x4 XA 10⟩, ⟨outR 9, payT c x0 x1 x3 x4 XA 9⟩, ⟨outR 8, payT c x0 x1 x3 x4 XA 8⟩, ⟨outR 7, payT c x0 x1 x3 x4 XA 7⟩, ⟨outR 6, payT c x0 x1 x3 x4 XA 6⟩, ⟨outR 5, payT c x0 x1 x3 x4 XA 5⟩, ⟨outR 4, payT c x0 x1 x3 x4 XA 4⟩, ⟨outR 3, payT c x0 x1 x3 x4 XA 3⟩, ⟨outR 2, payT c x0 x1 x3 x4 XA 2⟩, ⟨outR 1, payT c x0 x1 x3 x4 XA 1⟩, ⟨outR 0, payT c x0 x1 x3 x4 XA 0⟩])) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))
                ∗ (∃ f, slabP c 0 f) ∗ (∃ f, slabP c 1 f) ∗ (∃ f, slabP c 2 f) ∗ (∃ f, slabP c 3 f) ∗ (∃ f, slabP c 4 f) ∗ (∃ f, slabP c 5 f) ∗ (∃ f, slabP c 6 f) ∗ (∃ f, slabP c 7 f) ∗ (∃ f, slabP c 8 f) ∗ (∃ f, slabP c 9 f) ∗ (∃ f, slabP c 10 f) ∗ (∃ f, slabP c 11 f)
                ∗ homeP c XA 0 ∗ homeP c XA 1 ∗ homeP c XA 2 ∗ homeP c XA 3 ∗ homeP c XA 4 ∗ homeP c XA 5 ∗ homeP c XA 6 ∗ homeP c XA 7 ∗ homeP c XA 8 ∗ homeP c XA 9 ∗ homeP c XA 10 ∗ homeP c XA 11
                ∗ cellP c 0 ∗ cellP c 1 ∗ cellP c 2 ∗ cellP c 3 ∗ cellP c 4 ∗ cellP c 5 ∗ cellP c 6 ∗ cellP c 7 ∗ cellP c 8 ∗ cellP c 9 ∗ cellP c 10 ∗ cellP c 11
                ∗ (∃ W, owes (c : Thread nD τ) 0 W)) -∗ K ⟨⟩))
          ⊢ wp Idealize.ShloMosaic.frame (wpE (defs₀ (F := F)) Variants.none c none) Set.univ
              (cc0_nsa_joint_compression arg0 harg0 arg1 harg1 wM (Memref.isWhole_whole _) arg3 harg3 arg4 harg4 arg5 harg5 arg6 harg6 ringM (Memref.isWhole_whole _) arg8 harg8 arg9 harg9 arg10 harg10 cc0_scratch4) K := by
  have hp := pieces_eq c arg0 harg0 arg1 harg1 arg3 harg3 arg4 harg4 arg8 harg8 arg9 harg9 arg10 harg10 x0 x1 x3 x4 XA arg5 harg5 arg6 harg6
  have ha := codesA_eq c arg0 harg0 arg1 harg1 arg3 harg3 arg4 harg4 arg8 harg8 arg9 harg9 arg10 harg10 x0 x1 x3 x4 XA arg5 harg5 arg6 harg6
  have hq := scalesA_eq c arg0 harg0 arg1 harg1 arg3 harg3 arg4 harg4 arg8 harg8 arg9 harg9 arg10 harg10 x0 x1 x3 x4 XA arg5 harg5 arg6 harg6
  revert hp ha hq
  generalize (bodyRun c arg0 harg0 arg1 harg1 arg3 harg3 arg4 harg4 arg5 harg5 arg6 harg6 arg8 harg8 arg9 harg9 arg10 harg10 x0 x1 x3 x4 XA) = R
  obtain ⟨g8, g10, L, hrun⟩ := R
  intro hp ha hq
  dsimp only at hp ha hq
  subst hp
  rw [ha, hq] at hrun
  exact hrun

end

end Cert.Proof.OfKernelIdeal

end
-- ==== Proof.KernelIdeal.Launch.lean ====
/-
  The launch: the body at its one grid point, the run of the whole program, what it leaves in the result and in the arguments.
-/
module

public import proofs.«01_k».proof.Proof.KernelIdeal.Pieces
public import Idealize.ShloMosaic.Lib.Pipeline.Value
public import Idealize.ShloMosaic.Lib.Claim

@[expose] public section

set_option maxRecDepth 16384

noncomputable section

namespace Cert.Proof.OfKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The output, element by element -/

section Out
variable (c : Dev nD) (x0 : Vec F S992x8192 .fp8e4m3) (x1 : Vec F S992x1 .f32) (x3 : Vec F S1x3072 .f32) (x4 : Vec F S1x3072 .f32)
    (XA : Buf (Elt F) (wM.view.loc (c : Thread nD τ)))

/-- The index of an output element within its block. -/
def inner (y : S12x768x256.Idx) : S1x768x256.Idx := fun a => match a with
  | ⟨0, _⟩ => (⟨0, Nat.one_pos⟩ : Fin 1)
  | ⟨1, _⟩ => y 1
  | ⟨2, _⟩ => y 2
/-- The block of an output element. -/
def blkOf (y : S12x768x256.Idx) : Fin 12 := y 0

/-- What the body leaves in the output. -/
def outV : Vec F S12x768x256 .f32 := fun y => payT c x0 x1 x3 x4 XA (blkOf y) (inner y)

/-- Its stores, last first. -/
def outL : List (View.Piece (Elt F) S12x768x256 .f32) := [⟨outR 11, payT c x0 x1 x3 x4 XA 11⟩, ⟨outR 10, payT c x0 x1 x3 x4 XA 10⟩, ⟨outR 9, payT c x0 x1 x3 x4 XA 9⟩, ⟨outR 8, payT c x0 x1 x3 x4 XA 8⟩, ⟨outR 7, payT c x0 x1 x3 x4 XA 7⟩, ⟨outR 6, payT c x0 x1 x3 x4 XA 6⟩, ⟨outR 5, payT c x0 x1 x3 x4 XA 5⟩, ⟨outR 4, payT c x0 x1 x3 x4 XA 4⟩, ⟨outR 3, payT c x0 x1 x3 x4 XA 3⟩, ⟨outR 2, payT c x0 x1 x3 x4 XA 2⟩, ⟨outR 1, payT c x0 x1 x3 x4 XA 1⟩, ⟨outR 0, payT c x0 x1 x3 x4 XA 0⟩]

theorem mem_outL (k : Fin 12) : (⟨outR k, payT c x0 x1 x3 x4 XA k⟩ : View.Piece (Elt F) S12x768x256 .f32) ∈ outL c x0 x1 x3 x4 XA := by
  unfold outL; fin_cases k
  · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))
  · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))
  · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))
  · exact (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))
  · exact (List.mem_cons_of_mem _ (List.mem_cons_of_mem _ (List.mem_cons_of_mem _ (List.mem_cons_of_mem _ (List.mem_cons_of_mem _ (List.mem_cons_of_mem _ (List.mem_cons_of_mem _ List.mem_cons_self)))))))
  · exact (List.mem_cons_of_mem _ (List.mem_cons_of_mem _ (List.mem_cons_of_mem _ (List.mem_cons_of_mem _ (List.mem_cons_of_mem _ (List.mem_cons_of_mem _ List.mem_cons_self))))))
  · exact (List.mem_cons_of_mem _ (List.mem_cons_of_mem _ (List.mem_cons_of_mem _ (List.mem_cons_of_mem _ (List.mem_cons_of_mem _ List.mem_cons_self)))))
  · exact (List.mem_cons_of_mem _ (List.mem_cons_of_mem _ (List.mem_cons_of_mem _ (List.mem_cons_of_mem _ List.mem_cons_self))))
  · exact (List.mem_cons_of_mem _ (List.mem_cons_of_mem _ (List.mem_cons_of_mem _ List.mem_cons_self)))
  · exact (List.mem_cons_of_mem _ (List.mem_cons_of_mem _ List.mem_cons_self))
  · exact (List.mem_cons_of_mem _ List.mem_cons_self)
  · exact List.mem_cons_self
theorem of_mem_outL (p : View.Piece (Elt F) S12x768x256 .f32) (hp : p ∈ outL c x0 x1 x3 x4 XA) :
    ∃ k : Fin 12, p = ⟨outR k, payT c x0 x1 x3 x4 XA k⟩ := by
  simp only [outL, List.mem_cons, List.mem_nil_iff, or_false] at hp
  rcases hp with h | h | h | h | h | h | h | h | h | h | h | h
  · exact ⟨11, h⟩
  · exact ⟨10, h⟩
  · exact ⟨9, h⟩
  · exact ⟨8, h⟩
  · exact ⟨7, h⟩
  · exact ⟨6, h⟩
  · exact ⟨5, h⟩
  · exact ⟨4, h⟩
  · exact ⟨3, h⟩
  · exact ⟨2, h⟩
  · exact ⟨1, h⟩
  · exact ⟨0, h⟩

theorem outV_emb (k : Fin 12) (x : (outR k).shape.Idx) : payT c x0 x1 x3 x4 XA k x = outV c x0 x1 x3 x4 XA ((outR k).emb x) := by
  have e0 : (x 0).val = 0 := by have := (x 0).isLt; exact Nat.lt_one_iff.mp this
  have hk : blkOf ((outR k).emb x) = k := Fin.ext (by show k.val + 1 * (x 0).val = k.val; omega)
  have hi : inner ((outR k).emb x) = x := funext fun a => Fin.ext (by
    match a with
    | ⟨0, _⟩ => exact e0.symm
    | ⟨1, _⟩ => show 0 + 1 * (x 1).val = (x 1).val; omega
    | ⟨2, _⟩ => show 0 + 1 * (x 2).val = (x 2).val; omega)
  unfold outV; rw [hk, hi]

theorem outL_cover (y : S12x768x256.Idx) : ∃ p ∈ outL c x0 x1 x3 x4 XA, y ∈ p.1.set := by
  refine ⟨_, mem_outL c x0 x1 x3 x4 XA (blkOf y), ?_⟩
  have h1 : (y 1).val < 768 := (y 1).isLt
  have h2 : (y 2).val < 256 := (y 2).isLt
  show y ∈ (outR (blkOf y)).set
  rw [Rect.mem_set_unit]; intro a; fin_cases a
  · show (y 0).val ≤ (y 0).val ∧ (y 0).val < (y 0).val + 1; omega
  · show 0 ≤ (y 1).val ∧ (y 1).val < 0 + 768; omega
  · show 0 ≤ (y 2).val ∧ (y 2).val < 0 + 256; omega

/-- Read back, the body's stores are `outV`. -/
theorem read_outL (v : View sig .tc .vmem S12x768x256 .f32) (f : v.ty.Contents (Elt F)) :
    v.read (Elt F) (v.writes (Elt F) f (outL c x0 x1 x3 x4 XA)) = outV c x0 x1 x3 x4 XA :=
  funext fun y => View.read_writes_apply_of_pieces (v := v) (f := f) (outV c x0 x1 x3 x4 XA) (outL c x0 x1 x3 x4 XA)
    (fun p hp => by obtain ⟨k, rfl⟩ := of_mem_outL c x0 x1 x3 x4 XA p hp; exact outV_emb c x0 x1 x3 x4 XA k) y (outL_cover c x0 x1 x3 x4 XA y)

end Out

/-! ## The pipeline's proof data -/

/-- The arrays as the region finds them; after the body each input's buffer at its block and the outputs' at `outA` and `outV`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outA c (codesA (iblk m c 0 t)) (scalesA (iblk m c 1 t)) (iblk m c 2 t) (iblk m c 3 t) (V m c main_arg2)
    | ⟨5, _⟩ => outV c (iblk m c 0 t) (iblk m c 1 t) (iblk m c 2 t) (iblk m c 3 t) (V m c main_arg2)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outA c (codesA (iblk m c 0 t)) (scalesA (iblk m c 1 t)) (iblk m c 2 t) (iblk m c 3 t) (V m c main_arg2) := by dsimp only [dats]
theorem after0_5 (c : Dev nD) (t : Fin cfg0.N) : (dats m 0 c).after 5 t = outV c (iblk m c 0 t) (iblk m c 1 t) (iblk m c 2 t) (iblk m c 3 t) (V m c main_arg2) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- The buffer at some contents is its twelve slabs at some contents, -/
theorem ring_open (c : Dev nD) : (iprop(∃ d, owns (c : Thread nD τ) scM0_0 fullShare d) : sProp 𝕄)
    ⊢ iprop(∃ fs : (s : Fin 12) → Buf (Elt F) ((slab s).view.loc (c : Thread nD τ)), slabP c 0 (fs 0) ∗ slabP c 1 (fs 1) ∗ slabP c 2 (fs 2) ∗ slabP c 3 (fs 3) ∗ slabP c 4 (fs 4) ∗ slabP c 5 (fs 5) ∗ slabP c 6 (fs 6) ∗ slabP c 7 (fs 7) ∗ slabP c 8 (fs 8) ∗ slabP c 9 (fs 9) ∗ slabP c 10 (fs 10) ∗ slabP c 11 (fs 11)) := by
  iintro ⟨%d, H⟩
  ihave H' := (entails_of_eq ((owns_whole _ _ _ _).trans ((ring_eq c d).trans (bigSep_fin12 _)))) $$ H
  iexists (fun _ => d); iexact H'
/-- and back. -/
theorem ring_close (c : Dev nD) : (iprop((∃ f, slabP c 0 f) ∗ (∃ f, slabP c 1 f) ∗ (∃ f, slabP c 2 f) ∗ (∃ f, slabP c 3 f) ∗ (∃ f, slabP c 4 f) ∗ (∃ f, slabP c 5 f) ∗ (∃ f, slabP c 6 f) ∗ (∃ f, slabP c 7 f) ∗ (∃ f, slabP c 8 f) ∗ (∃ f, slabP c 9 f) ∗ (∃ f, slabP c 10 f) ∗ (∃ f, slabP c 11 f)) : sProp 𝕄)
    ⊢ iprop(∃ d, owns (c : Thread nD τ) scM0_0 fullShare d) := by
  iintro H
  ihave H' := (entails_of_eq (bigSep_fin12 (fun s => iprop(∃ f, slabP c s f))).symm) $$ H
  ihave H'' := (ring_join c) $$ H'
  icases H'' with ⟨%f, H⟩
  iexists f
  iapply (entails_of_eq (owns_whole (c : Thread nD τ) cc0_scratch0 fullShare f).symm)
  iexact H
theorem cells_list (c : Dev nD) : (Pipeline.ownSems0 (Ix := Unit) (Name := ℕ) (U := Pipeline.UD sig nD τ) (Lvl := ℕ) (Val := Elt F) (τ := τ) osem0 c : sProp 𝕄)
    = iprop(cellP c 0 ∗ cellP c 1 ∗ cellP c 2 ∗ cellP c 3 ∗ cellP c 4 ∗ cellP c 5 ∗ cellP c 6 ∗ cellP c 7 ∗ cellP c 8 ∗ cellP c 9 ∗ cellP c 10 ∗ cellP c 11) := (cells_eq c).trans (bigSep_fin12 _)
theorem home_list (c : Dev nD) : (bigSep H0 (fun b => ((c : Thread nD τ).loc b) ↦{fullShare} V m c b) : sProp 𝕄)
    = iprop(homeP c (V m c main_arg2) 0 ∗ homeP c (V m c main_arg2) 1 ∗ homeP c (V m c main_arg2) 2 ∗ homeP c (V m c main_arg2) 3 ∗ homeP c (V m c main_arg2) 4 ∗ homeP c (V m c main_arg2) 5 ∗ homeP c (V m c main_arg2) 6 ∗ homeP c (V m c main_arg2) 7 ∗ homeP c (V m c main_arg2) 8 ∗ homeP c (V m c main_arg2) 9 ∗ homeP c (V m c main_arg2) 10 ∗ homeP c (V m c main_arg2) 11) := (hbmPts0_eq m c).trans ((w_eq c _).trans (bigSep_fin12 _))
/-- The invariant, in the pieces the body is run on. -/
theorem Phi_list (c : Dev nD) : (Pipeline.ΦD osem0 spec0 H0 (V m) c : sProp 𝕄)
    = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)
      ∗ iprop(cellP c 0 ∗ cellP c 1 ∗ cellP c 2 ∗ cellP c 3 ∗ cellP c 4 ∗ cellP c 5 ∗ cellP c 6 ∗ cellP c 7 ∗ cellP c 8 ∗ cellP c 9 ∗ cellP c 10 ∗ cellP c 11)
      ∗ iprop(homeP c (V m c main_arg2) 0 ∗ homeP c (V m c main_arg2) 1 ∗ homeP c (V m c main_arg2) 2 ∗ homeP c (V m c main_arg2) 3 ∗ homeP c (V m c main_arg2) 4 ∗ homeP c (V m c main_arg2) 5 ∗ homeP c (V m c main_arg2) 6 ∗ homeP c (V m c main_arg2) 7 ∗ homeP c (V m c main_arg2) 8 ∗ homeP c (V m c main_arg2) 9 ∗ homeP c (V m c main_arg2) 10 ∗ homeP c (V m c main_arg2) 11)) := by
  rw [Pipeline.ΦD_eq, scopedRest0_eq, cells_list, home_list]; simp only [scM0_0, scM0_1, scM0_2, scM0_3, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl, after0_0, after0_1, after0_2, after0_3, after0_4, after0_5]
  rw [show (dats m 0 c).Φ t.castSucc = Pipeline.ΦD osem0 spec0 H0 (V m) c from rfl, Phi_list]
  unfold Dat.owesAt Pipeline.owesWithin
  rw [show (dats m 0 c).owed t.castSucc = 0 from rfl, show (dats m 0 c).owed t.succ = 0 from rfl]
  have hrun := body_run c (ms0_0 t) (hs0_0 t) (ms0_1 t) (hs0_1 t) (ms0_2 t) (hs0_2 t) (ms0_3 t) (hs0_3 t) scM0_1 (Memref.isWhole_whole _) scM0_2 (Memref.isWhole_whole _) scM0_3 (Memref.isWhole_whole _)
    (iblk m c 0 t) (iblk m c 1 t) (iblk m c 2 t) (iblk m c 3 t) (V m c main_arg2) (ms0_4 t) (hs0_4 t) (ms0_5 t) (hs0_5 t)
  iintro ⟨⟨⟨HS0, ⟨%d8, HS1⟩, ⟨%d9, HS2⟩, ⟨%d10, HS3⟩⟩, Hg, ⟨Hq0, Hq1, Hq2, Hq3, Hq4, Hq5, Hq6, Hq7, Hq8, Hq9, Hq10, Hq11⟩, ⟨Hh0, Hh1, Hh2, Hh3, Hh4, Hh5, Hh6, Hh7, Hh8, Hh9, Hh10, Hh11⟩⟩, ⟨%W, -, HW⟩, ⟨%d0, H0⟩, ⟨%d1, H1⟩, ⟨%d2, H2⟩, ⟨%d3, H3⟩, ⟨%d4, H4⟩, ⟨%d5, H5⟩⟩
  ihave HR := (ring_open c) $$ HS0
  icases HR with ⟨%fs, Hs0, Hs1, Hs2, Hs3, Hs4, Hs5, Hs6, Hs7, Hs8, Hs9, Hs10, Hs11⟩
  unfold owns
  icases HS1 with ⟨%f8, -, HS1⟩
  icases HS2 with ⟨%f9, -, HS2⟩
  icases HS3 with ⟨%f10, -, HS3⟩
  icases H4 with ⟨%f4, -, H4⟩
  icases H5 with ⟨%f5, -, H5⟩
  iapply (hrun W _ f4 f5 f8 f9 f10 fs)
  unfold owns
  isplitl [H0]; · iexact H0
  isplitl [H1]; · iexact H1
  isplitl [H2]; · iexact H2
  isplitl [H3]; · iexact H3
  isplitl [H4]; · iexact H4
  isplitl [H5]; · iexact H5
  isplitl [HS1]; · iexact HS1
  isplitl [HS2]; · iexact HS2
  isplitl [HS3]; · iexact HS3
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [HW]; · iexact HW
  iintro ⟨H0, H1, H2, H3, ⟨%g, %hg, H4⟩, H5, HS1, HS2, HS3, Hs0, Hs1, Hs2, Hs3, Hs4, Hs5, Hs6, Hs7, Hs8, Hs9, Hs10, Hs11, Hh0, Hh1, Hh2, Hh3, Hh4, Hh5, Hh6, Hh7, Hh8, Hh9, Hh10, Hh11, Hq0, Hq1, Hq2, Hq3, Hq4, Hq5, Hq6, Hq7, Hq8, Hq9, Hq10, Hq11, ⟨%W', HW'⟩⟩
  isplitl [HS1 HS2 HS3 Hg Hs0 Hs1 Hs2 Hs3 Hs4 Hs5 Hs6 Hs7 Hs8 Hs9 Hs10 Hs11 Hh0 Hh1 Hh2 Hh3 Hh4 Hh5 Hh6 Hh7 Hh8 Hh9 Hh10 Hh11 Hq0 Hq1 Hq2 Hq3 Hq4 Hq5 Hq6 Hq7 Hq8 Hq9 Hq10 Hq11]
  · isplitl [HS1 HS2 HS3 Hs0 Hs1 Hs2 Hs3 Hs4 Hs5 Hs6 Hs7 Hs8 Hs9 Hs10 Hs11]
    · isplitl [Hs0 Hs1 Hs2 Hs3 Hs4 Hs5 Hs6 Hs7 Hs8 Hs9 Hs10 Hs11]
      · iapply (ring_close c)
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        isplitl [Hs7]; · iexact Hs7
        isplitl [Hs8]; · iexact Hs8
        isplitl [Hs9]; · iexact Hs9
        isplitl [Hs10]; · iexact Hs10
        iexact Hs11
      isplitl [HS1]
      · icases HS1 with ⟨%f, H⟩
        iexists _; iexists f; isplitr; · ipureintro; rfl
        iexact H
      isplitl [HS2]
      · icases HS2 with ⟨%f, H⟩
        iexists _; iexists f; isplitr; · ipureintro; rfl
        iexact H
      · icases HS3 with ⟨%f, H⟩
        iexists _; iexists f; isplitr; · ipureintro; rfl
        iexact H
    isplitl [Hg]
    · iexact Hg
    isplitl [Hq0 Hq1 Hq2 Hq3 Hq4 Hq5 Hq6 Hq7 Hq8 Hq9 Hq10 Hq11]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      iexact Hq11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    iexact Hh11
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · iexists g; isplitr
    · ipureintro; exact hg
    iexact H4
  iexists _; isplitr
  · ipureintro; exact read_outL c _ _ _ _ _ _ f5
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The arguments are unchanged, every semaphore at zero, and the results hold what the pipeline's write-back leaves. -/
theorem run_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = (fun _ => 0)
      ∧ ∀ c : Dev nD, r.2.mem ((c.tc : Thread nD τ).loc main_v2_0) = (dats m 0 c).arrAt 4 cfg0.N
        ∧ r.2.mem ((c.tc : Thread nD τ).loc main_v2_1) = (dats m 0 c).arrAt 5 cfg0.N) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩,
    h.2, fun c => ⟨(h.1 c).1 4, (h.1 c).1 5⟩⟩) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨h.1, h.2.1⟩) (run_all m ρ)

end Cert.Proof.OfKernelIdeal

end
-- ==== Proof.Value.Tile.lean ====
/-
  The values over the extended reals: one element of the kernel's tile, and one of the reference's array, are the same formula.
-/
module

public import proofs.«01_k».proof.Proof.KernelIdeal.Launch
public import proofs.«01_k».proof.Proof.Gen.ReferenceIdeal.Frame
public import Idealize.ShloMosaic.Lib.Pointwise

@[expose] public section

set_option maxRecDepth 16384

noncomputable section

namespace Cert.Proof.Value

open Idealize.ShloMosaic Idealize.ShloMosaic.TcCoe
open Cert.Proof.OfKernelIdeal

/-- Row `r`, column `n` of the hidden layer: codes times weight, scaled by row and by column, plus the bias, through SiLU. -/
def hid (a : Cert.KernelIdeal.S992x8192.Idx → EReal) (q : Cert.KernelIdeal.S992x1.Idx → EReal) (w : Cert.KernelIdeal.S8192x3072.Idx → EReal)
    (s b : Cert.KernelIdeal.S1x3072.Idx → EReal) (r : Fin 992) (n : Fin 3072) : EReal :=
  ((∑ k : Fin 8192, a (ix2 r k) * w (ix2 k n)) * q (ix2 r 0) * s (ix2 0 n) + b (ix2 0 n))
    * FloatOps.logistic (F := Ideal) (φ := .f32) ((∑ k : Fin 8192, a (ix2 r k) * w (ix2 k n)) * q (ix2 r 0) * s (ix2 0 n) + b (ix2 0 n))

theorem tile_read (c : Dev Cert.KernelIdeal.nD) (XA : Buf (Elt Ideal) (wM.view.loc (c : Thread Cert.KernelIdeal.nD Cert.KernelIdeal.τ))) (t : Fin 12) (k : Fin 8192) (j : Fin 256) :
    View.read (Elt Ideal) (tile t).view XA (ix2 k j) = (XA : Cert.KernelIdeal.S8192x3072.Idx → EReal) (ix2 k ⟨256 * t.val + j.val, by have := t.isLt; omega⟩) := by
  show (XA : Cert.KernelIdeal.S8192x3072.Idx → EReal) _ = _
  refine congrArg (XA : Cert.KernelIdeal.S8192x3072.Idx → EReal) (funext fun a => Fin.ext ?_)
  fin_cases a
  · show 0 + 1 * k.val = k.val; omega
  · show 256 * t.val + 1 * j.val = 256 * t.val + j.val; omega

/-- The codes and the scales that the body copies, at an index. -/
theorem codesA_apply (x : Vec Ideal Cert.KernelIdeal.S992x8192 .fp8e4m3) (r : Fin 224) (k : Fin 8192) :
    codesA x (ix2 r k) = x (ix2 ⟨r.val, by omega⟩ k) := by
  pointwise [codesA, Cert.KernelIdeal.Gen.k0_pay5]
theorem codesB_apply (x : Vec Ideal Cert.KernelIdeal.S992x8192 .fp8e4m3) (r : Fin 768) (k : Fin 8192) :
    codesB x (ix2 r k) = x (ix2 ⟨224 + r.val, by omega⟩ k) := by
  pointwise [codesB, Cert.KernelIdeal.Gen.k0_pay6]
theorem scalesA_apply (x : Vec Ideal Cert.KernelIdeal.S992x1 .f32) (r : Fin 224) (k : Fin 128) :
    scalesA x (ix2 r k) = x (ix2 ⟨r.val, by omega⟩ 0) := by
  pointwise [scalesA, Cert.KernelIdeal.Gen.k0_pay7]
theorem scalesB_apply (x : Vec Ideal Cert.KernelIdeal.S992x1 .f32) (r : Fin 768) (k : Fin 128) :
    scalesB x (ix2 r k) = x (ix2 ⟨224 + r.val, by omega⟩ 0) := by
  pointwise [scalesB, Cert.KernelIdeal.Gen.k0_pay7]

/-- The second loop's tile: rows from 224 on. -/
theorem payT_apply (c : Dev Cert.KernelIdeal.nD) (x0 : Vec Ideal Cert.KernelIdeal.S992x8192 .fp8e4m3) (x1 : Vec Ideal Cert.KernelIdeal.S992x1 .f32)
    (x3 x4 : Vec Ideal Cert.KernelIdeal.S1x3072 .f32) (XA : Buf (Elt Ideal) (wM.view.loc (c : Thread Cert.KernelIdeal.nD Cert.KernelIdeal.τ))) (t : Fin 12) (r : Fin 768) (j : Fin 256) :
    payT c x0 x1 x3 x4 XA t (ix3 0 r j) = hid x0 x1 XA x3 x4 ⟨224 + r.val, by omega⟩ ⟨256 * t.val + j.val, by have := t.isLt; omega⟩ := by
  unfold hid
  pointwise [payT, hidT, tile_read, codesB_apply, scalesB_apply]
  simp only [dite_eq_ite, ite_self]

/-- The first loop's array: rows below 224. -/
theorem outA_apply (c : Dev Cert.KernelIdeal.nD) (x0 : Vec Ideal Cert.KernelIdeal.S992x8192 .fp8e4m3) (x1 : Vec Ideal Cert.KernelIdeal.S992x1 .f32)
    (x3 x4 : Vec Ideal Cert.KernelIdeal.S1x3072 .f32) (XA : Buf (Elt Ideal) (wM.view.loc (c : Thread Cert.KernelIdeal.nD Cert.KernelIdeal.τ))) (t : Fin 12) (r : Fin 224) (j : Fin 256) :
    hidA (codesA x0) (View.read (Elt Ideal) (tile t).view XA) (scalesA x1) (View.ld x3 (colR t)) (View.ld x4 (colR t)) (ix2 r j) = hid x0 x1 XA x3 x4 ⟨r.val, by omega⟩ ⟨256 * t.val + j.val, by have := t.isLt; omega⟩ := by
  unfold hid
  pointwise [hidA, tile_read, codesA_apply, scalesA_apply]
  simp only [dite_eq_ite, ite_self]

theorem ref_apply (x0 : Vec Ideal Cert.ReferenceIdeal.S992x8192 .fp8e4m3) (x1 : Vec Ideal Cert.ReferenceIdeal.S992x1 .f32) (x2 : Vec Ideal Cert.ReferenceIdeal.S8192x3072 .fp8e4m3)
    (x3 x4 : Vec Ideal Cert.ReferenceIdeal.S1x3072 .f32) (r : Fin 992) (n : Fin 3072) :
    Cert.ReferenceIdeal.Gen.k0_pay1 x0 x2 x1 x3 x4 (ix2 r n) = hid x0 x1 x2 x3 x4 r n := by
  unfold hid
  pointwise [Cert.ReferenceIdeal.Gen.k0_pay1]

end Cert.Proof.Value

end
-- ==== Proof.Value.Arrays.lean ====
/-
  The results as whole arrays: what the kernel's program and what the reference's program leave, both one function of the arguments.
-/
module

public import proofs.«01_k».proof.Proof.Value.Tile
public import Idealize.ShloMosaic.Lib.Pipeline.ValueKit
public import Idealize.ShloMosaic.Lib.Claim

@[expose] public section

set_option maxRecDepth 16384

noncomputable section

namespace Cert.Proof.Value

open Idealize.ShloMosaic Idealize.ShloMosaic.TcCoe Idealize.SL.Sem
open Idealize.ShloMosaic.Pipeline (Dat Cfg Window)
open Cert.Proof.OfKernelIdeal

/-- The first result: block `i`, row `r`, column `j` is the hidden layer's row `r`, column `256 i + j`. -/
def GA (a : Cert.KernelIdeal.S992x8192.Idx → EReal) (q : Cert.KernelIdeal.S992x1.Idx → EReal) (w : Cert.KernelIdeal.S8192x3072.Idx → EReal)
    (s b : Cert.KernelIdeal.S3072.Idx → EReal) : Cert.KernelIdeal.S12x224x256.Idx → EReal := fun y =>
  hid a q w (fun j => s (ix1 (j 1))) (fun j => b (ix1 (j 1))) ⟨(y 1).val, Nat.lt_trans (y 1).isLt (by decide : 224 < 992)⟩ ⟨256 * (y 0).val + (y 2).val, by
    have h0 : (y 0).val < 12 := (y 0).isLt
    have h2 : (y 2).val < 256 := (y 2).isLt
    omega⟩
/-- The second result: the same from row 224 on. -/
def GB (a : Cert.KernelIdeal.S992x8192.Idx → EReal) (q : Cert.KernelIdeal.S992x1.Idx → EReal) (w : Cert.KernelIdeal.S8192x3072.Idx → EReal)
    (s b : Cert.KernelIdeal.S3072.Idx → EReal) : Cert.KernelIdeal.S12x768x256.Idx → EReal := fun y =>
  hid a q w (fun j => s (ix1 (j 1))) (fun j => b (ix1 (j 1))) ⟨224 + (y 1).val, Nat.add_lt_add_left (y 1).isLt 224⟩ ⟨256 * (y 0).val + (y 2).val, by
    have h0 : (y 0).val < 12 := (y 0).isLt
    have h2 : (y 2).val < 256 := (y 2).isLt
    omega⟩

/-- A vector made a one-row matrix, at an index. -/
theorem row_cast (x : Cert.KernelIdeal.S3072.Idx → EReal) (h : Cert.KernelIdeal.S3072.ShapeCasts Cert.KernelIdeal.S1x3072) (j : Cert.KernelIdeal.S1x3072.Idx) :
    shapeCast Cert.KernelIdeal.S1x3072 x h j = x (ix1 (j 1)) := by
  rw [eq_ix2 j]
  pointwise

section Kernel
open Cert.KernelIdeal Cert.KernelIdeal.Gen
variable (m : (ℓ : Loc nD τ sig) → Buf (Elt Ideal) ℓ) (c : Dev nD)

theorem k_iblk0 (t : Fin cfg0.N) : (Cert.Proof.OfKernelIdeal.iblk m c 0 t : S992x8192.Idx → EReal) = m ((c : Thread nD τ).loc main_arg0) := by
  rw [← Cert.Proof.OfKernelIdeal.V_main_arg0 m c]
  refine funext fun j => congrArg (Cert.Proof.OfKernelIdeal.V m c main_arg0 : S992x8192.Idx → EReal) (funext fun a => Fin.ext ?_)
  fin_cases a
  · show win0_0.index t 0 * win0_0.size 0 + 1 * (j 0).val = (j 0).val; rw [show win0_0.index t 0 * win0_0.size 0 = 0 from Nat.zero_mul _]; omega
  · show win0_0.index t 1 * win0_0.size 1 + 1 * (j 1).val = (j 1).val; rw [show win0_0.index t 1 * win0_0.size 1 = 0 from Nat.zero_mul _]; omega
theorem k_iblk1 (t : Fin cfg0.N) : (Cert.Proof.OfKernelIdeal.iblk m c 1 t : S992x1.Idx → EReal) = m ((c : Thread nD τ).loc main_arg1) := by
  rw [← Cert.Proof.OfKernelIdeal.V_main_arg1 m c]
  refine funext fun j => congrArg (Cert.Proof.OfKernelIdeal.V m c main_arg1 : S992x1.Idx → EReal) (funext fun a => Fin.ext ?_)
  fin_cases a
  · show win0_1.index t 0 * win0_1.size 0 + 1 * (j 0).val = (j 0).val; rw [show win0_1.index t 0 * win0_1.size 0 = 0 from Nat.zero_mul _]; omega
  · show win0_1.index t 1 * win0_1.size 1 + 1 * (j 1).val = (j 1).val; rw [show win0_1.index t 1 * win0_1.size 1 = 0 from Nat.zero_mul _]; omega
theorem k_V0 : (Cert.Proof.OfKernelIdeal.V m c main_v0 : S1x3072.Idx → EReal) = fun j : S1x3072.Idx => (m ((c : Thread nD τ).loc main_arg3) : S3072.Idx → EReal) (ix1 (j 1)) := by
  unfold_abbrev_sides
  after_results
  refine funext fun (j : S1x3072.Idx) => ?_
  exact row_cast _ _ j
theorem k_V1 : (Cert.Proof.OfKernelIdeal.V m c main_v1 : S1x3072.Idx → EReal) = fun j : S1x3072.Idx => (m ((c : Thread nD τ).loc main_arg4) : S3072.Idx → EReal) (ix1 (j 1)) := by
  unfold_abbrev_sides
  after_results
  refine funext fun (j : S1x3072.Idx) => ?_
  exact row_cast _ _ j
theorem k_iblk2 (t : Fin cfg0.N) : (Cert.Proof.OfKernelIdeal.iblk m c 2 t : S1x3072.Idx → EReal) = fun j : S1x3072.Idx => (m ((c : Thread nD τ).loc main_arg3) : S3072.Idx → EReal) (ix1 (j 1)) := by
  rw [← k_V0 m c]
  refine funext fun j => congrArg (Cert.Proof.OfKernelIdeal.V m c main_v0 : S1x3072.Idx → EReal) (funext fun a => Fin.ext ?_)
  fin_cases a
  · show win0_2.index t 0 * win0_2.size 0 + 1 * (j 0).val = (j 0).val; rw [show win0_2.index t 0 * win0_2.size 0 = 0 from Nat.zero_mul _]; omega
  · show win0_2.index t 1 * win0_2.size 1 + 1 * (j 1).val = (j 1).val; rw [show win0_2.index t 1 * win0_2.size 1 = 0 from Nat.zero_mul _]; omega
theorem k_iblk3 (t : Fin cfg0.N) : (Cert.Proof.OfKernelIdeal.iblk m c 3 t : S1x3072.Idx → EReal) = fun j : S1x3072.Idx => (m ((c : Thread nD τ).loc main_arg4) : S3072.Idx → EReal) (ix1 (j 1)) := by
  rw [← k_V1 m c]
  refine funext fun j => congrArg (Cert.Proof.OfKernelIdeal.V m c main_v1 : S1x3072.Idx → EReal) (funext fun a => Fin.ext ?_)
  fin_cases a
  · show win0_3.index t 0 * win0_3.size 0 + 1 * (j 0).val = (j 0).val; rw [show win0_3.index t 0 * win0_3.size 0 = 0 from Nat.zero_mul _]; omega
  · show win0_3.index t 1 * win0_3.size 1 + 1 * (j 1).val = (j 1).val; rw [show win0_3.index t 1 * win0_3.size 1 = 0 from Nat.zero_mul _]; omega

theorem k_outA (t : Fin cfg0.N) : outA c (codesA (Cert.Proof.OfKernelIdeal.iblk m c 0 t)) (scalesA (Cert.Proof.OfKernelIdeal.iblk m c 1 t)) (Cert.Proof.OfKernelIdeal.iblk m c 2 t) (Cert.Proof.OfKernelIdeal.iblk m c 3 t) (Cert.Proof.OfKernelIdeal.V m c main_arg2)
    = GA (m ((c : Thread nD τ).loc main_arg0)) (m ((c : Thread nD τ).loc main_arg1)) (m ((c : Thread nD τ).loc main_arg2)) (m ((c : Thread nD τ).loc main_arg3)) (m ((c : Thread nD τ).loc main_arg4)) := by
  have e0 := k_iblk0 m c t
  have e1 := k_iblk1 m c t
  have e2 := k_iblk2 m c t
  have e3 := k_iblk3 m c t
  have e4 := Cert.Proof.OfKernelIdeal.V_main_arg2 m c
  funext y
  unfold outA GA
  refine (outA_apply c _ _ _ _ _ (y 0) (y 1) (y 2)).trans ?_
  erw [e0, e1, e2, e3, e4]

theorem k_outV (t : Fin cfg0.N) : outV c (Cert.Proof.OfKernelIdeal.iblk m c 0 t) (Cert.Proof.OfKernelIdeal.iblk m c 1 t) (Cert.Proof.OfKernelIdeal.iblk m c 2 t) (Cert.Proof.OfKernelIdeal.iblk m c 3 t) (Cert.Proof.OfKernelIdeal.V m c main_arg2)
    = GB (m ((c : Thread nD τ).loc main_arg0)) (m ((c : Thread nD τ).loc main_arg1)) (m ((c : Thread nD τ).loc main_arg2)) (m ((c : Thread nD τ).loc main_arg3)) (m ((c : Thread nD τ).loc main_arg4)) := by
  have e0 := k_iblk0 m c t
  have e1 := k_iblk1 m c t
  have e2 := k_iblk2 m c t
  have e3 := k_iblk3 m c t
  have e4 := Cert.Proof.OfKernelIdeal.V_main_arg2 m c
  funext y
  have hy : inner y = ix3 (0 : Fin 1) (y 1) (y 2) := funext fun a => by
    match a with
    | ⟨0, _⟩ => rfl
    | ⟨1, _⟩ => rfl
    | ⟨2, _⟩ => rfl
  unfold outV GB
  rw [hy]
  refine (payT_apply c _ _ _ _ _ (blkOf y) (y 1) (y 2)).trans ?_
  erw [e0, e1, e2, e3, e4]
  rfl

theorem k_final4 : (Cert.Proof.OfKernelIdeal.dats m 0 c).arrAt 4 cfg0.N
    = GA (m ((c : Thread nD τ).loc main_arg0)) (m ((c : Thread nD τ).loc main_arg1)) (m ((c : Thread nD τ).loc main_arg2)) (m ((c : Thread nD τ).loc main_arg3)) (m ((c : Thread nD τ).loc main_arg4)) := by
  refine (Cert.Proof.OfKernelIdeal.dats m 0 c).arrAt_eq_of_covers 4 _ (by decide +kernel) fun t hf y => ?_
  blk_simp
  rw [Cert.Proof.OfKernelIdeal.after0_4, k_outA]
  refine congrArg (GA _ _ _ _ _) ?_
  have e : ∀ t : Fin cfg0.N, win0_4.index t = ![0, 0, 0] := by decide +kernel
  blk_ext [e]

theorem k_final5 : (Cert.Proof.OfKernelIdeal.dats m 0 c).arrAt 5 cfg0.N
    = GB (m ((c : Thread nD τ).loc main_arg0)) (m ((c : Thread nD τ).loc main_arg1)) (m ((c : Thread nD τ).loc main_arg2)) (m ((c : Thread nD τ).loc main_arg3)) (m ((c : Thread nD τ).loc main_arg4)) := by
  refine (Cert.Proof.OfKernelIdeal.dats m 0 c).arrAt_eq_of_covers 5 _ (by decide +kernel) fun t hf y => ?_
  blk_simp
  rw [Cert.Proof.OfKernelIdeal.after0_5, k_outV]
  refine congrArg (GB _ _ _ _ _) ?_
  have e : ∀ t : Fin cfg0.N, win0_5.index t = ![0, 0, 0] := by decide +kernel
  blk_ext [e]

/-- The kernel's run, read: its results are the claimed arrays of its arguments, and they are unchanged. -/
theorem k_run (ρ : Dev nD → PrngReg) : θ_run (defs (F := Ideal)) (onTc (τ := τ) (main (F := Ideal))) ⟨m, fun _ => 0, ρ⟩ (fun r => ∀ c : Dev nD,
      r.2.mem ((c.tc : Thread nD τ).loc main_v2_0) = GA (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v2_1) = GB (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨(h.2.2 c).1.trans (k_final4 m c), (h.2.2 c).2.trans (k_final5 m c), h.1 c⟩) (Cert.Proof.OfKernelIdeal.run_all m ρ)
end Kernel

section Reference
open Cert.ReferenceIdeal Cert.ReferenceIdeal.Gen
variable (m : (ℓ : Loc nD τ sig) → Buf (Elt Ideal) ℓ) (c : Dev nD)

theorem r_tailA : (Pipeline.afterTail₀ cfgs (Cert.ReferenceIdeal.Gen.dats m) 0 (V0 m) [hostOps1] c main_v5 : S12x224x256.Idx → EReal)
    = fun y => ((Cert.ReferenceIdeal.Gen.dats m 0 c).arrAt 5 cfg0.N : S992x3072.Idx → EReal) (ix2 ⟨(y 1).val, Nat.lt_trans (y 1).isLt (by decide : 224 < 992)⟩ ⟨256 * (y 0).val + (y 2).val, by
    have h0 : (y 0).val < 12 := (y 0).isLt
    have h2 : (y 2).val < 256 := (y 2).isLt
    omega⟩) := by
  unfold Pipeline.afterTail₀
  simp only [List.flatten_cons, List.flatten_nil, List.append_nil]
  after_results
  have e : Pipeline.withArrays (cfgs 0).spec c (V0 m c) (fun w => (Cert.ReferenceIdeal.Gen.dats m 0 c).arrAt w (cfgs 0).N) (Proc.tc.devRef main_v2) = (Cert.ReferenceIdeal.Gen.dats m 0 c).arrAt 5 cfg0.N :=
    Pipeline.withArrays_arr (cfgs 0).spec launch0.win.arr_inj c _ _ 5
  rw [e]
  generalize (Cert.ReferenceIdeal.Gen.dats m 0 c).arrAt 5 cfg0.N = X
  funext y
  show extractStridedSlice S12x224x256 ![0, 0, 0] (transpose S12x992x256 [1, 0, 2] (shapeCast S992x12x256 (X : S992x3072.Idx → EReal) shapeCasts_S992x3072_S992x12x256) transposes_S992x12x256_S12x992x256_1_0_2) slices_S12x992x256_S12x224x256_0_0_0 y = _
  rw [eq_ix3 y]
  pointwise
  exact congrArg (X : S992x3072.Idx → EReal) (congrArg (ix2 _) (Fin.ext (by show (y 0).val * 256 + (y 2).val = 256 * (y 0).val + (y 2).val; omega)))

theorem r_tailB : (Pipeline.afterTail₀ cfgs (Cert.ReferenceIdeal.Gen.dats m) 0 (V0 m) [hostOps1] c main_v6 : S12x768x256.Idx → EReal)
    = fun y => ((Cert.ReferenceIdeal.Gen.dats m 0 c).arrAt 5 cfg0.N : S992x3072.Idx → EReal) (ix2 ⟨224 + (y 1).val, Nat.add_lt_add_left (y 1).isLt 224⟩ ⟨256 * (y 0).val + (y 2).val, by
    have h0 : (y 0).val < 12 := (y 0).isLt
    have h2 : (y 2).val < 256 := (y 2).isLt
    omega⟩) := by
  unfold Pipeline.afterTail₀
  simp only [List.flatten_cons, List.flatten_nil, List.append_nil]
  after_results
  have e : Pipeline.withArrays (cfgs 0).spec c (V0 m c) (fun w => (Cert.ReferenceIdeal.Gen.dats m 0 c).arrAt w (cfgs 0).N) (Proc.tc.devRef main_v2) = (Cert.ReferenceIdeal.Gen.dats m 0 c).arrAt 5 cfg0.N :=
    Pipeline.withArrays_arr (cfgs 0).spec launch0.win.arr_inj c _ _ 5
  rw [e]
  generalize (Cert.ReferenceIdeal.Gen.dats m 0 c).arrAt 5 cfg0.N = X
  funext y
  show extractStridedSlice S12x768x256 ![0, 224, 0] (transpose S12x992x256 [1, 0, 2] (shapeCast S992x12x256 (X : S992x3072.Idx → EReal) shapeCasts_S992x3072_S992x12x256) transposes_S992x12x256_S12x992x256_1_0_2) slices_S12x992x256_S12x768x256_0_224_0 y = _
  rw [eq_ix3 y]
  pointwise
  exact congrArg (X : S992x3072.Idx → EReal) (congrArg (ix2 _) (Fin.ext (by show (y 0).val * 256 + (y 2).val = 256 * (y 0).val + (y 2).val; omega)))

theorem r_iblk0 (t : Fin cfg0.N) : (Cert.ReferenceIdeal.Gen.iblk m c 0 t : S992x8192.Idx → EReal) = m ((c : Thread nD τ).loc main_arg0) := by
  rw [← Cert.ReferenceIdeal.Gen.V_main_arg0 m c]
  refine funext fun j => congrArg (Cert.ReferenceIdeal.Gen.V m c main_arg0 : S992x8192.Idx → EReal) (funext fun a => Fin.ext ?_)
  fin_cases a
  · show win0_0.index t 0 * win0_0.size 0 + 1 * (j 0).val = (j 0).val; rw [show win0_0.index t 0 * win0_0.size 0 = 0 from Nat.zero_mul _]; omega
  · show win0_0.index t 1 * win0_0.size 1 + 1 * (j 1).val = (j 1).val; rw [show win0_0.index t 1 * win0_0.size 1 = 0 from Nat.zero_mul _]; omega
theorem r_iblk1 (t : Fin cfg0.N) : (Cert.ReferenceIdeal.Gen.iblk m c 1 t : S992x1.Idx → EReal) = m ((c : Thread nD τ).loc main_arg1) := by
  rw [← Cert.ReferenceIdeal.Gen.V_main_arg1 m c]
  refine funext fun j => congrArg (Cert.ReferenceIdeal.Gen.V m c main_arg1 : S992x1.Idx → EReal) (funext fun a => Fin.ext ?_)
  fin_cases a
  · show win0_1.index t 0 * win0_1.size 0 + 1 * (j 0).val = (j 0).val; rw [show win0_1.index t 0 * win0_1.size 0 = 0 from Nat.zero_mul _]; omega
  · show win0_1.index t 1 * win0_1.size 1 + 1 * (j 1).val = (j 1).val; rw [show win0_1.index t 1 * win0_1.size 1 = 0 from Nat.zero_mul _]; omega
theorem r_iblk2 (t : Fin cfg0.N) : (Cert.ReferenceIdeal.Gen.iblk m c 2 t : S8192x3072.Idx → EReal) = m ((c : Thread nD τ).loc main_arg2) := by
  rw [← Cert.ReferenceIdeal.Gen.V_main_arg2 m c]
  refine funext fun j => congrArg (Cert.ReferenceIdeal.Gen.V m c main_arg2 : S8192x3072.Idx → EReal) (funext fun a => Fin.ext ?_)
  fin_cases a
  · show win0_2.index t 0 * win0_2.size 0 + 1 * (j 0).val = (j 0).val; rw [show win0_2.index t 0 * win0_2.size 0 = 0 from Nat.zero_mul _]; omega
  · show win0_2.index t 1 * win0_2.size 1 + 1 * (j 1).val = (j 1).val; rw [show win0_2.index t 1 * win0_2.size 1 = 0 from Nat.zero_mul _]; omega
theorem r_V0 : (V m c main_v0 : S1x3072.Idx → EReal) = fun j : S1x3072.Idx => (m ((c : Thread nD τ).loc main_arg3) : S3072.Idx → EReal) (ix1 (j 1)) := by
  show StableHlo.after hostOps0 (fun b => m (c, b)) (Proc.devRef .tc main_v0) = _
  after_results
  refine funext fun (j : S1x3072.Idx) => ?_
  exact row_cast _ _ j
theorem r_V1 : (V m c main_v1 : S1x3072.Idx → EReal) = fun j : S1x3072.Idx => (m ((c : Thread nD τ).loc main_arg4) : S3072.Idx → EReal) (ix1 (j 1)) := by
  show StableHlo.after hostOps0 (fun b => m (c, b)) (Proc.devRef .tc main_v1) = _
  after_results
  refine funext fun (j : S1x3072.Idx) => ?_
  exact row_cast _ _ j
theorem r_iblk3 (t : Fin cfg0.N) : (Cert.ReferenceIdeal.Gen.iblk m c 3 t : S1x3072.Idx → EReal) = fun j : S1x3072.Idx => (m ((c : Thread nD τ).loc main_arg3) : S3072.Idx → EReal) (ix1 (j 1)) := by
  rw [← r_V0 m c]
  refine funext fun j => congrArg (Cert.ReferenceIdeal.Gen.V m c main_v0 : S1x3072.Idx → EReal) (funext fun a => Fin.ext ?_)
  fin_cases a
  · show win0_3.index t 0 * win0_3.size 0 + 1 * (j 0).val = (j 0).val; rw [show win0_3.index t 0 * win0_3.size 0 = 0 from Nat.zero_mul _]; omega
  · show win0_3.index t 1 * win0_3.size 1 + 1 * (j 1).val = (j 1).val; rw [show win0_3.index t 1 * win0_3.size 1 = 0 from Nat.zero_mul _]; omega
theorem r_iblk4 (t : Fin cfg0.N) : (Cert.ReferenceIdeal.Gen.iblk m c 4 t : S1x3072.Idx → EReal) = fun j : S1x3072.Idx => (m ((c : Thread nD τ).loc main_arg4) : S3072.Idx → EReal) (ix1 (j 1)) := by
  rw [← r_V1 m c]
  refine funext fun j => congrArg (Cert.ReferenceIdeal.Gen.V m c main_v1 : S1x3072.Idx → EReal) (funext fun a => Fin.ext ?_)
  fin_cases a
  · show win0_4.index t 0 * win0_4.size 0 + 1 * (j 0).val = (j 0).val; rw [show win0_4.index t 0 * win0_4.size 0 = 0 from Nat.zero_mul _]; omega
  · show win0_4.index t 1 * win0_4.size 1 + 1 * (j 1).val = (j 1).val; rw [show win0_4.index t 1 * win0_4.size 1 = 0 from Nat.zero_mul _]; omega

/-- What the reference's body leaves in its output block, at an index. -/
theorem r_out (x0 : S992x8192.Idx → EReal) (x1 : S992x1.Idx → EReal) (x2 : S8192x3072.Idx → EReal) (x3 x4 : S1x3072.Idx → EReal) (r : Fin 992) (n : Fin 3072) :
    out0_5 (F := Ideal) x0 x1 x2 x3 x4 (ix2 r n) = hid x0 x1 x2 x3 x4 r n := by
  refine Eq.trans ?_ (ref_apply x0 x1 x2 x3 x4 r n)
  unfold out0_5
  frame_out

theorem r_outm (t : Fin cfg0.N) : (out0_5 (Cert.ReferenceIdeal.Gen.iblk m c 0 t) (Cert.ReferenceIdeal.Gen.iblk m c 1 t) (Cert.ReferenceIdeal.Gen.iblk m c 2 t) (Cert.ReferenceIdeal.Gen.iblk m c 3 t) (Cert.ReferenceIdeal.Gen.iblk m c 4 t) : S992x3072.Idx → EReal)
    = fun j : S992x3072.Idx => hid (m ((c : Thread nD τ).loc main_arg0)) (m ((c : Thread nD τ).loc main_arg1)) (m ((c : Thread nD τ).loc main_arg2)) (fun j => (m ((c : Thread nD τ).loc main_arg3) : S3072.Idx → EReal) (ix1 (j 1))) (fun j => (m ((c : Thread nD τ).loc main_arg4) : S3072.Idx → EReal) (ix1 (j 1))) (j 0) (j 1) := by
  have e0 := r_iblk0 m c t
  have e1 := r_iblk1 m c t
  have e2 := r_iblk2 m c t
  have e3 := r_iblk3 m c t
  have e4 := r_iblk4 m c t
  refine funext fun (j : S992x3072.Idx) => ?_
  rw [eq_ix2 j]
  refine (r_out _ _ _ _ _ (j 0) (j 1)).trans ?_
  erw [e0, e1, e2, e3, e4]
  rfl

theorem r_final : (Cert.ReferenceIdeal.Gen.dats m 0 c).arrAt 5 cfg0.N
    = fun j : S992x3072.Idx => hid (m ((c : Thread nD τ).loc main_arg0)) (m ((c : Thread nD τ).loc main_arg1)) (m ((c : Thread nD τ).loc main_arg2)) (fun j => (m ((c : Thread nD τ).loc main_arg3) : S3072.Idx → EReal) (ix1 (j 1))) (fun j => (m ((c : Thread nD τ).loc main_arg4) : S3072.Idx → EReal) (ix1 (j 1))) (j 0) (j 1) := by
  refine (Cert.ReferenceIdeal.Gen.dats m 0 c).arrAt_eq_of_covers 5 _ (by decide +kernel) fun t hf y => ?_
  blk_simp
  rw [Cert.ReferenceIdeal.Gen.after0_5]
  rw [r_outm]
  have e : ∀ t : Fin cfg0.N, win0_5.index t = ![0, 0] := by decide +kernel
  have q : (win0_5.blk t).view.emb y = y := by blk_ext [e]
  exact congrArg (fun j : S992x3072.Idx => hid (m ((c : Thread nD τ).loc main_arg0)) (m ((c : Thread nD τ).loc main_arg1)) (m ((c : Thread nD τ).loc main_arg2)) (fun j => (m ((c : Thread nD τ).loc main_arg3) : S3072.Idx → EReal) (ix1 (j 1))) (fun j => (m ((c : Thread nD τ).loc main_arg4) : S3072.Idx → EReal) (ix1 (j 1))) (j 0) (j 1)) q.symm

/-- The reference's first result: the claimed array of its own arguments. -/
theorem r_resultA : (Pipeline.afterTail₀ cfgs (Cert.ReferenceIdeal.Gen.dats m) 0 (V0 m) [hostOps1] c main_v5 : S12x224x256.Idx → EReal)
    = GA (m ((c : Thread nD τ).loc main_arg0)) (m ((c : Thread nD τ).loc main_arg1)) (m ((c : Thread nD τ).loc main_arg2)) (m ((c : Thread nD τ).loc main_arg3)) (m ((c : Thread nD τ).loc main_arg4)) := by
  rw [r_tailA, r_final]
  rfl

/-- The reference's second result: the claimed array of its own arguments. -/
theorem r_resultB : (Pipeline.afterTail₀ cfgs (Cert.ReferenceIdeal.Gen.dats m) 0 (V0 m) [hostOps1] c main_v6 : S12x768x256.Idx → EReal)
    = GB (m ((c : Thread nD τ).loc main_arg0)) (m ((c : Thread nD τ).loc main_arg1)) (m ((c : Thread nD τ).loc main_arg2)) (m ((c : Thread nD τ).loc main_arg3)) (m ((c : Thread nD τ).loc main_arg4)) := by
  rw [r_tailB, r_final]
  rfl

/-- The reference's run, read: its results are the claimed arrays of its arguments, and they are unchanged. -/
theorem r_run (ρ : Dev nD → PrngReg) : θ_run (defs (F := Ideal)) (onTc (τ := τ) (main (F := Ideal))) ⟨m, fun _ => 0, ρ⟩ (fun r => ∀ c : Dev nD,
      r.2.mem ((c.tc : Thread nD τ).loc main_v5) = GA (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v6) = GB (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨((h.1 c).2 main_v5 (Pipeline.mem_restRefs_of main_v5 (by decide) (by decide))).trans (r_resultA m c), ((h.1 c).2 main_v6 (Pipeline.mem_restRefs_of main_v6 (by decide) (by decide))).trans (r_resultB m c), h.2 c⟩)
    (θ_run_and (Cert.ReferenceIdeal.Gen.run_main m ρ) (Cert.ReferenceIdeal.Gen.unchanged m ρ))
end Reference

end Cert.Proof.Value

end
-- ==== Proof.Three.Quant.lean ====
/-
  The hidden layer's quantiser: the values row by row, a row's greatest magnitude, its scale and its codes.
-/
module

public import proofs.«01_k».proof.Proof.Two.Scale
public import proofs.«01_k».proof.Proof.Gen.Kernel3Ideal.Skeleton

@[expose] public section

set_option maxRecDepth 16384

noncomputable section

namespace Cert.Proof.Three
open Idealize.ShloMosaic Idealize.ShloMosaic.TcCoe Idealize.SL.Sem
open Cert.Proof.Two (kScale rScale scales mul_div_pw kernel_power reference_power expo pw ofBits_bot ofBits_top ofBits_two ofBits_least ofBits_most)

/-- A value's magnitude. -/
def mag (x : EReal) : EReal := FloatOps.absf (F := Ideal) (φ := FTy.f32) x

theorem mag_nonneg (x : EReal) : 0 ≤ mag x := by
  show 0 ≤ max x (-x)
  rcases le_total 0 x with h | h
  · exact le_max_of_le_left h
  · exact le_max_of_le_right (by rw [EReal.neg_nonneg]; exact h)

/-- The greatest magnitude of a row, over 448. -/
def top (t : Fin 3072 → EReal) : EReal :=
  Finset.fold max (⊥ : EReal) (fun x => mag (t x)) Finset.univ * Ideal.ofBits FTy.f32 991054117#32

/-- The scale of a row. -/
def qscale (t : Fin 3072 → EReal) : EReal := kScale (top t)

/-- The code of element `n` of a row. -/
def qcode (t : Fin 3072 → EReal) (n : Fin 3072) : EReal :=
  min (Ideal.ofBits FTy.f32 1138753536#32) (max (Ideal.ofBits FTy.f32 3286237184#32) (Ideal.div (t n) (qscale t)))

/-- Lane `l`'s greatest magnitude over a row's first `n` tiles of 256. -/
def lane (t : Fin 3072 → EReal) (l : Fin 128) : ℕ → EReal
  | 0 => 0
  | n + 1 => max (lane t l n) (max (mag (t ⟨(256 * n + l.val) % 3072, Nat.mod_lt _ (by decide)⟩)) (mag (t ⟨(256 * n + (128 + l.val)) % 3072, Nat.mod_lt _ (by decide)⟩)))

theorem lane_le (t : Fin 3072 → EReal) (l : Fin 128) (v : EReal) (hv : ∀ x, mag (t x) ≤ v) : ∀ n, lane t l n ≤ v
  | 0 => (mag_nonneg (t 0)).trans (hv 0)
  | n + 1 => max_le (lane_le t l v hv n) (max_le (hv _) (hv _))

theorem lane_mono (t : Fin 3072 → EReal) (l : Fin 128) {n k : ℕ} (h : n ≤ k) : lane t l n ≤ lane t l k := by
  induction h with
  | refl => exact le_rfl
  | step _ ih => exact ih.trans (le_max_left _ _)

theorem le_lane (t : Fin 3072 → EReal) (x : Fin 3072) : mag (t x) ≤ lane t ⟨x.val % 128, Nat.mod_lt _ (by decide)⟩ 12 := by
  have hx := x.isLt
  refine le_trans ?_ (lane_mono t _ (show x.val / 256 + 1 ≤ 12 by omega))
  show mag (t x) ≤ max _ (max (mag (t ⟨(256 * (x.val / 256) + x.val % 128) % 3072, _⟩)) (mag (t ⟨(256 * (x.val / 256) + (128 + x.val % 128)) % 3072, _⟩)))
  rcases Nat.lt_or_ge (x.val % 256) 128 with h | h
  · have e : (⟨(256 * (x.val / 256) + x.val % 128) % 3072, Nat.mod_lt _ (by decide)⟩ : Fin 3072) = x := Fin.ext (by show (256 * (x.val / 256) + x.val % 128) % 3072 = x.val; omega)
    rw [e]; exact (le_max_left _ _).trans (le_max_right _ _)
  · have e : (⟨(256 * (x.val / 256) + (128 + x.val % 128)) % 3072, Nat.mod_lt _ (by decide)⟩ : Fin 3072) = x := Fin.ext (by show (256 * (x.val / 256) + (128 + x.val % 128)) % 3072 = x.val; omega)
    rw [e]; exact (le_max_right _ _).trans (le_max_right _ _)

/-- The greatest of the lanes is the greatest of the row. -/
theorem fold_lane (t : Fin 3072 → EReal) :
    Finset.fold max (⊥ : EReal) (fun l : Fin 128 => lane t l 12) Finset.univ = Finset.fold max (⊥ : EReal) (fun x => mag (t x)) Finset.univ := by
  refine le_antisymm ?_ ?_
  · exact (Finset.fold_max_le _).mpr ⟨bot_le, fun l _ => lane_le t l _ (fun x => (Finset.le_fold_max _).mpr (.inr ⟨x, Finset.mem_univ _, le_rfl⟩)) 12⟩
  · exact (Finset.fold_max_le _).mpr ⟨bot_le, fun x _ => (Finset.le_fold_max _).mpr (.inr ⟨_, Finset.mem_univ _, le_lane t x⟩)⟩

section Kernel
open Cert.Kernel3Ideal Cert.Kernel3Ideal.Gen

/-- Row `r`, column `n` of the hidden values: the first 224 rows and the rest come apart, by tile of 256 columns. -/
def hid (a : S12x224x256.Idx → EReal) (b : S12x768x256.Idx → EReal) (r : Fin 992) (n : Fin 3072) : EReal :=
  if h : r.val < 224 then a (ix3 ⟨n.val / 256, by omega⟩ ⟨r.val, h⟩ ⟨n.val % 256, Nat.mod_lt _ (by decide)⟩)
  else b (ix3 ⟨n.val / 256, by omega⟩ ⟨r.val - 224, by omega⟩ ⟨n.val % 256, Nat.mod_lt _ (by decide)⟩)

/-- The codes of the first 224 rows. -/
def CA (a : S12x224x256.Idx → EReal) (b : S12x768x256.Idx → EReal) : S224x3072.Idx → EReal := fun y =>
  qcode (hid a b ⟨(y 0).val, by have h : (y 0).val < 224 := (y 0).isLt; omega⟩) (y 1)

/-- The codes of the rest of the rows. -/
def CB (a : S12x224x256.Idx → EReal) (b : S12x768x256.Idx → EReal) : S768x3072.Idx → EReal := fun y =>
  qcode (hid a b ⟨224 + (y 0).val, by have h : (y 0).val < 768 := (y 0).isLt; omega⟩) (y 1)

/-- The scales of all rows, the same in every lane. -/
def CS (a : S12x224x256.Idx → EReal) (b : S12x768x256.Idx → EReal) : S992x128.Idx → EReal := fun y => qscale (hid a b (y 0))

theorem power (l : Fin 256) : k0_pay36 (F := Ideal) (ix2 0 l) = pw (expo l.val) := kernel_power l

/-- The scale of row `r` of a block whose lanes' maxima are `h`. -/
theorem scale_apply (h : FVec Ideal S32x128 .f32) (r : Fin 32) (t : Fin 3072 → EReal) (ht : ∀ l, h (ix2 r l) = lane t l 12) :
    k0_pay5 (F := Ideal) k0_pay36 h (ix2 r 0) = qscale t := by
  unfold qscale kScale top
  rw [← fold_lane]
  pointwise [k0_pay5]
  simp only [power, ofBits_two, ht]
  rw [ofBits_bot]

theorem spread_apply (h : FVec Ideal S32x128 .f32) (r : Fin 32) (l : Fin 128) (t : Fin 3072 → EReal) (ht : ∀ l, h (ix2 r l) = lane t l 12) :
    k0_pay6 (F := Ideal) k0_pay36 h (ix2 r l) = qscale t := by
  have e := scale_apply h r t ht
  pointwise [k0_pay6, e]

theorem code_apply (h : FVec Ideal S32x128 .f32) (v : FVec Ideal S1x32x128 .f32) (r : Fin 32) (l : Fin 128) (t : Fin 3072 → EReal) (ht : ∀ l, h (ix2 r l) = lane t l 12)
    (n : Fin 3072) (hv : v (ix3 0 r l) = t n) :
    k0_pay4 (F := Ideal) (k0_pay7 k0_pay36 h) v (ix2 r l) = qcode t n := by
  have e := scale_apply h r t ht
  obtain ⟨_, n', hn⟩ := scales (top t)
  pointwise [k0_pay4, k0_pay7, e]
  unfold qcode
  rw [hv]
  unfold qscale
  rw [hn, mul_div_pw]
end Kernel

end Cert.Proof.Three
-- ==== Proof.Three.Pieces.lean ====
/-
  What the hidden layer's quantiser stores, as lists of pieces: the loops' trips and the straight-line blocks.
-/
module

public import proofs.«01_k».proof.Proof.Three.Quant
public import proofs.«01_k».proof.Proof.Gen.Kernel3Ideal.Frame
public import Idealize.ShloMosaic.Lib.Pipeline.ValueKit
public import Idealize.ShloMosaic.Lib.Pipeline.CanonAppend

@[expose] public section

set_option maxRecDepth 16384

noncomputable section

namespace Cert.Proof.Three
open Idealize.ShloMosaic Idealize.ShloMosaic.TcCoe Idealize.SL.Sem
open Cert.Kernel3Ideal Cert.Kernel3Ideal.Gen

section Offsets
/-- Where trip `k` of the second loop stores its 24 tiles of codes. -/
def offS : Fin 24 → Fin k0_t2_loop.trips → Fin 2 → ℕ :=
  ![k0_off4, k0_off6, k0_off8, k0_off10, k0_off12, k0_off14, k0_off16, k0_off18, k0_off20, k0_off22, k0_off24, k0_off26, k0_off28, k0_off30, k0_off32, k0_off34, k0_off36, k0_off38, k0_off40, k0_off42, k0_off44, k0_off46, k0_off48, k0_off50]

/-- Where it loads their values. -/
def offL : Fin 24 → Fin k0_t2_loop.trips → Fin 3 → ℕ :=
  ![k0_off3, k0_off5, k0_off7, k0_off9, k0_off11, k0_off13, k0_off15, k0_off17, k0_off19, k0_off21, k0_off23, k0_off25, k0_off27, k0_off29, k0_off31, k0_off33, k0_off35, k0_off37, k0_off39, k0_off41, k0_off43, k0_off45, k0_off47, k0_off49]

theorem offS_eq : ∀ (c : Fin 24) (k : Fin k0_t2_loop.trips), offS c k = ![32 * k.val, 128 * c.val] := by decide +kernel
theorem offL_eq : ∀ (c : Fin 24) (k : Fin k0_t2_loop.trips), offL c k = ![c.val / 2, 32 * k.val, 128 * (c.val % 2)] := by decide +kernel
theorem off2_eq : ∀ k : Fin k0_t2_loop.trips, k0_off2 k = ![224 + 32 * k.val, 0] := by decide +kernel
theorem off1_eq : ∀ k : Fin k0_t1_loop.trips, k0_off1 k = ![k.val, 0, 0] := by decide +kernel

theorem trips2 (k : Fin k0_t2_loop.trips) : k.val < 24 := k.isLt
theorem trips1 (k : Fin k0_t1_loop.trips) : k.val < 12 := k.isLt

theorem offS_inb (c : Fin 24) (k : Fin k0_t2_loop.trips) : ∀ a, offS c k a + S32x128.size a ≤ S768x3072.size a := by
  have := c.isLt; have := trips2 k; rw [offS_eq]; intro a; fin_cases a <;> simp <;> omega
theorem offL_inb (c : Fin 24) (k : Fin k0_t2_loop.trips) : ∀ a, offL c k a + S1x32x128.size a ≤ S12x768x256.size a := by
  have := c.isLt; have := trips2 k; rw [offL_eq]; intro a; fin_cases a <;> simp <;> omega

theorem inbA (q : Fin 168) : ∀ a, (![32 * (q.val / 24), 128 * (q.val % 24)] : Fin 2 → ℕ) a + S32x128.size a ≤ S224x3072.size a := by
  have := q.isLt; intro a; fin_cases a <;> simp <;> omega
theorem inbL (q : Fin 168) : ∀ a, (![q.val % 24 / 2, 32 * (q.val / 24), 128 * (q.val % 24 % 2)] : Fin 3 → ℕ) a + S1x32x128.size a ≤ S12x224x256.size a := by
  have := q.isLt; intro a; fin_cases a <;> simp <;> omega
theorem inbM (i : Fin 7) : ∀ a, (![32 * i.val, 0] : Fin 2 → ℕ) a + S32x128.size a ≤ S992x128.size a := by
  have := i.isLt; intro a; fin_cases a <;> simp <;> omega
end Offsets

variable {F : FTy → Type} [FloatOps F]
variable (c : Dev nD) (arg0 : Memref sig .tc .vmem S12x224x256 .f32) (harg0 : arg0.IsWhole) (arg1 : Memref sig .tc .vmem S12x768x256 .f32) (harg1 : arg1.IsWhole) (arg2 : Memref sig .tc .vmem S224x3072 .fp8e4m3) (harg2 : arg2.IsWhole) (arg3 : Memref sig .tc .vmem S768x3072 .fp8e4m3) (harg3 : arg3.IsWhole) (arg4 : Memref sig .tc .vmem S992x128 .f32) (harg4 : arg4.IsWhole) (arg5 : Memref sig .tc .vmem S992x128 .f32) (harg5 : arg5.IsWhole)

/-- The second loop's trip: its 24 tiles of codes. -/
theorem trip2_codes (𝒱 : Variants) (bd : Option 𝒱.V) (v7 : FVec F S1x256 .f32) (X1 : BufTy.Contents (Elt F) arg1.view.ty) (X5 : BufTy.Contents (Elt F) arg5.view.ty) (k : Fin k0_t2_loop.trips) :
    (tripL_k0_t2 𝒱 c bd arg0 harg0 arg1 harg1 arg2 harg2 arg3 harg3 arg4 harg4 arg5 harg5 v7 X1 X5 k).1
      = List.ofFn fun j : Fin 24 => (⟨Rect.unit (s := S768x3072) (offS j.rev k) S32x128.size (offS_inb j.rev k),
          k0_pay4 (k0_pay7 v7 (View.readAt (Elt F) arg5.view (Rect.unit (s := S992x128) (k0_off2 k) S32x128.size (k0_off2_inb k)).toLoadRect X5))
            (View.readAt (Elt F) arg1.view (Rect.unit (s := S12x768x256) (offL j.rev k) S1x32x128.size (offL_inb j.rev k)).toLoadRect X1)⟩ : View.Piece (Elt F) S768x3072 .fp8e4m3) := by
  unfold tripL_k0_t2 trip_k0_t2
  rfl

/-- The second loop's trip: its scales. -/
theorem trip2_scales (𝒱 : Variants) (bd : Option 𝒱.V) (v7 : FVec F S1x256 .f32) (X1 : BufTy.Contents (Elt F) arg1.view.ty) (X5 : BufTy.Contents (Elt F) arg5.view.ty) (k : Fin k0_t2_loop.trips) :
    (tripL_k0_t2 𝒱 c bd arg0 harg0 arg1 harg1 arg2 harg2 arg3 harg3 arg4 harg4 arg5 harg5 v7 X1 X5 k).2
      = [⟨Rect.unit (s := S992x128) (k0_off2 k) S32x128.size (k0_off2_inb k),
          k0_pay6 v7 (View.readAt (Elt F) arg5.view (Rect.unit (s := S992x128) (k0_off2 k) S32x128.size (k0_off2_inb k)).toLoadRect X5)⟩] := by
  unfold tripL_k0_t2 trip_k0_t2
  rfl

/-- The first loop's trip. -/
theorem trip1 (𝒱 : Variants) (bd : Option 𝒱.V) (X0 : BufTy.Contents (Elt F) arg0.view.ty) (k : Fin k0_t1_loop.trips) (f : BufTy.Contents (Elt F) arg5.view.ty) :
    tripL_k0_t1 𝒱 c bd arg0 harg0 arg1 harg1 arg2 harg2 arg3 harg3 arg4 harg4 arg5 harg5 X0 k f
      = [⟨Rect.unit (s := S992x128) ![0, 0] S224x128.size inb_S992x128_S224x128_0_0,
          k0_pay40 (View.readAt (Elt F) arg5.view (Rect.unit (s := S992x128) ![0, 0] S224x128.size inb_S992x128_S224x128_0_0).toLoadRect f)
            (View.readAt (Elt F) arg0.view (Rect.unit (s := S12x224x256) (k0_off1 k) S1x224x256.size (k0_off1_inb k)).toLoadRect X0)⟩] := by
  unfold tripL_k0_t1 trip_k0_t1
  rfl

variable (x0 : Vec F S12x224x256 .f32) (x1 : Vec F S12x768x256 .f32)

/-- The maxima's pieces after the first loop. -/
def loop1 : List (View.Piece (Elt F) S992x128 .f32) :=
  pb_k0_t1 Variants.none c none arg0 harg0 arg1 harg1 arg2 harg2 arg3 harg3 arg4 harg4 arg5 harg5 (harg0.unread x0)
    (arg5.view.writes (Elt F) arg5.view.junk kernelRun0_A.sl.HS0_1) 12 ++ kernelRun0_A.sl.HS0_1

theorem inbB (n : Fin 12) : ∀ a, (![n.val, 0, 0] : Fin 3 → ℕ) a + S1x768x256.size a ≤ S12x768x256.size a := by
  have := n.isLt; intro a; fin_cases a <;> simp <;> omega

/-- The maxima's pieces after the first `n` steps over the rest of the rows. -/
def steps : (n : ℕ) → n ≤ 12 → List (View.Piece (Elt F) S992x128 .f32)
  | 0, _ => loop1 c arg0 harg0 arg1 harg1 arg2 harg2 arg3 harg3 arg4 harg4 arg5 harg5 x0
  | n + 1, h => ⟨Rect.unit (s := S992x128) ![224, 0] S768x128.size inb_S992x128_S768x128_224_0,
      k0_pay3 (arg5.view.readCov (steps n (by omega)) (Rect.unit (s := S992x128) ![224, 0] S768x128.size inb_S992x128_S768x128_224_0).toLoadRect)
        (View.readAt (Elt F) arg1.view (Rect.unit (s := S12x768x256) ![n, 0, 0] S1x768x256.size (inbB ⟨n, h⟩)).toLoadRect (harg1.unread x1))⟩ :: steps n (by omega)

/-- The maxima of block `i` of the first rows, as it loads them. -/
def maxA (i : Fin 7) : FVec F S32x128 .f32 :=
  arg5.view.readCov (loop1 c arg0 harg0 arg1 harg1 arg2 harg2 arg3 harg3 arg4 harg4 arg5 harg5 x0) (Rect.unit (s := S992x128) ![32 * i.val, 0] S32x128.size (inbM i)).toLoadRect

theorem pieces2 : (kernelRun0_A c arg0 harg0 arg1 harg1 arg2 harg2 arg3 harg3 arg4 harg4 arg5 harg5 x0 x1).1
    = List.ofFn fun q : Fin 168 => (⟨Rect.unit (s := S224x3072) ![32 * (q.rev.val / 24), 128 * (q.rev.val % 24)] S32x128.size (inbA q.rev),
        k0_pay4 (k0_pay7 k0_pay36 (maxA c arg0 harg0 arg1 harg1 arg2 harg2 arg3 harg3 arg4 harg4 arg5 harg5 x0 ⟨q.rev.val / 24, by have := q.rev.isLt; omega⟩))
          (View.readAt (Elt F) arg0.view (Rect.unit (s := S12x224x256) ![q.rev.val % 24 / 2, 32 * (q.rev.val / 24), 128 * (q.rev.val % 24 % 2)] S1x32x128.size (inbL q.rev)).toLoadRect (harg0.unread x0))⟩ : View.Piece (Elt F) S224x3072 .fp8e4m3) := by
  rfl

/-- The second loop's pieces. -/
def loop2 : List (View.Piece (Elt F) S768x3072 .fp8e4m3) × List (View.Piece (Elt F) S992x128 .f32) :=
  pb_k0_t2 Variants.none c none arg0 harg0 arg1 harg1 arg2 harg2 arg3 harg3 arg4 harg4 arg5 harg5 k0_pay36 (harg1.unread x1)
    (arg5.view.writes (Elt F) arg5.view.junk (steps c arg0 harg0 arg1 harg1 arg2 harg2 arg3 harg3 arg4 harg4 arg5 harg5 x0 x1 12 le_rfl)) 24

theorem pieces3 : (kernelRun0_A c arg0 harg0 arg1 harg1 arg2 harg2 arg3 harg3 arg4 harg4 arg5 harg5 x0 x1).2.1
    = (loop2 c arg0 harg0 arg1 harg1 arg2 harg2 arg3 harg3 arg4 harg4 arg5 harg5 x0 x1).1 ++ kernelRun0_A.sl.H3_1 := by
  rfl

theorem pieces4 : (kernelRun0_A c arg0 harg0 arg1 harg1 arg2 harg2 arg3 harg3 arg4 harg4 arg5 harg5 x0 x1).2.2.1
    = (loop2 c arg0 harg0 arg1 harg1 arg2 harg2 arg3 harg3 arg4 harg4 arg5 harg5 x0 x1).2 ++
      ((List.ofFn fun i : Fin 7 => (⟨Rect.unit (s := S992x128) ![32 * i.rev.val, 0] S32x128.size (inbM i.rev),
        k0_pay6 k0_pay36 (maxA c arg0 harg0 arg1 harg1 arg2 harg2 arg3 harg3 arg4 harg4 arg5 harg5 x0 i.rev)⟩ : View.Piece (Elt F) S992x128 .f32)) ++ kernelRun0_A.sl.H4_1) := by
  rfl

end Cert.Proof.Three
end
-- ==== Proof.Three.Maxima.lean ====
/-
  The lanes' greatest magnitudes as the hidden layer's quantiser keeps them, and what its stores hold.
-/
module

public import proofs.«01_k».proof.Proof.Three.Pieces

@[expose] public section

set_option maxRecDepth 16384

noncomputable section

namespace Cert.Proof.Three
open Idealize.ShloMosaic Idealize.ShloMosaic.TcCoe Idealize.SL.Sem
open Cert.Kernel3Ideal Cert.Kernel3Ideal.Gen

section Loads
variable {S : Shape} {e : EltTy} (m : Memref sig .tc .vmem S e)

/-- A load of an argument, at an index. -/
theorem load_arg (h : m.IsWhole) (x : Vec Ideal S e) {off size : Fin S.rank → ℕ} {inb : ∀ a, off a + size a ≤ S.size a}
    (j : (Rect.unit (s := S) off size inb).shape.Idx) (i : S.Idx) {off' : Fin S.rank → ℕ} (ho : off = off') (hi : ∀ a, (i a).val = off' a + (j a).val) :
    View.readAt (Elt Ideal) m.view (Rect.unit (s := S) off size inb).toLoadRect (h.unread x) j = x i := by
  subst ho
  rw [View.readAt_apply, h.read_unread]
  exact View.ld_unit_apply_of x off size inb j i hi

/-- A load of what stores left, at an index. -/
theorem load_kept (L : List (View.Piece (Elt Ideal) S e)) {off size : Fin S.rank → ℕ} {inb : ∀ a, off a + size a ≤ S.size a}
    (j : (Rect.unit (s := S) off size inb).shape.Idx) (i : S.Idx) {off' : Fin S.rank → ℕ} (ho : off = off') (hi : ∀ a, (i a).val = off' a + (j a).val) :
    View.readAt (Elt Ideal) m.view (Rect.unit (s := S) off size inb).toLoadRect (m.view.writes (Elt Ideal) m.view.junk L) j = View.canon L i := by
  subst ho
  rw [View.readAt_writes_junk_eq_canon]
  exact View.ld_unit_apply_of (View.canon L) off size inb j i hi

theorem load_cov (L : List (View.Piece (Elt Ideal) S e)) {off size : Fin S.rank → ℕ} {inb : ∀ a, off a + size a ≤ S.size a}
    (j : (Rect.unit (s := S) off size inb).shape.Idx) (i : S.Idx) (hi : ∀ a, (i a).val = off a + (j a).val) :
    m.view.readCov L (Rect.unit (s := S) off size inb).toLoadRect j = View.canon L i := by
  rw [View.readCov_eq_canon']
  exact View.ld_unit_apply_of (View.canon L) off size inb j i hi

/-- The last store, where it stored. -/
theorem canon_in {off size : Fin S.rank → ℕ} {inb : ∀ a, off a + size a ≤ S.size a} (w : (Rect.unit (s := S) off size inb).shape.Idx → Elt Ideal e)
    (L : List (View.Piece (Elt Ideal) S e)) (j : (Rect.unit (s := S) off size inb).shape.Idx) (i : S.Idx) (hi : ∀ a, (i a).val = off a + (j a).val) :
    View.canon (⟨Rect.unit (s := S) off size inb, w⟩ :: L) i = w j := by
  have h : (Rect.unit (s := S) off size inb).emb j = i := funext fun a => Fin.ext ((Rect.idx_unit_val off size inb j a).trans (hi a).symm)
  rw [← h]
  exact View.canon_cons_emb _ w L j

/-- The earlier stores, elsewhere. -/
theorem canon_out {off size : Fin S.rank → ℕ} {inb : ∀ a, off a + size a ≤ S.size a} (w : (Rect.unit (s := S) off size inb).shape.Idx → Elt Ideal e)
    (L : List (View.Piece (Elt Ideal) S e)) (i : S.Idx) (a : Fin S.rank) (hi : (i a).val < off a ∨ off a + size a ≤ (i a).val) :
    View.canon (⟨Rect.unit (s := S) off size inb, w⟩ :: L) i = View.canon L i := by
  refine View.canon_cons_of_not_mem _ _ fun h => ?_
  have := (Rect.mem_set_unit (inb := inb)).mp h a
  omega
end Loads

theorem max_a (h : FVec Ideal S224x128 .f32) (v : FVec Ideal S1x224x256 .f32) (r : Fin 224) (l : Fin 128) :
    k0_pay40 (F := Ideal) h v (ix2 r l) = max (h (ix2 r l)) (max (mag (v (ix3 0 r ⟨l.val, by omega⟩))) (mag (v (ix3 0 r ⟨128 + l.val, by omega⟩)))) := by
  unfold mag
  pointwise [k0_pay40]

theorem max_b (h : FVec Ideal S768x128 .f32) (v : FVec Ideal S1x768x256 .f32) (r : Fin 768) (l : Fin 128) :
    k0_pay3 (F := Ideal) h v (ix2 r l) = max (h (ix2 r l)) (max (mag (v (ix3 0 r ⟨l.val, by omega⟩))) (mag (v (ix3 0 r ⟨128 + l.val, by omega⟩)))) := by
  unfold mag
  pointwise [k0_pay3]

theorem hid_a (a : S12x224x256.Idx → EReal) (b : S12x768x256.Idx → EReal) (r : Fin 992) (h : r.val < 224) (n : Fin 3072) (i : S12x224x256.Idx)
    (h0 : (i 0).val = n.val / 256) (h1 : (i 1).val = r.val) (h2 : (i 2).val = n.val % 256) : a i = hid a b r n := by
  unfold hid
  rw [dif_pos h]
  refine congrArg a (funext fun d => Fin.ext ?_)
  match d with
  | ⟨0, _⟩ => exact h0
  | ⟨1, _⟩ => exact h1
  | ⟨2, _⟩ => exact h2

theorem hid_b (a : S12x224x256.Idx → EReal) (b : S12x768x256.Idx → EReal) (r : Fin 992) (h : ¬ r.val < 224) (n : Fin 3072) (i : S12x768x256.Idx)
    (h0 : (i 0).val = n.val / 256) (h1 : 224 + (i 1).val = r.val) (h2 : (i 2).val = n.val % 256) : b i = hid a b r n := by
  unfold hid
  rw [dif_neg h]
  refine congrArg b (funext fun d => Fin.ext ?_)
  match d with
  | ⟨0, _⟩ => exact h0
  | ⟨1, _⟩ => show (i 1).val = r.val - 224; omega
  | ⟨2, _⟩ => exact h2

variable (c : Dev nD) (arg0 : Memref sig .tc .vmem S12x224x256 .f32) (harg0 : arg0.IsWhole) (arg1 : Memref sig .tc .vmem S12x768x256 .f32) (harg1 : arg1.IsWhole) (arg2 : Memref sig .tc .vmem S224x3072 .fp8e4m3) (harg2 : arg2.IsWhole) (arg3 : Memref sig .tc .vmem S768x3072 .fp8e4m3) (harg3 : arg3.IsWhole) (arg4 : Memref sig .tc .vmem S992x128 .f32) (harg4 : arg4.IsWhole) (arg5 : Memref sig .tc .vmem S992x128 .f32) (harg5 : arg5.IsWhole)
variable (x0 : Vec Ideal S12x224x256 .f32) (x1 : Vec Ideal S12x768x256 .f32)

theorem zero_apply (i : S992x128.Idx) : View.canon (kernelRun0_A.sl.HS0_1 (F := Ideal)) i = 0 := by
  unfold kernelRun0_A.sl.HS0_1
  rw [View.canon_cons_unit_lit' _ _ _ (by decide)]
  rw [eq_ix2 i]
  pointwise [k0_pay37]

/-- The maxima after `n` trips of the first loop. -/
theorem loop1_apply : ∀ (n : ℕ) (hn : n ≤ 12) (r : Fin 992) (l : Fin 128),
    View.canon (pb_k0_t1 Variants.none c none arg0 harg0 arg1 harg1 arg2 harg2 arg3 harg3 arg4 harg4 arg5 harg5 (harg0.unread x0)
      (arg5.view.writes (Elt Ideal) arg5.view.junk kernelRun0_A.sl.HS0_1) n ++ kernelRun0_A.sl.HS0_1) (ix2 r l) = lane (hid x0 x1 r) l (if r.val < 224 then n else 0)
  | 0, _, r, l => by
    rw [ite_self]
    exact zero_apply _
  | n + 1, hn, r, l => by
    have ih := loop1_apply n (by omega) r l
    have e := pb_k0_t1_succ (F := Ideal) Variants.none c none arg0 harg0 arg1 harg1 arg2 harg2 arg3 harg3 arg4 harg4 arg5 harg5 (harg0.unread x0)
      (arg5.view.writes (Elt Ideal) arg5.view.junk kernelRun0_A.sl.HS0_1) ⟨n, hn⟩
    rw [trip1, ← View.writes_append] at e
    refine (congrArg (fun L => View.canon (L ++ kernelRun0_A.sl.HS0_1) (ix2 r l)) e).trans ?_
    show View.canon (_ :: (_ ++ _)) _ = _
    by_cases hr : r.val < 224
    · rw [if_pos hr] at ih ⊢
      refine (canon_in _ _ (ix2 (⟨r.val, hr⟩ : Fin 224) l) _ (by intro a; fin_cases a <;> exact (Nat.zero_add _).symm)).trans ?_
      refine (max_a _ _ ⟨r.val, hr⟩ l).trans ?_
      rw [load_kept arg5 _ _ (ix2 r l) rfl (by intro a; fin_cases a <;> exact (Nat.zero_add _).symm), ih]
      have o := off1_eq ⟨n, hn⟩
      refine congrArg (max _) (congr (congrArg max (congrArg mag ?_)) (congrArg mag ?_))
      · refine (load_arg arg0 harg0 x0 _ (ix3 (⟨n, by omega⟩ : Fin 12) (⟨r.val, hr⟩ : Fin 224) (⟨l.val, by omega⟩ : Fin 256)) o ?_).trans (hid_a x0 x1 r hr _ _ ?_ rfl ?_)
        · intro a; fin_cases a <;> simp
        · show n = (256 * n + l.val) % 3072 / 256; omega
        · show l.val = (256 * n + l.val) % 3072 % 256; omega
      · refine (load_arg arg0 harg0 x0 _ (ix3 (⟨n, by omega⟩ : Fin 12) (⟨r.val, hr⟩ : Fin 224) (⟨128 + l.val, by omega⟩ : Fin 256)) o ?_).trans (hid_a x0 x1 r hr _ _ ?_ rfl ?_)
        · intro a; fin_cases a <;> simp
        · show n = (256 * n + (128 + l.val)) % 3072 / 256; omega
        · show 128 + l.val = (256 * n + (128 + l.val)) % 3072 % 256; omega
    · rw [if_neg hr] at ih ⊢
      refine (canon_out _ _ _ 0 (Or.inr ?_)).trans ih
      show 0 + 224 ≤ r.val
      omega

/-- The maxima after `n` of the steps over the rest of the rows. -/
theorem steps_apply : ∀ (n : ℕ) (hn : n ≤ 12) (r : Fin 992) (l : Fin 128),
    View.canon (steps c arg0 harg0 arg1 harg1 arg2 harg2 arg3 harg3 arg4 harg4 arg5 harg5 x0 x1 n hn) (ix2 r l) = lane (hid x0 x1 r) l (if r.val < 224 then 12 else n)
  | 0, _, r, l => loop1_apply c arg0 harg0 arg1 harg1 arg2 harg2 arg3 harg3 arg4 harg4 arg5 harg5 x0 x1 12 le_rfl r l
  | n + 1, hn, r, l => by
    have ih := steps_apply n (by omega) r l
    by_cases hr : r.val < 224
    · rw [if_pos hr] at ih ⊢
      exact (canon_out _ _ _ 0 (Or.inl hr)).trans ih
    · rw [if_neg hr] at ih ⊢
      refine (canon_in _ _ (ix2 (⟨r.val - 224, by omega⟩ : Fin 768) l) _ (by
        intro a
        match a with
        | ⟨0, _⟩ => show r.val = 224 + (r.val - 224); omega
        | ⟨1, _⟩ => exact (Nat.zero_add _).symm)).trans ?_
      refine (max_b _ _ ⟨r.val - 224, by omega⟩ l).trans ?_
      rw [load_cov arg5 _ _ (ix2 r l) (by
        intro a
        match a with
        | ⟨0, _⟩ => show r.val = 224 + (r.val - 224); omega
        | ⟨1, _⟩ => exact (Nat.zero_add _).symm), ih]
      refine congrArg (max _) (congr (congrArg max (congrArg mag ?_)) (congrArg mag ?_))
      · refine (load_arg arg1 harg1 x1 _ (ix3 (⟨n, by omega⟩ : Fin 12) (⟨r.val - 224, by omega⟩ : Fin 768) (⟨l.val, by omega⟩ : Fin 256)) rfl ?_).trans (hid_b x0 x1 r hr _ _ ?_ ?_ ?_)
        · intro a; fin_cases a <;> simp
        · show n = (256 * n + l.val) % 3072 / 256; omega
        · show 224 + (r.val - 224) = r.val; omega
        · show l.val = (256 * n + l.val) % 3072 % 256; omega
      · refine (load_arg arg1 harg1 x1 _ (ix3 (⟨n, by omega⟩ : Fin 12) (⟨r.val - 224, by omega⟩ : Fin 768) (⟨128 + l.val, by omega⟩ : Fin 256)) rfl ?_).trans (hid_b x0 x1 r hr _ _ ?_ ?_ ?_)
        · intro a; fin_cases a <;> simp
        · show n = (256 * n + (128 + l.val)) % 3072 / 256; omega
        · show 224 + (r.val - 224) = r.val; omega
        · show 128 + l.val = (256 * n + (128 + l.val)) % 3072 % 256; omega

theorem maxA_apply (i : Fin 7) (r : Fin 32) (l : Fin 128) :
    maxA c arg0 harg0 arg1 harg1 arg2 harg2 arg3 harg3 arg4 harg4 arg5 harg5 x0 i (ix2 r l) = lane (hid x0 x1 ⟨32 * i.val + r.val, by omega⟩) l 12 := by
  refine (load_cov arg5 _ _ (ix2 (⟨32 * i.val + r.val, by omega⟩ : Fin 992) l) (by
    intro a
    match a with
    | ⟨0, _⟩ => rfl
    | ⟨1, _⟩ => exact (Nat.zero_add _).symm)).trans ?_
  refine (loop1_apply c arg0 harg0 arg1 harg1 arg2 harg2 arg3 harg3 arg4 harg4 arg5 harg5 x0 x1 12 le_rfl _ l).trans ?_
  rw [if_pos (show 32 * i.val + r.val < 224 by omega)]

/-- The contents the second loop reads its maxima from. -/
def kept : BufTy.Contents (Elt Ideal) arg5.view.ty :=
  arg5.view.writes (Elt Ideal) arg5.view.junk (steps c arg0 harg0 arg1 harg1 arg2 harg2 arg3 harg3 arg4 harg4 arg5 harg5 x0 x1 12 le_rfl)

theorem maxB_apply (k : Fin k0_t2_loop.trips) (hk : k.val < 24) (r : Fin 32) (l : Fin 128) :
    View.readAt (Elt Ideal) arg5.view (Rect.unit (s := S992x128) (k0_off2 k) S32x128.size (k0_off2_inb k)).toLoadRect (kept c arg0 harg0 arg1 harg1 arg2 harg2 arg3 harg3 arg4 harg4 arg5 harg5 x0 x1) (ix2 r l)
      = lane (hid x0 x1 ⟨224 + 32 * k.val + r.val, by omega⟩) l 12 := by
  have o := off2_eq k
  refine (load_kept arg5 _ _ (ix2 (⟨224 + 32 * k.val + r.val, by omega⟩ : Fin 992) l) o (by
    intro a
    match a with
    | ⟨0, _⟩ => rfl
    | ⟨1, _⟩ => exact (Nat.zero_add _).symm)).trans ?_
  refine (steps_apply c arg0 harg0 arg1 harg1 arg2 harg2 arg3 harg3 arg4 harg4 arg5 harg5 x0 x1 12 le_rfl _ l).trans ?_
  rw [ite_self]

end Cert.Proof.Three
end
-- ==== Proof.Three.Arrays.lean ====
/-
  The hidden layer's codes and scales as whole arrays: what the kernel's program leaves, a function of the arguments.
-/
module

public import proofs.«01_k».proof.Proof.Three.Maxima
public import Idealize.ShloMosaic.Lib.Claim

@[expose] public section

set_option maxRecDepth 16384

noncomputable section

namespace Cert.Proof.Three
open Idealize.ShloMosaic Idealize.ShloMosaic.TcCoe Idealize.SL.Sem
open Idealize.ShloMosaic.Pipeline (Dat Cfg Window)
open Cert.Kernel3Ideal Cert.Kernel3Ideal.Gen

section Body
variable (c : Dev nD) (arg0 : Memref sig .tc .vmem S12x224x256 .f32) (harg0 : arg0.IsWhole) (arg1 : Memref sig .tc .vmem S12x768x256 .f32) (harg1 : arg1.IsWhole) (arg2 : Memref sig .tc .vmem S224x3072 .fp8e4m3) (harg2 : arg2.IsWhole) (arg3 : Memref sig .tc .vmem S768x3072 .fp8e4m3) (harg3 : arg3.IsWhole) (arg4 : Memref sig .tc .vmem S992x128 .f32) (harg4 : arg4.IsWhole) (arg5 : Memref sig .tc .vmem S992x128 .f32) (harg5 : arg5.IsWhole)
variable (x0 : Vec Ideal S12x224x256 .f32) (x1 : Vec Ideal S12x768x256 .f32)

/-- Element `j` of a store at offset `off`: the buffer's index. -/
theorem emb_val {S : Shape} {off size off' : Fin S.rank → ℕ} {inb : ∀ a, off a + size a ≤ S.size a} (ho : off = off') (j : (Rect.unit (s := S) off size inb).shape.Idx) (a : Fin S.rank) :
    ((Rect.unit (s := S) off size inb).emb j a).val = off' a + (j a).val := by
  subst ho
  exact Rect.idx_unit_val off size inb j a

theorem out2 : out0_A_2 c arg0 harg0 arg1 harg1 arg2 harg2 arg3 harg3 arg4 harg4 arg5 harg5 x0 x1 = CA x0 x1 := by
  unfold out0_A_2
  rw [View.read_writes_junk_eq_canon]
  funext y
  refine View.canon_apply_of_pieces (CA x0 x1) _ ?_ y (cover0_A_2 c arg0 harg0 arg1 harg1 arg2 harg2 arg3 harg3 arg4 harg4 arg5 harg5 x0 x1 y)
  rw [pieces2]
  intro pc hpc x
  obtain ⟨q, rfl⟩ := List.mem_ofFn.mp hpc
  have hq := q.rev.isLt
  have h0 : (x 0).val < 32 := (x 0).isLt
  have h1 : (x 1).val < 128 := (x 1).isLt
  have e0 := emb_val (inb := inbA q.rev) rfl x (0 : Fin 2)
  have e1 := emb_val (inb := inbA q.rev) rfl x (1 : Fin 2)
  change _ = 32 * (q.rev.val / 24) + (x 0).val at e0
  change _ = 128 * (q.rev.val % 24) + (x 1).val at e1
  refine ((congrArg _ (eq_ix2 x)).trans (code_apply _ _ (x 0) (x 1) (hid x0 x1 ⟨32 * (q.rev.val / 24) + (x 0).val, by omega⟩)
    (maxA_apply c arg0 harg0 arg1 harg1 arg2 harg2 arg3 harg3 arg4 harg4 arg5 harg5 x0 x1 ⟨q.rev.val / 24, by omega⟩ (x 0))
    ⟨128 * (q.rev.val % 24) + (x 1).val, by omega⟩ ?_)).trans ?_
  · refine (load_arg arg0 harg0 x0 _ (ix3 (⟨q.rev.val % 24 / 2, by omega⟩ : Fin 12) (⟨32 * (q.rev.val / 24) + (x 0).val, by omega⟩ : Fin 224) (⟨128 * (q.rev.val % 24 % 2) + (x 1).val, by omega⟩ : Fin 256)) rfl ?_).trans (hid_a x0 x1 _ ?_ _ _ ?_ rfl ?_)
    · intro a; fin_cases a <;> rfl
    · show 32 * (q.rev.val / 24) + (x 0).val < 224; omega
    · show q.rev.val % 24 / 2 = (128 * (q.rev.val % 24) + (x 1).val) / 256; omega
    · show 128 * (q.rev.val % 24 % 2) + (x 1).val = (128 * (q.rev.val % 24) + (x 1).val) % 256; omega
  · unfold CA
    exact congr (congrArg (fun r => qcode (hid x0 x1 r)) (Fin.ext e0.symm)) (Fin.ext e1.symm)

/-- The second loop's pieces of codes after `n` trips: each holds its part of the codes, and they fill the rows so far. -/
theorem codes_loop : ∀ (n : ℕ) (hn : n ≤ 24),
    (∀ p ∈ (pb_k0_t2 Variants.none c none arg0 harg0 arg1 harg1 arg2 harg2 arg3 harg3 arg4 harg4 arg5 harg5 k0_pay36 (harg1.unread x1) (kept c arg0 harg0 arg1 harg1 arg2 harg2 arg3 harg3 arg4 harg4 arg5 harg5 x0 x1) n).1,
        ∀ x : p.1.shape.Idx, p.2 x = CB x0 x1 (p.1.emb x))
      ∧ ∀ y : S768x3072.Idx, (y 0).val < 32 * n → ∃ p ∈ (pb_k0_t2 Variants.none c none arg0 harg0 arg1 harg1 arg2 harg2 arg3 harg3 arg4 harg4 arg5 harg5 k0_pay36 (harg1.unread x1) (kept c arg0 harg0 arg1 harg1 arg2 harg2 arg3 harg3 arg4 harg4 arg5 harg5 x0 x1) n).1, y ∈ p.1.set
  | 0, _ => ⟨fun p hp => absurd hp List.not_mem_nil, fun y hy => absurd hy (Nat.not_lt_zero _)⟩
  | n + 1, hn => by
    obtain ⟨ihp, ihc⟩ := codes_loop n (by omega)
    have hk : n < k0_t2_loop.trips := hn
    have e := pb_k0_t2_succ (F := Ideal) Variants.none c none arg0 harg0 arg1 harg1 arg2 harg2 arg3 harg3 arg4 harg4 arg5 harg5 k0_pay36 (harg1.unread x1) (kept c arg0 harg0 arg1 harg1 arg2 harg2 arg3 harg3 arg4 harg4 arg5 harg5 x0 x1) ⟨n, hk⟩
    have e' := (congrArg Prod.fst e).trans (congrArg (· ++ _) (trip2_codes (F := Ideal) c arg0 harg0 arg1 harg1 arg2 harg2 arg3 harg3 arg4 harg4 arg5 harg5 Variants.none none k0_pay36 (harg1.unread x1) _ ⟨n, hk⟩))
    change (pb_k0_t2 Variants.none c none arg0 harg0 arg1 harg1 arg2 harg2 arg3 harg3 arg4 harg4 arg5 harg5 k0_pay36 (harg1.unread x1) (kept c arg0 harg0 arg1 harg1 arg2 harg2 arg3 harg3 arg4 harg4 arg5 harg5 x0 x1) (n + 1)).1 = _ at e'
    rw [e']
    constructor
    · intro p hp x
      rcases List.mem_append.mp hp with hp | hp
      · obtain ⟨j, rfl⟩ := List.mem_ofFn.mp hp
        have hj := j.rev.isLt
        have h0 : (x 0).val < 32 := (x 0).isLt
        have h1 : (x 1).val < 128 := (x 1).isLt
        have o := offS_eq j.rev ⟨n, hk⟩
        have ol := offL_eq j.rev ⟨n, hk⟩
        have e0 := emb_val (inb := offS_inb j.rev ⟨n, hk⟩) o x (0 : Fin 2)
        have e1 := emb_val (inb := offS_inb j.rev ⟨n, hk⟩) o x (1 : Fin 2)
        change _ = 32 * n + (x 0).val at e0
        change _ = 128 * j.rev.val + (x 1).val at e1
        refine ((congrArg _ (eq_ix2 x)).trans (code_apply _ _ (x 0) (x 1) (hid x0 x1 ⟨224 + 32 * n + (x 0).val, by omega⟩)
          (maxB_apply c arg0 harg0 arg1 harg1 arg2 harg2 arg3 harg3 arg4 harg4 arg5 harg5 x0 x1 ⟨n, hk⟩ hn (x 0))
          ⟨128 * j.rev.val + (x 1).val, by omega⟩ ?_)).trans ?_
        · refine (load_arg arg1 harg1 x1 _ (ix3 (⟨j.rev.val / 2, by omega⟩ : Fin 12) (⟨32 * n + (x 0).val, by omega⟩ : Fin 768) (⟨128 * (j.rev.val % 2) + (x 1).val, by omega⟩ : Fin 256)) ol ?_).trans (hid_b x0 x1 _ ?_ _ _ ?_ ?_ ?_)
          · intro a; fin_cases a <;> rfl
          · show ¬ 224 + 32 * n + (x 0).val < 224; omega
          · show j.rev.val / 2 = (128 * j.rev.val + (x 1).val) / 256; omega
          · show 224 + (32 * n + (x 0).val) = 224 + 32 * n + (x 0).val; omega
          · show 128 * (j.rev.val % 2) + (x 1).val = (128 * j.rev.val + (x 1).val) % 256; omega
        · unfold CB
          refine congr (congrArg (fun r => qcode (hid x0 x1 r)) (Fin.ext ?_)) (Fin.ext e1.symm)
          refine Eq.trans ?_ (congrArg (224 + ·) e0.symm)
          show 224 + 32 * n + (x 0).val = 224 + (32 * n + (x 0).val); omega
      · exact ihp p hp x
    · intro y hy
      have hy1 : (y 1).val < 3072 := (y 1).isLt
      by_cases h : (y 0).val < 32 * n
      · obtain ⟨p, hp, hm⟩ := ihc y h
        exact ⟨p, List.mem_append.mpr (.inr hp), hm⟩
      · refine ⟨_, List.mem_append.mpr (.inl (List.mem_ofFn.mpr ⟨(⟨(y 1).val / 128, by omega⟩ : Fin 24).rev, rfl⟩)), ?_⟩
        refine (Rect.mem_set_unit (inb := offS_inb _ ⟨n, hk⟩)).mpr ?_
        rw [offS_eq, Fin.rev_rev]
        intro a
        match a with
        | ⟨0, _⟩ => exact ⟨show 32 * n ≤ (y 0).val by omega, show (y 0).val < 32 * n + 32 by omega⟩
        | ⟨1, _⟩ => exact ⟨show 128 * ((y 1).val / 128) ≤ (y 1).val by omega, show (y 1).val < 128 * ((y 1).val / 128) + 128 by omega⟩

/-- The same of its pieces of scales. -/
theorem scales_loop : ∀ (n : ℕ) (hn : n ≤ 24),
    (∀ p ∈ (pb_k0_t2 Variants.none c none arg0 harg0 arg1 harg1 arg2 harg2 arg3 harg3 arg4 harg4 arg5 harg5 k0_pay36 (harg1.unread x1) (kept c arg0 harg0 arg1 harg1 arg2 harg2 arg3 harg3 arg4 harg4 arg5 harg5 x0 x1) n).2,
        ∀ x : p.1.shape.Idx, p.2 x = CS x0 x1 (p.1.emb x))
      ∧ ∀ y : S992x128.Idx, 224 ≤ (y 0).val → (y 0).val < 224 + 32 * n → ∃ p ∈ (pb_k0_t2 Variants.none c none arg0 harg0 arg1 harg1 arg2 harg2 arg3 harg3 arg4 harg4 arg5 harg5 k0_pay36 (harg1.unread x1) (kept c arg0 harg0 arg1 harg1 arg2 harg2 arg3 harg3 arg4 harg4 arg5 harg5 x0 x1) n).2, y ∈ p.1.set
  | 0, _ => ⟨fun p hp => absurd hp List.not_mem_nil, fun y hy hy' => absurd hy' (by omega)⟩
  | n + 1, hn => by
    obtain ⟨ihp, ihc⟩ := scales_loop n (by omega)
    have hk : n < k0_t2_loop.trips := hn
    have e := pb_k0_t2_succ (F := Ideal) Variants.none c none arg0 harg0 arg1 harg1 arg2 harg2 arg3 harg3 arg4 harg4 arg5 harg5 k0_pay36 (harg1.unread x1) (kept c arg0 harg0 arg1 harg1 arg2 harg2 arg3 harg3 arg4 harg4 arg5 harg5 x0 x1) ⟨n, hk⟩
    have e' := (congrArg Prod.snd e).trans (congrArg (· ++ _) (trip2_scales (F := Ideal) c arg0 harg0 arg1 harg1 arg2 harg2 arg3 harg3 arg4 harg4 arg5 harg5 Variants.none none k0_pay36 (harg1.unread x1) _ ⟨n, hk⟩))
    change (pb_k0_t2 Variants.none c none arg0 harg0 arg1 harg1 arg2 harg2 arg3 harg3 arg4 harg4 arg5 harg5 k0_pay36 (harg1.unread x1) (kept c arg0 harg0 arg1 harg1 arg2 harg2 arg3 harg3 arg4 harg4 arg5 harg5 x0 x1) (n + 1)).2 = _ at e'
    rw [e']
    have o := off2_eq ⟨n, hk⟩
    constructor
    · intro p hp x
      rcases List.mem_append.mp hp with hp | hp
      · obtain rfl := List.mem_singleton.mp hp
        have h0 : (x 0).val < 32 := (x 0).isLt
        have e0 := emb_val (inb := k0_off2_inb ⟨n, hk⟩) o x (0 : Fin 2)
        change _ = 224 + 32 * n + (x 0).val at e0
        refine ((congrArg _ (eq_ix2 x)).trans (spread_apply _ (x 0) (x 1) (hid x0 x1 ⟨224 + 32 * n + (x 0).val, by omega⟩)
          (maxB_apply c arg0 harg0 arg1 harg1 arg2 harg2 arg3 harg3 arg4 harg4 arg5 harg5 x0 x1 ⟨n, hk⟩ hn (x 0)))).trans ?_
        unfold CS
        exact congrArg (fun r => qscale (hid x0 x1 r)) (Fin.ext e0.symm)
      · exact ihp p hp x
    · intro y hy hy'
      have hy1 : (y 1).val < 128 := (y 1).isLt
      by_cases h : (y 0).val < 224 + 32 * n
      · obtain ⟨p, hp, hm⟩ := ihc y hy h
        exact ⟨p, List.mem_append.mpr (.inr hp), hm⟩
      · refine ⟨_, List.mem_append.mpr (.inl (List.mem_singleton.mpr rfl)), ?_⟩
        refine (Rect.mem_set_unit (inb := k0_off2_inb ⟨n, hk⟩)).mpr ?_
        rw [o]
        intro a
        match a with
        | ⟨0, _⟩ => exact ⟨show 224 + 32 * n ≤ (y 0).val by omega, show (y 0).val < 224 + 32 * n + 32 by omega⟩
        | ⟨1, _⟩ => exact ⟨Nat.zero_le _, show (y 1).val < 0 + 128 by omega⟩

theorem out3 : out0_A_3 c arg0 harg0 arg1 harg1 arg2 harg2 arg3 harg3 arg4 harg4 arg5 harg5 x0 x1 = CB x0 x1 := by
  unfold out0_A_3
  rw [View.read_writes_junk_eq_canon]
  funext y
  have h0 : (y 0).val < 768 := (y 0).isLt
  obtain ⟨hp, hc⟩ := codes_loop c arg0 harg0 arg1 harg1 arg2 harg2 arg3 harg3 arg4 harg4 arg5 harg5 x0 x1 24 le_rfl
  rw [pieces3]
  exact View.canon_append_of_pieces (Val := Elt Ideal) (e := .fp8e4m3) (CB x0 x1) _ _ hp y (hc y h0)

theorem out4 : out0_A_4 c arg0 harg0 arg1 harg1 arg2 harg2 arg3 harg3 arg4 harg4 arg5 harg5 x0 x1 = CS x0 x1 := by
  unfold out0_A_4
  rw [View.read_writes_junk_eq_canon]
  funext y
  have h0 : (y 0).val < 992 := (y 0).isLt
  have h1 : (y 1).val < 128 := (y 1).isLt
  obtain ⟨hp, hc⟩ := scales_loop c arg0 harg0 arg1 harg1 arg2 harg2 arg3 harg3 arg4 harg4 arg5 harg5 x0 x1 24 le_rfl
  rw [pieces4, ← List.append_assoc]
  refine View.canon_append_of_pieces (Val := Elt Ideal) (e := .f32) (CS x0 x1) _ _ ?_ y ?_
  · intro p hm x
    rcases List.mem_append.mp hm with hm | hm
    · exact hp p hm x
    · obtain ⟨i, rfl⟩ := List.mem_ofFn.mp hm
      have hi := i.rev.isLt
      have hx : (x 0).val < 32 := (x 0).isLt
      have e0 := emb_val (inb := inbM i.rev) rfl x (0 : Fin 2)
      change _ = 32 * i.rev.val + (x 0).val at e0
      refine ((congrArg _ (eq_ix2 x)).trans (spread_apply _ (x 0) (x 1) (hid x0 x1 ⟨32 * i.rev.val + (x 0).val, by omega⟩)
        (maxA_apply c arg0 harg0 arg1 harg1 arg2 harg2 arg3 harg3 arg4 harg4 arg5 harg5 x0 x1 i.rev (x 0)))).trans ?_
      unfold CS
      exact congrArg (fun r => qscale (hid x0 x1 r)) (Fin.ext e0.symm)
  · by_cases h : 224 ≤ (y 0).val
    · obtain ⟨p, hm, hy⟩ := hc y h h0
      exact ⟨p, List.mem_append.mpr (.inl hm), hy⟩
    · refine ⟨_, List.mem_append.mpr (.inr (List.mem_ofFn.mpr ⟨(⟨(y 0).val / 32, by omega⟩ : Fin 7).rev, rfl⟩)), ?_⟩
      refine (Rect.mem_set_unit (inb := inbM _)).mpr ?_
      rw [Fin.rev_rev]
      intro a
      match a with
      | ⟨0, _⟩ => exact ⟨show 32 * ((y 0).val / 32) ≤ (y 0).val by omega, show (y 0).val < 32 * ((y 0).val / 32) + 32 by omega⟩
      | ⟨1, _⟩ => exact ⟨Nat.zero_le _, show (y 1).val < 0 + 128 by omega⟩
end Body

section Program
variable (m : (ℓ : Loc nD τ sig) → Buf (Elt Ideal) ℓ) (c : Dev nD)

theorem k_iblk0 (t : Fin cfg0.N) : (iblk m c 0 t : S12x224x256.Idx → EReal) = m ((c : Thread nD τ).loc main_arg0) := by
  rw [← V_main_arg0 m c]
  refine funext fun j => congrArg (V m c main_arg0 : S12x224x256.Idx → EReal) (funext fun a => Fin.ext ?_)
  fin_cases a
  · show win0_0.index t 0 * win0_0.size 0 + 1 * (j 0).val = (j 0).val; rw [show win0_0.index t 0 * win0_0.size 0 = 0 from Nat.zero_mul _]; omega
  · show win0_0.index t 1 * win0_0.size 1 + 1 * (j 1).val = (j 1).val; rw [show win0_0.index t 1 * win0_0.size 1 = 0 from Nat.zero_mul _]; omega
  · show win0_0.index t 2 * win0_0.size 2 + 1 * (j 2).val = (j 2).val; rw [show win0_0.index t 2 * win0_0.size 2 = 0 from Nat.zero_mul _]; omega

theorem k_iblk1 (t : Fin cfg0.N) : (iblk m c 1 t : S12x768x256.Idx → EReal) = m ((c : Thread nD τ).loc main_arg1) := by
  rw [← V_main_arg1 m c]
  refine funext fun j => congrArg (V m c main_arg1 : S12x768x256.Idx → EReal) (funext fun a => Fin.ext ?_)
  fin_cases a
  · show win0_1.index t 0 * win0_1.size 0 + 1 * (j 0).val = (j 0).val; rw [show win0_1.index t 0 * win0_1.size 0 = 0 from Nat.zero_mul _]; omega
  · show win0_1.index t 1 * win0_1.size 1 + 1 * (j 1).val = (j 1).val; rw [show win0_1.index t 1 * win0_1.size 1 = 0 from Nat.zero_mul _]; omega
  · show win0_1.index t 2 * win0_1.size 2 + 1 * (j 2).val = (j 2).val; rw [show win0_1.index t 2 * win0_1.size 2 = 0 from Nat.zero_mul _]; omega

theorem k_final2 : (dats m 0 c).arrAt 2 cfg0.N = CA (m ((c : Thread nD τ).loc main_arg0)) (m ((c : Thread nD τ).loc main_arg1)) := by
  refine (dats m 0 c).arrAt_eq_of_covers 2 _ (by decide +kernel) fun t hf y => ?_
  have e0 := k_iblk0 m c t
  have e1 := k_iblk1 m c t
  blk_simp
  rw [after0_2]
  unfold outsAt0
  dsimp only
  rw [out2]
  erw [e0, e1]
  refine congrArg (CA (m ((c : Thread nD τ).loc main_arg0)) (m ((c : Thread nD τ).loc main_arg1))) ?_
  have e : ∀ t : Fin cfg0.N, win0_2.index t = ![0, 0] := by decide +kernel
  blk_ext [e]

theorem k_final3 : (dats m 0 c).arrAt 3 cfg0.N = CB (m ((c : Thread nD τ).loc main_arg0)) (m ((c : Thread nD τ).loc main_arg1)) := by
  refine (dats m 0 c).arrAt_eq_of_covers 3 _ (by decide +kernel) fun t hf y => ?_
  have e0 := k_iblk0 m c t
  have e1 := k_iblk1 m c t
  blk_simp
  rw [after0_3]
  unfold outsAt0
  dsimp only
  rw [out3]
  erw [e0, e1]
  refine congrArg (CB (m ((c : Thread nD τ).loc main_arg0)) (m ((c : Thread nD τ).loc main_arg1))) ?_
  have e : ∀ t : Fin cfg0.N, win0_3.index t = ![0, 0] := by decide +kernel
  blk_ext [e]

theorem k_final4 : (dats m 0 c).arrAt 4 cfg0.N = CS (m ((c : Thread nD τ).loc main_arg0)) (m ((c : Thread nD τ).loc main_arg1)) := by
  refine (dats m 0 c).arrAt_eq_of_covers 4 _ (by decide +kernel) fun t hf y => ?_
  have e0 := k_iblk0 m c t
  have e1 := k_iblk1 m c t
  blk_simp
  rw [after0_4]
  unfold outsAt0
  dsimp only
  rw [out4]
  erw [e0, e1]
  refine congrArg (CS (m ((c : Thread nD τ).loc main_arg0)) (m ((c : Thread nD τ).loc main_arg1))) ?_
  have e : ∀ t : Fin cfg0.N, win0_4.index t = ![0, 0] := by decide +kernel
  blk_ext [e]

/-- The kernel's run, read: its three results are the claimed arrays of its arguments, and they are unchanged. -/
theorem k_run (ρ : Dev nD → PrngReg) : θ_run (defs (F := Ideal)) (onTc (τ := τ) (main (F := Ideal))) ⟨m, fun _ => 0, ρ⟩ (fun r => ∀ c : Dev nD,
      r.2.mem ((c.tc : Thread nD τ).loc main_v0_0) = CA (m ((c : Thread nD τ).loc main_arg0)) (m ((c : Thread nD τ).loc main_arg1))
      ∧ r.2.mem ((c.tc : Thread nD τ).loc main_v0_1) = CB (m ((c : Thread nD τ).loc main_arg0)) (m ((c : Thread nD τ).loc main_arg1))
      ∧ r.2.mem ((c.tc : Thread nD τ).loc main_v0_2) = CS (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 2).trans (k_final2 m c), ((h.1 c).1 3).trans (k_final3 m c), ((h.1 c).1 4).trans (k_final4 m c), h.2 c⟩)
    (θ_run_and (run_main m ρ) (unchanged m ρ))
end Program

end Cert.Proof.Three
end
-- ==== Proof.Three.Column.lean ====
/-
  The reference's scales and codes of the hidden layer, row by row.
-/
module

public import proofs.«01_k».proof.Proof.Three.Quant
public import Idealize.ShloMosaic.Lib.Pipeline.Value
public import proofs.«01_k».proof.Proof.Gen.Reference3Ideal.Skeleton

@[expose] public section

set_option maxRecDepth 16384

noncomputable section

namespace Cert.Proof.Three
open Idealize.ShloMosaic Idealize.ShloMosaic.TcCoe Idealize.SL.Sem
open Cert.Proof.Two (kScale rScale scales mul_div_pw kernel_power reference_power expo pw ofBits_bot ofBits_top ofBits_two ofBits_least ofBits_most)

section Reference
open Cert.Reference3Ideal Cert.Reference3Ideal.Gen

/-- The scales of the rows whose greatest magnitudes over 448 are `y`. -/
def rest (y : FVec Ideal S992x1 .f32) : FVec Ideal S992x1 .f32 :=
  have v6 : FVec Ideal S1x256 .f32 := Cert.Reference2Ideal.Gen.k0_pay1 (F := Ideal)
  have v14 : FVec Ideal S992x256 .f32 := broadcastTo S992x256 y broadcasts_S992x1_S992x256
  have v15 : FVec Ideal S992x256 .f32 := broadcastTo S992x256 v6 broadcasts_S1x256_S992x256
  have v16 : IVec S992x256 1 := cmpf .olt v14 v15
  have v17 : FVec Ideal S1x256 .f32 := shapeCast S1x256 v6 shapeCasts_S1x256_S1x256
  have v18 : FVec Ideal S992x256 .f32 := broadcastTo S992x256 v17 broadcasts_S1x256_S992x256
  have v19 : FVec Ideal S992x256 .f32 := broadcast S992x256 (Scalar.ofBits .f32 0x7F000000#32)
  have v20 : FVec Ideal S992x256 .f32 := select v16 v18 v19
  have v21 : FVec Ideal S992 .f32 := multiReduction .minimumf [1] S992 v20 0x7F800000#32 reduces_S992x256_S992 (.inl rfl) rfl
  have v22 : FVec Ideal S992x1 .f32 := shapeCast S992x1 v21 shapeCasts_S992_S992x1
  have v23 : FVec Ideal S992x1 .f32 := broadcast S992x1 (Scalar.ofBits .f32 0x00800000#32)
  have v24 : IVec S992x1 1 := cmpf .olt y v23
  have v25 : FVec Ideal S992x1 .f32 := broadcast S992x1 (Scalar.ofBits .f32 0x3F800000#32)
  select v24 v25 v22

/-- The rows' greatest magnitudes. -/
def most (t : FVec Ideal S992x3072 .f32) : FVec Ideal S992 .f32 :=
  multiReduction .maximumf [1] S992 (absf t) 0xFF800000#32 reduces_S992x3072_S992 (.inl rfl) rfl

/-- Those magnitudes over 448, as a column. -/
def column (x : FVec Ideal S992 .f32) : FVec Ideal S992x1 .f32 :=
  mulf (shapeCast S992x1 x shapeCasts_S992_S992x1) (broadcast S992x1 (Scalar.ofBits .f32 0x3B124925#32))

theorem rest_apply (y : FVec Ideal S992x1 .f32) (r : Fin 992) : rest y (ix2 r 0) = rScale (y (ix2 r 0)) := by
  unfold rest rScale
  pointwise
  simp only [reference_power]
  rw [ofBits_top, ofBits_most, ofBits_least]

theorem most_apply (t : FVec Ideal S992x3072 .f32) (r : Fin 992) :
    most t (ix1 r) = Finset.fold max (Ideal.ofBits FTy.f32 4286578688#32) (fun n => mag (t (ix2 r n))) Finset.univ := by
  unfold mag most
  pointwise

theorem column_apply (x : FVec Ideal S992 .f32) (r : Fin 992) : column x (ix2 r 0) = x (ix1 r) * Ideal.ofBits FTy.f32 991054117#32 := by
  unfold column
  pointwise

theorem pay1 (t : FVec Ideal S992x3072 .f32) : k0_pay1 (F := Ideal) t = rest (column (most t)) := by
  unfold k0_pay1
  rw [shapeCast_self]
  rfl

theorem r_scale (t : FVec Ideal S992x3072 .f32) (r : Fin 992) : k0_pay1 (F := Ideal) t (ix2 r 0) = qscale (fun n => t (ix2 r n)) := by
  rw [pay1, rest_apply, column_apply, most_apply, (scales _).1, ofBits_bot, qscale, top]

/-- The codes of the values `t` under the scales `s`. -/
def codes (t : FVec Ideal S992x3072 .f32) (s : FVec Ideal S992x1 .f32) : FVec Ideal S992x3072 .f32 :=
  minimumf (broadcast S992x3072 (Scalar.ofBits .f32 0x43E00000#32)) (maximumf (broadcast S992x3072 (Scalar.ofBits .f32 0xC3E00000#32)) (divf t (broadcastTo S992x3072 s broadcasts_S992x1_S992x3072)))

theorem codes_apply (t : FVec Ideal S992x3072 .f32) (s : FVec Ideal S992x1 .f32) (r : Fin 992) (n : Fin 3072) :
    codes t s (ix2 r n) = min (Ideal.ofBits FTy.f32 1138753536#32) (max (Ideal.ofBits FTy.f32 3286237184#32) (Ideal.div (t (ix2 r n)) (s (ix2 r 0)))) := by
  unfold codes
  pointwise

theorem pay2 (t : FVec Ideal S992x3072 .f32) : k0_pay2 (F := Ideal) t t = truncf .fp8e4m3 (codes t (k0_pay1 t)) := by
  unfold k0_pay2
  rw [shapeCast_self]
  rfl

theorem r_code (t : FVec Ideal S992x3072 .f32) (r : Fin 992) (n : Fin 3072) : k0_pay2 (F := Ideal) t t (ix2 r n) = qcode (fun n => t (ix2 r n)) n := by
  rw [pay2]
  refine (codes_apply t _ r n).trans ?_
  rw [r_scale]
  unfold qcode
  with_reducible rfl

end Reference

end Cert.Proof.Three
-- ==== Proof.Three.Reference.lean ====
/-
  The hidden layer's codes and scales as the reference's program leaves them: functions of its own arguments.
-/
module

public import proofs.«01_k».proof.Proof.Three.Column
public import proofs.«01_k».proof.Proof.Gen.Reference3Ideal.Frame
public import Idealize.ShloMosaic.Lib.Pipeline.ValueKit
public import Idealize.ShloMosaic.Lib.Claim

@[expose] public section

set_option maxRecDepth 16384

noncomputable section

namespace Cert.Proof.Three

open Idealize.ShloMosaic Idealize.ShloMosaic.TcCoe Idealize.SL.Sem
open Idealize.ShloMosaic.Pipeline (Dat Cfg Window)
open Cert.Reference3Ideal Cert.Reference3Ideal.Gen

/-- The hidden values as one matrix. -/
def HM (a : S12x224x256.Idx → EReal) (b : S12x768x256.Idx → EReal) : S992x3072.Idx → EReal := fun y => hid a b (y 0) (y 1)

/-- The scales as one column. -/
def CR (a : S12x224x256.Idx → EReal) (b : S12x768x256.Idx → EReal) : S992x1.Idx → EReal := fun y => qscale (hid a b (y 0))

section Body
variable (a : S12x224x256.Idx → EReal) (b : S12x768x256.Idx → EReal)

theorem r_out1 : out0_1 (F := Ideal) (HM a b) = CA a b := by
  refine funext fun (y : S224x3072.Idx) => ?_
  have h0 : (y 0).val < 224 := (y 0).isLt
  have h1 : (y 1).val < 3072 := (y 1).isLt
  unfold out0_1
  rw [View.canon_cons_unit_lit' _ _ _ (by decide), View.ld_unit_lit' _ _ (by decide)]
  refine Eq.trans (b := k0_pay2 (F := Ideal) (HM a b) (HM a b) (ix2 ⟨(y 0).val, by omega⟩ (y 1))) ?_ ?_
  · refine congrArg (k0_pay2 (F := Ideal) (HM a b) (HM a b)) (funext fun d => Fin.ext ?_)
    match d with
    | ⟨0, _⟩ => exact Nat.zero_add _
    | ⟨1, _⟩ => exact Nat.zero_add _
  · exact r_code (HM a b) _ _

theorem r_out2 : out0_2 (F := Ideal) (HM a b) = CB a b := by
  refine funext fun (y : S768x3072.Idx) => ?_
  have h0 : (y 0).val < 768 := (y 0).isLt
  have h1 : (y 1).val < 3072 := (y 1).isLt
  unfold out0_2
  rw [View.canon_cons_unit_lit' _ _ _ (by decide), View.ld_unit_lit' _ _ (by decide)]
  refine Eq.trans (b := k0_pay2 (F := Ideal) (HM a b) (HM a b) (ix2 ⟨224 + (y 0).val, by omega⟩ (y 1))) ?_ ?_
  · refine congrArg (k0_pay2 (F := Ideal) (HM a b) (HM a b)) (funext fun d => Fin.ext ?_)
    match d with
    | ⟨0, _⟩ => rfl
    | ⟨1, _⟩ => exact Nat.zero_add _
  · exact r_code (HM a b) _ _

theorem r_out3 : out0_3 (F := Ideal) (HM a b) = CR a b := by
  refine funext fun (y : S992x1.Idx) => ?_
  have h1 : (y 1).val < 1 := (y 1).isLt
  unfold out0_3
  rw [View.canon_cons_unit_lit' _ _ _ (by decide), View.ld_unit_lit' _ _ (by decide)]
  have e : y = ix2 (y 0) (0 : Fin 1) := funext fun d => by
    match d with
    | ⟨0, _⟩ => rfl
    | ⟨1, _⟩ => exact Fin.ext (by show (y 1).val = 0; omega)
  exact (congrArg _ e).trans (r_scale (HM a b) (y 0))
end Body

section Program
variable (m : (ℓ : Loc nD τ sig) → Buf (Elt Ideal) ℓ) (c : Dev nD)

/-- The tiles joined, turned and flattened are the matrix of hidden values. -/
theorem flat (a : S12x224x256.Idx → EReal) (b : S12x768x256.Idx → EReal) (h1) (h2 : S12x992x256.Transposes [1, 0, 2] S992x12x256) (h3 : S992x12x256.ShapeCasts S992x3072) (y : S992x3072.Idx) :
    shapeCast S992x3072 (transpose S992x12x256 [1, 0, 2] (concatenate S12x992x256 1 [⟨S12x224x256, a⟩, ⟨S12x768x256, b⟩] h1) h2) h3 y = HM a b y := by
  rw [eq_ix2 y]
  unfold HM hid
  pointwise

theorem r_V2 : (V m c main_v2 : S992x3072.Idx → EReal) = HM (m ((c : Thread nD τ).loc main_arg0)) (m ((c : Thread nD τ).loc main_arg1)) := by
  show StableHlo.after hostOps0 (fun b => m (c, b)) (Proc.devRef .tc main_v2) = _
  after_results
  refine funext fun (j : S992x3072.Idx) => ?_
  exact flat _ _ _ _ _ j

theorem r_iblk0 (t : Fin cfg0.N) : (iblk m c 0 t : S992x3072.Idx → EReal) = HM (m ((c : Thread nD τ).loc main_arg0)) (m ((c : Thread nD τ).loc main_arg1)) := by
  rw [← r_V2 m c]
  refine funext fun j => congrArg (V m c main_v2 : S992x3072.Idx → EReal) (funext fun a => Fin.ext ?_)
  fin_cases a
  · show win0_0.index t 0 * win0_0.size 0 + 1 * (j 0).val = (j 0).val; rw [show win0_0.index t 0 * win0_0.size 0 = 0 from Nat.zero_mul _]; omega
  · show win0_0.index t 1 * win0_0.size 1 + 1 * (j 1).val = (j 1).val; rw [show win0_0.index t 1 * win0_0.size 1 = 0 from Nat.zero_mul _]; omega

theorem r_final1 : (dats m 0 c).arrAt 1 cfg0.N = CA (m ((c : Thread nD τ).loc main_arg0)) (m ((c : Thread nD τ).loc main_arg1)) := by
  refine (dats m 0 c).arrAt_eq_of_covers 1 _ (by decide +kernel) fun t hf y => ?_
  have e0 := r_iblk0 m c t
  blk_simp
  rw [after0_1]
  erw [e0]
  rw [r_out1]
  refine congrArg (CA (m ((c : Thread nD τ).loc main_arg0)) (m ((c : Thread nD τ).loc main_arg1))) ?_
  have e : ∀ t : Fin cfg0.N, win0_1.index t = ![0, 0] := by decide +kernel
  blk_ext [e]

theorem r_final2 : (dats m 0 c).arrAt 2 cfg0.N = CB (m ((c : Thread nD τ).loc main_arg0)) (m ((c : Thread nD τ).loc main_arg1)) := by
  refine (dats m 0 c).arrAt_eq_of_covers 2 _ (by decide +kernel) fun t hf y => ?_
  have e0 := r_iblk0 m c t
  blk_simp
  rw [after0_2]
  erw [e0]
  rw [r_out2]
  refine congrArg (CB (m ((c : Thread nD τ).loc main_arg0)) (m ((c : Thread nD τ).loc main_arg1))) ?_
  have e : ∀ t : Fin cfg0.N, win0_2.index t = ![0, 0] := by decide +kernel
  blk_ext [e]

theorem r_final3 : (dats m 0 c).arrAt 3 cfg0.N = CR (m ((c : Thread nD τ).loc main_arg0)) (m ((c : Thread nD τ).loc main_arg1)) := by
  refine (dats m 0 c).arrAt_eq_of_covers 3 _ (by decide +kernel) fun t hf y => ?_
  have e0 := r_iblk0 m c t
  blk_simp
  rw [after0_3]
  erw [e0]
  rw [r_out3]
  refine congrArg (CR (m ((c : Thread nD τ).loc main_arg0)) (m ((c : Thread nD τ).loc main_arg1))) ?_
  have e : ∀ t : Fin cfg0.N, win0_3.index t = ![0, 0] := by decide +kernel
  blk_ext [e]

theorem r_result4 : (Pipeline.afterTail₀ cfgs (dats m) 0 (V0 m) [hostOps1] c main_v4 : S992x128.Idx → EReal) = CS (m ((c : Thread nD τ).loc main_arg0)) (m ((c : Thread nD τ).loc main_arg1)) := by
  unfold Pipeline.afterTail₀
  simp only [List.flatten_cons, List.flatten_nil, List.append_nil]
  after_results
  have e : Pipeline.withArrays (cfgs 0).spec c (V0 m c) (fun w => (dats m 0 c).arrAt w (cfgs 0).N) (Proc.tc.devRef main_v3_2) = (dats m 0 c).arrAt 3 cfg0.N :=
    Pipeline.withArrays_arr (cfgs 0).spec launch0.win.arr_inj c _ _ 3
  rw [e, r_final3]
  refine funext fun (y : S992x128.Idx) => ?_
  rfl

/-- The reference's run, read: its three results are the claimed arrays of its arguments, and they are unchanged. -/
theorem r_run (ρ : Dev nD → PrngReg) : θ_run (defs (F := Ideal)) (onTc (τ := τ) (main (F := Ideal))) ⟨m, fun _ => 0, ρ⟩ (fun r => ∀ c : Dev nD,
      r.2.mem ((c.tc : Thread nD τ).loc main_v3_0) = CA (m ((c : Thread nD τ).loc main_arg0)) (m ((c : Thread nD τ).loc main_arg1))
      ∧ r.2.mem ((c.tc : Thread nD τ).loc main_v3_1) = CB (m ((c : Thread nD τ).loc main_arg0)) (m ((c : Thread nD τ).loc main_arg1))
      ∧ r.2.mem ((c.tc : Thread nD τ).loc main_v4) = CS (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 1).trans (r_final1 m c), ((h.1 c).1 2).trans (r_final2 m c),
      ((h.1 c).2 main_v4 (Pipeline.mem_restRefs_of main_v4 (by decide) (by decide))).trans (r_result4 m c), h.2 c⟩)
    (θ_run_and (run_main m ρ) (unchanged m ρ))
end Program

end Cert.Proof.Three
end
-- ==== Proof.lean ====
/-
  The proof of `Cert.Claim`: the nine programs end with their arguments unchanged and their semaphores at zero, the ideal
  pass rewrote nothing, and on the extended reals each kernel and its reference leave the same arrays.
-/
module

public import proofs.«01_k».proof.Proof.Two.Reference
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Skeleton
public import proofs.«01_k».proof.Proof.Gen.Reference2Ideal.Launch
public import proofs.«01_k».proof.Proof.Gen.Reference2Ideal.Points
public import proofs.«01_k».proof.Proof.Gen.Reference2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3.Loops
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Loops
public import proofs.«01_k».proof.Proof.Gen.Reference3Ideal
public import proofs.«01_k».proof.Proof.Gen.Reference3Ideal.Skeleton
public import proofs.«01_k».proof.Proof.Gen.Reference3Ideal.Launch
public import proofs.«01_k».proof.Proof.Gen.Reference3Ideal.Points
public import proofs.«01_k».proof.Proof.Gen.Reference3Ideal.Frame
public import proofs.«01_k».proof.Proof.Kernel.Launch
public import proofs.«01_k».proof.Proof.KernelIdeal.Launch
public import proofs.«01_k».proof.Proof.Value.Arrays
public import Idealize.ShloMosaic.Lib.Claim
public import Idealize.ShloMosaic.Adequacy
public import Idealize.ShloMosaic.Init
public import proofs.«01_k».proof.Proof.Three.Arrays
public import proofs.«01_k».proof.Proof.Three.Reference

@[expose] public section

noncomputable section

namespace Cert.Proof

open Idealize.ShloMosaic Idealize.ShloMosaic.TcCoe Idealize.SL.Sem

/-- On the extended reals both programs leave the hidden layer, cut into its column blocks and into its first 224 rows and the rest. -/
theorem algebraic : Cert.algebraic_KernelIdeal_ReferenceIdeal := by
  intro m g m' g' _ hargs
  refine ⟨fun c => Cert.Proof.Value.GA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => Cert.Proof.Value.GB (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.Proof.Value.k_run m g, ?_⟩
  refine (θ_run _ _ _).mono (fun r h c => ?_) (Cert.Proof.Value.r_run m' g')
  obtain ⟨h0, h1, h2, h3, h4⟩ := hargs c
  have e := h c
  rw [h0, h1, h2, h3, h4] at e
  rw [h0, h1, h2, h3, h4]
  exact e

/-- The second layer and its quantiser: the kernel and the plain reference leave the same four arrays. -/
theorem algebraic2 : Cert.algebraic_Kernel2Ideal_Reference2Ideal := by
  intro m g m' g' _ hargs
  refine ⟨fun c => Cert.Proof.Two.KC 0 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (Cert.Proof.Two.rowOf (m ((c.tc : Thread Cert.Kernel2Ideal.nD Cert.Kernel2Ideal.τ).loc Cert.Kernel2Ideal.main_arg3))) (Cert.Proof.Two.rowOf (m ((c.tc : Thread Cert.Kernel2Ideal.nD Cert.Kernel2Ideal.τ).loc Cert.Kernel2Ideal.main_arg4))), fun c => Cert.Proof.Two.KS 0 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (Cert.Proof.Two.rowOf (m ((c.tc : Thread Cert.Kernel2Ideal.nD Cert.Kernel2Ideal.τ).loc Cert.Kernel2Ideal.main_arg3))) (Cert.Proof.Two.rowOf (m ((c.tc : Thread Cert.Kernel2Ideal.nD Cert.Kernel2Ideal.τ).loc Cert.Kernel2Ideal.main_arg4))), fun c => Cert.Proof.Two.KC 1 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (Cert.Proof.Two.rowOf (m ((c.tc : Thread Cert.Kernel2Ideal.nD Cert.Kernel2Ideal.τ).loc Cert.Kernel2Ideal.main_arg3))) (Cert.Proof.Two.rowOf (m ((c.tc : Thread Cert.Kernel2Ideal.nD Cert.Kernel2Ideal.τ).loc Cert.Kernel2Ideal.main_arg4))), fun c => Cert.Proof.Two.KS 1 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (Cert.Proof.Two.rowOf (m ((c.tc : Thread Cert.Kernel2Ideal.nD Cert.Kernel2Ideal.τ).loc Cert.Kernel2Ideal.main_arg3))) (Cert.Proof.Two.rowOf (m ((c.tc : Thread Cert.Kernel2Ideal.nD Cert.Kernel2Ideal.τ).loc Cert.Kernel2Ideal.main_arg4))), Cert.Proof.Two.k_run m g, ?_⟩
  refine (θ_run _ _ _).mono (fun r h c => ?_) (Cert.Proof.Two.r_run m' g')
  obtain ⟨h0, h1, h2, h3, h4⟩ := hargs c
  have e := h c
  rw [h0, h1, h2, h3, h4] at e
  rw [h0, h1, h2, h3, h4]
  exact e

/-- The hidden layer's quantiser: the kernel and the plain reference leave the same codes and scales. -/
theorem algebraic3 : Cert.algebraic_Kernel3Ideal_Reference3Ideal := by
  intro m g m' g' _ hargs
  refine ⟨fun c => Cert.Proof.Three.CA (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), fun c => Cert.Proof.Three.CB (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), fun c => Cert.Proof.Three.CS (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), Cert.Proof.Three.k_run m g, ?_⟩
  refine (θ_run _ _ _).mono (fun r h c => ?_) (Cert.Proof.Three.r_run m' g')
  obtain ⟨h0, h1⟩ := hargs c
  have e := h c
  rw [h0, h1] at e
  rw [h0, h1]
  exact e

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Proof.OfKernel.frame m ρ, fun m ρ _ => Cert.Proof.OfKernelIdeal.frame m ρ, fun m ρ _ => Cert.ReferenceIdeal.Gen.frame m ρ,
  fun m ρ _ => Cert.Kernel2.Gen.frame m ρ, fun m ρ _ => Cert.Kernel2Ideal.Gen.frame m ρ, fun m ρ _ => Cert.Reference2Ideal.Gen.frame m ρ,
  fun m ρ _ => Cert.Kernel3.Gen.frame m ρ, fun m ρ _ => Cert.Kernel3Ideal.Gen.frame m ρ, fun m ρ _ => Cert.Reference3Ideal.Gen.frame m ρ,
  trivial, algebraic, trivial, algebraic2, trivial, algebraic3⟩

end Cert.Proof

end
